-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_MlpInner (m : (ℓ : Loc Cert.MlpInner.nD Cert.MlpInner.τ Cert.MlpInner.sig) → Buf (Elt Bits) ℓ) : Prop :=
  True

def Pre_MlpInnerIdeal (m : (ℓ : Loc Cert.MlpInnerIdeal.nD Cert.MlpInnerIdeal.τ Cert.MlpInnerIdeal.sig) → Buf (Elt Ideal) ℓ) : Prop :=
  True

def Pre_MlpInnerReferenceIdeal (m : (ℓ : Loc Cert.MlpInnerReferenceIdeal.nD Cert.MlpInnerReferenceIdeal.τ Cert.MlpInnerReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6))
      ∧ r.2.sem = fun _ => 0)

def quiescent_MlpInner [hMlpInner : Cert.MlpInner.Facts] : Prop :=
  ∀ (m : (ℓ : Loc Cert.MlpInner.nD Cert.MlpInner.τ Cert.MlpInner.sig) → Buf (Elt Bits) ℓ) (g : Dev Cert.MlpInner.nD → PrngReg), Pre_MlpInner m →
    θ_run (Cert.MlpInner.defs (F := Bits)) (onTc (τ := Cert.MlpInner.τ) (Cert.MlpInner.main (F := Bits))) ⟨m, fun _ => 0, g⟩ (fun r => (∀ c : Dev Cert.MlpInner.nD,
      r.2.mem ((c.tc : Thread Cert.MlpInner.nD Cert.MlpInner.τ).loc Cert.MlpInner.main_arg0) = m ((c.tc : Thread Cert.MlpInner.nD Cert.MlpInner.τ).loc Cert.MlpInner.main_arg0)
      ∧ r.2.mem ((c.tc : Thread Cert.MlpInner.nD Cert.MlpInner.τ).loc Cert.MlpInner.main_arg1) = m ((c.tc : Thread Cert.MlpInner.nD Cert.MlpInner.τ).loc Cert.MlpInner.main_arg1)
      ∧ r.2.mem ((c.tc : Thread Cert.MlpInner.nD Cert.MlpInner.τ).loc Cert.MlpInner.main_arg2) = m ((c.tc : Thread Cert.MlpInner.nD Cert.MlpInner.τ).loc Cert.MlpInner.main_arg2)
      ∧ r.2.mem ((c.tc : Thread Cert.MlpInner.nD Cert.MlpInner.τ).loc Cert.MlpInner.main_arg3) = m ((c.tc : Thread Cert.MlpInner.nD Cert.MlpInner.τ).loc Cert.MlpInner.main_arg3)
      ∧ r.2.mem ((c.tc : Thread Cert.MlpInner.nD Cert.MlpInner.τ).loc Cert.MlpInner.main_arg4) = m ((c.tc : Thread Cert.MlpInner.nD Cert.MlpInner.τ).loc Cert.MlpInner.main_arg4)
      ∧ r.2.mem ((c.tc : Thread Cert.MlpInner.nD Cert.MlpInner.τ).loc Cert.MlpInner.main_arg5) = m ((c.tc : Thread Cert.MlpInner.nD Cert.MlpInner.τ).loc Cert.MlpInner.main_arg5)
      ∧ r.2.mem ((c.tc : Thread Cert.MlpInner.nD Cert.MlpInner.τ).loc Cert.MlpInner.main_arg6) = m ((c.tc : Thread Cert.MlpInner.nD Cert.MlpInner.τ).loc Cert.MlpInner.main_arg6))
      ∧ r.2.sem = fun _ => 0)

def quiescent_MlpInnerIdeal [hMlpInnerIdeal : Cert.MlpInnerIdeal.Facts] : Prop :=
  ∀ (m : (ℓ : Loc Cert.MlpInnerIdeal.nD Cert.MlpInnerIdeal.τ Cert.MlpInnerIdeal.sig) → Buf (Elt Ideal) ℓ) (g : Dev Cert.MlpInnerIdeal.nD → PrngReg), Pre_MlpInnerIdeal m →
    θ_run (Cert.MlpInnerIdeal.defs (F := Ideal)) (onTc (τ := Cert.MlpInnerIdeal.τ) (Cert.MlpInnerIdeal.main (F := Ideal))) ⟨m, fun _ => 0, g⟩ (fun r => (∀ c : Dev Cert.MlpInnerIdeal.nD,
      r.2.mem ((c.tc : Thread Cert.MlpInnerIdeal.nD Cert.MlpInnerIdeal.τ).loc Cert.MlpInnerIdeal.main_arg0) = m ((c.tc : Thread Cert.MlpInnerIdeal.nD Cert.MlpInnerIdeal.τ).loc Cert.MlpInnerIdeal.main_arg0)
      ∧ r.2.mem ((c.tc : Thread Cert.MlpInnerIdeal.nD Cert.MlpInnerIdeal.τ).loc Cert.MlpInnerIdeal.main_arg1) = m ((c.tc : Thread Cert.MlpInnerIdeal.nD Cert.MlpInnerIdeal.τ).loc Cert.MlpInnerIdeal.main_arg1)
      ∧ r.2.mem ((c.tc : Thread Cert.MlpInnerIdeal.nD Cert.MlpInnerIdeal.τ).loc Cert.MlpInnerIdeal.main_arg2) = m ((c.tc : Thread Cert.MlpInnerIdeal.nD Cert.MlpInnerIdeal.τ).loc Cert.MlpInnerIdeal.main_arg2)
      ∧ r.2.mem ((c.tc : Thread Cert.MlpInnerIdeal.nD Cert.MlpInnerIdeal.τ).loc Cert.MlpInnerIdeal.main_arg3) = m ((c.tc : Thread Cert.MlpInnerIdeal.nD Cert.MlpInnerIdeal.τ).loc Cert.MlpInnerIdeal.main_arg3)
      ∧ r.2.mem ((c.tc : Thread Cert.MlpInnerIdeal.nD Cert.MlpInnerIdeal.τ).loc Cert.MlpInnerIdeal.main_arg4) = m ((c.tc : Thread Cert.MlpInnerIdeal.nD Cert.MlpInnerIdeal.τ).loc Cert.MlpInnerIdeal.main_arg4)
      ∧ r.2.mem ((c.tc : Thread Cert.MlpInnerIdeal.nD Cert.MlpInnerIdeal.τ).loc Cert.MlpInnerIdeal.main_arg5) = m ((c.tc : Thread Cert.MlpInnerIdeal.nD Cert.MlpInnerIdeal.τ).loc Cert.MlpInnerIdeal.main_arg5)
      ∧ r.2.mem ((c.tc : Thread Cert.MlpInnerIdeal.nD Cert.MlpInnerIdeal.τ).loc Cert.MlpInnerIdeal.main_arg6) = m ((c.tc : Thread Cert.MlpInnerIdeal.nD Cert.MlpInnerIdeal.τ).loc Cert.MlpInnerIdeal.main_arg6))
      ∧ r.2.sem = fun _ => 0)

def quiescent_MlpInnerReferenceIdeal [hMlpInnerReferenceIdeal : Cert.MlpInnerReferenceIdeal.Facts] : Prop :=
  ∀ (m : (ℓ : Loc Cert.MlpInnerReferenceIdeal.nD Cert.MlpInnerReferenceIdeal.τ Cert.MlpInnerReferenceIdeal.sig) → Buf (Elt Ideal) ℓ) (g : Dev Cert.MlpInnerReferenceIdeal.nD → PrngReg), Pre_MlpInnerReferenceIdeal m →
    θ_run (Cert.MlpInnerReferenceIdeal.defs (F := Ideal)) (onTc (τ := Cert.MlpInnerReferenceIdeal.τ) (Cert.MlpInnerReferenceIdeal.main (F := Ideal))) ⟨m, fun _ => 0, g⟩ (fun r => (∀ c : Dev Cert.MlpInnerReferenceIdeal.nD,
      r.2.mem ((c.tc : Thread Cert.MlpInnerReferenceIdeal.nD Cert.MlpInnerReferenceIdeal.τ).loc Cert.MlpInnerReferenceIdeal.main_arg0) = m ((c.tc : Thread Cert.MlpInnerReferenceIdeal.nD Cert.MlpInnerReferenceIdeal.τ).loc Cert.MlpInnerReferenceIdeal.main_arg0)
      ∧ r.2.mem ((c.tc : Thread Cert.MlpInnerReferenceIdeal.nD Cert.MlpInnerReferenceIdeal.τ).loc Cert.MlpInnerReferenceIdeal.main_arg1) = m ((c.tc : Thread Cert.MlpInnerReferenceIdeal.nD Cert.MlpInnerReferenceIdeal.τ).loc Cert.MlpInnerReferenceIdeal.main_arg1)
      ∧ r.2.mem ((c.tc : Thread Cert.MlpInnerReferenceIdeal.nD Cert.MlpInnerReferenceIdeal.τ).loc Cert.MlpInnerReferenceIdeal.main_arg2) = m ((c.tc : Thread Cert.MlpInnerReferenceIdeal.nD Cert.MlpInnerReferenceIdeal.τ).loc Cert.MlpInnerReferenceIdeal.main_arg2)
      ∧ r.2.mem ((c.tc : Thread Cert.MlpInnerReferenceIdeal.nD Cert.MlpInnerReferenceIdeal.τ).loc Cert.MlpInnerReferenceIdeal.main_arg3) = m ((c.tc : Thread Cert.MlpInnerReferenceIdeal.nD Cert.MlpInnerReferenceIdeal.τ).loc Cert.MlpInnerReferenceIdeal.main_arg3)
      ∧ r.2.mem ((c.tc : Thread Cert.MlpInnerReferenceIdeal.nD Cert.MlpInnerReferenceIdeal.τ).loc Cert.MlpInnerReferenceIdeal.main_arg4) = m ((c.tc : Thread Cert.MlpInnerReferenceIdeal.nD Cert.MlpInnerReferenceIdeal.τ).loc Cert.MlpInnerReferenceIdeal.main_arg4)
      ∧ r.2.mem ((c.tc : Thread Cert.MlpInnerReferenceIdeal.nD Cert.MlpInnerReferenceIdeal.τ).loc Cert.MlpInnerReferenceIdeal.main_arg5) = m ((c.tc : Thread Cert.MlpInnerReferenceIdeal.nD Cert.MlpInnerReferenceIdeal.τ).loc Cert.MlpInnerReferenceIdeal.main_arg5)
      ∧ r.2.mem ((c.tc : Thread Cert.MlpInnerReferenceIdeal.nD Cert.MlpInnerReferenceIdeal.τ).loc Cert.MlpInnerReferenceIdeal.main_arg6) = m ((c.tc : Thread Cert.MlpInnerReferenceIdeal.nD Cert.MlpInnerReferenceIdeal.τ).loc Cert.MlpInnerReferenceIdeal.main_arg6))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v34) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6))

def preserves_MlpInner_MlpInnerIdeal : Prop :=
  True

def algebraic_MlpInnerIdeal_MlpInnerReferenceIdeal [hMlpInnerIdeal : Cert.MlpInnerIdeal.Facts] [hMlpInnerReferenceIdeal : Cert.MlpInnerReferenceIdeal.Facts] : Prop :=
  ∀ (m : (ℓ : Loc Cert.MlpInnerIdeal.nD Cert.MlpInnerIdeal.τ Cert.MlpInnerIdeal.sig) → Buf (Elt Ideal) ℓ) (g : Dev Cert.MlpInnerIdeal.nD → PrngReg)
    (m' : (ℓ : Loc Cert.MlpInnerReferenceIdeal.nD Cert.MlpInnerReferenceIdeal.τ Cert.MlpInnerReferenceIdeal.sig) → Buf (Elt Ideal) ℓ) (g' : Dev Cert.MlpInnerReferenceIdeal.nD → PrngReg), Pre_MlpInnerIdeal m →
    (∀ c : Dev Cert.MlpInnerIdeal.nD,
      m' ((c.tc : Thread Cert.MlpInnerReferenceIdeal.nD Cert.MlpInnerReferenceIdeal.τ).loc Cert.MlpInnerReferenceIdeal.main_arg0) = m ((c.tc : Thread Cert.MlpInnerIdeal.nD Cert.MlpInnerIdeal.τ).loc Cert.MlpInnerIdeal.main_arg0)
      ∧ m' ((c.tc : Thread Cert.MlpInnerReferenceIdeal.nD Cert.MlpInnerReferenceIdeal.τ).loc Cert.MlpInnerReferenceIdeal.main_arg1) = m ((c.tc : Thread Cert.MlpInnerIdeal.nD Cert.MlpInnerIdeal.τ).loc Cert.MlpInnerIdeal.main_arg1)
      ∧ m' ((c.tc : Thread Cert.MlpInnerReferenceIdeal.nD Cert.MlpInnerReferenceIdeal.τ).loc Cert.MlpInnerReferenceIdeal.main_arg2) = m ((c.tc : Thread Cert.MlpInnerIdeal.nD Cert.MlpInnerIdeal.τ).loc Cert.MlpInnerIdeal.main_arg2)
      ∧ m' ((c.tc : Thread Cert.MlpInnerReferenceIdeal.nD Cert.MlpInnerReferenceIdeal.τ).loc Cert.MlpInnerReferenceIdeal.main_arg3) = m ((c.tc : Thread Cert.MlpInnerIdeal.nD Cert.MlpInnerIdeal.τ).loc Cert.MlpInnerIdeal.main_arg3)
      ∧ m' ((c.tc : Thread Cert.MlpInnerReferenceIdeal.nD Cert.MlpInnerReferenceIdeal.τ).loc Cert.MlpInnerReferenceIdeal.main_arg4) = m ((c.tc : Thread Cert.MlpInnerIdeal.nD Cert.MlpInnerIdeal.τ).loc Cert.MlpInnerIdeal.main_arg4)
      ∧ m' ((c.tc : Thread Cert.MlpInnerReferenceIdeal.nD Cert.MlpInnerReferenceIdeal.τ).loc Cert.MlpInnerReferenceIdeal.main_arg5) = m ((c.tc : Thread Cert.MlpInnerIdeal.nD Cert.MlpInnerIdeal.τ).loc Cert.MlpInnerIdeal.main_arg5)
      ∧ m' ((c.tc : Thread Cert.MlpInnerReferenceIdeal.nD Cert.MlpInnerReferenceIdeal.τ).loc Cert.MlpInnerReferenceIdeal.main_arg6) = m ((c.tc : Thread Cert.MlpInnerIdeal.nD Cert.MlpInnerIdeal.τ).loc Cert.MlpInnerIdeal.main_arg6)) →
    ∃ (v0 : (c : Dev Cert.MlpInnerIdeal.nD) → Buf (Elt Ideal) ((c.tc : Thread Cert.MlpInnerIdeal.nD Cert.MlpInnerIdeal.τ).loc Cert.MlpInnerIdeal.main_v5)),
      θ_run (Cert.MlpInnerIdeal.defs (F := Ideal)) (onTc (τ := Cert.MlpInnerIdeal.τ) (Cert.MlpInnerIdeal.main (F := Ideal))) ⟨m, fun _ => 0, g⟩ (fun r => ∀ c : Dev Cert.MlpInnerIdeal.nD,
          r.2.mem ((c.tc : Thread Cert.MlpInnerIdeal.nD Cert.MlpInnerIdeal.τ).loc Cert.MlpInnerIdeal.main_v5) = v0 c
          ∧ r.2.mem ((c.tc : Thread Cert.MlpInnerIdeal.nD Cert.MlpInnerIdeal.τ).loc Cert.MlpInnerIdeal.main_arg0) = m ((c.tc : Thread Cert.MlpInnerIdeal.nD Cert.MlpInnerIdeal.τ).loc Cert.MlpInnerIdeal.main_arg0)
          ∧ r.2.mem ((c.tc : Thread Cert.MlpInnerIdeal.nD Cert.MlpInnerIdeal.τ).loc Cert.MlpInnerIdeal.main_arg1) = m ((c.tc : Thread Cert.MlpInnerIdeal.nD Cert.MlpInnerIdeal.τ).loc Cert.MlpInnerIdeal.main_arg1)
          ∧ r.2.mem ((c.tc : Thread Cert.MlpInnerIdeal.nD Cert.MlpInnerIdeal.τ).loc Cert.MlpInnerIdeal.main_arg2) = m ((c.tc : Thread Cert.MlpInnerIdeal.nD Cert.MlpInnerIdeal.τ).loc Cert.MlpInnerIdeal.main_arg2)
          ∧ r.2.mem ((c.tc : Thread Cert.MlpInnerIdeal.nD Cert.MlpInnerIdeal.τ).loc Cert.MlpInnerIdeal.main_arg3) = m ((c.tc : Thread Cert.MlpInnerIdeal.nD Cert.MlpInnerIdeal.τ).loc Cert.MlpInnerIdeal.main_arg3)
          ∧ r.2.mem ((c.tc : Thread Cert.MlpInnerIdeal.nD Cert.MlpInnerIdeal.τ).loc Cert.MlpInnerIdeal.main_arg4) = m ((c.tc : Thread Cert.MlpInnerIdeal.nD Cert.MlpInnerIdeal.τ).loc Cert.MlpInnerIdeal.main_arg4)
          ∧ r.2.mem ((c.tc : Thread Cert.MlpInnerIdeal.nD Cert.MlpInnerIdeal.τ).loc Cert.MlpInnerIdeal.main_arg5) = m ((c.tc : Thread Cert.MlpInnerIdeal.nD Cert.MlpInnerIdeal.τ).loc Cert.MlpInnerIdeal.main_arg5)
          ∧ r.2.mem ((c.tc : Thread Cert.MlpInnerIdeal.nD Cert.MlpInnerIdeal.τ).loc Cert.MlpInnerIdeal.main_arg6) = m ((c.tc : Thread Cert.MlpInnerIdeal.nD Cert.MlpInnerIdeal.τ).loc Cert.MlpInnerIdeal.main_arg6))
      ∧ θ_run (Cert.MlpInnerReferenceIdeal.defs (F := Ideal)) (onTc (τ := Cert.MlpInnerReferenceIdeal.τ) (Cert.MlpInnerReferenceIdeal.main (F := Ideal))) ⟨m', fun _ => 0, g'⟩ (fun r => ∀ c : Dev Cert.MlpInnerReferenceIdeal.nD,
          r.2.mem ((c.tc : Thread Cert.MlpInnerReferenceIdeal.nD Cert.MlpInnerReferenceIdeal.τ).loc Cert.MlpInnerReferenceIdeal.main_v21) = v0 c
          ∧ r.2.mem ((c.tc : Thread Cert.MlpInnerReferenceIdeal.nD Cert.MlpInnerReferenceIdeal.τ).loc Cert.MlpInnerReferenceIdeal.main_arg0) = m' ((c.tc : Thread Cert.MlpInnerReferenceIdeal.nD Cert.MlpInnerReferenceIdeal.τ).loc Cert.MlpInnerReferenceIdeal.main_arg0)
          ∧ r.2.mem ((c.tc : Thread Cert.MlpInnerReferenceIdeal.nD Cert.MlpInnerReferenceIdeal.τ).loc Cert.MlpInnerReferenceIdeal.main_arg1) = m' ((c.tc : Thread Cert.MlpInnerReferenceIdeal.nD Cert.MlpInnerReferenceIdeal.τ).loc Cert.MlpInnerReferenceIdeal.main_arg1)
          ∧ r.2.mem ((c.tc : Thread Cert.MlpInnerReferenceIdeal.nD Cert.MlpInnerReferenceIdeal.τ).loc Cert.MlpInnerReferenceIdeal.main_arg2) = m' ((c.tc : Thread Cert.MlpInnerReferenceIdeal.nD Cert.MlpInnerReferenceIdeal.τ).loc Cert.MlpInnerReferenceIdeal.main_arg2)
          ∧ r.2.mem ((c.tc : Thread Cert.MlpInnerReferenceIdeal.nD Cert.MlpInnerReferenceIdeal.τ).loc Cert.MlpInnerReferenceIdeal.main_arg3) = m' ((c.tc : Thread Cert.MlpInnerReferenceIdeal.nD Cert.MlpInnerReferenceIdeal.τ).loc Cert.MlpInnerReferenceIdeal.main_arg3)
          ∧ r.2.mem ((c.tc : Thread Cert.MlpInnerReferenceIdeal.nD Cert.MlpInnerReferenceIdeal.τ).loc Cert.MlpInnerReferenceIdeal.main_arg4) = m' ((c.tc : Thread Cert.MlpInnerReferenceIdeal.nD Cert.MlpInnerReferenceIdeal.τ).loc Cert.MlpInnerReferenceIdeal.main_arg4)
          ∧ r.2.mem ((c.tc : Thread Cert.MlpInnerReferenceIdeal.nD Cert.MlpInnerReferenceIdeal.τ).loc Cert.MlpInnerReferenceIdeal.main_arg5) = m' ((c.tc : Thread Cert.MlpInnerReferenceIdeal.nD Cert.MlpInnerReferenceIdeal.τ).loc Cert.MlpInnerReferenceIdeal.main_arg5)
          ∧ r.2.mem ((c.tc : Thread Cert.MlpInnerReferenceIdeal.nD Cert.MlpInnerReferenceIdeal.τ).loc Cert.MlpInnerReferenceIdeal.main_arg6) = m' ((c.tc : Thread Cert.MlpInnerReferenceIdeal.nD Cert.MlpInnerReferenceIdeal.τ).loc Cert.MlpInnerReferenceIdeal.main_arg6))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v2)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v2) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v21) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v33_0)) (v1 : (c : Dev Cert.ProjectIdeal.nD) → Buf (Elt Ideal) ((c.tc : Thread Cert.ProjectIdeal.nD Cert.ProjectIdeal.τ).loc Cert.ProjectIdeal.main_v33_1)) (v2 : (c : Dev Cert.ProjectIdeal.nD) → Buf (Elt Ideal) ((c.tc : Thread Cert.ProjectIdeal.nD Cert.ProjectIdeal.τ).loc Cert.ProjectIdeal.main_v33_2)) (v3 : (c : Dev Cert.ProjectIdeal.nD) → Buf (Elt Ideal) ((c.tc : Thread Cert.ProjectIdeal.nD Cert.ProjectIdeal.τ).loc Cert.ProjectIdeal.main_v33_3)) (v4 : (c : Dev Cert.ProjectIdeal.nD) → Buf (Elt Ideal) ((c.tc : Thread Cert.ProjectIdeal.nD Cert.ProjectIdeal.τ).loc Cert.ProjectIdeal.main_v33_4)) (v5 : (c : Dev Cert.ProjectIdeal.nD) → Buf (Elt Ideal) ((c.tc : Thread Cert.ProjectIdeal.nD Cert.ProjectIdeal.τ).loc Cert.ProjectIdeal.main_v33_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v33_0) = v0 c
          ∧ r.2.mem ((c.tc : Thread Cert.ProjectIdeal.nD Cert.ProjectIdeal.τ).loc Cert.ProjectIdeal.main_v33_1) = v1 c
          ∧ r.2.mem ((c.tc : Thread Cert.ProjectIdeal.nD Cert.ProjectIdeal.τ).loc Cert.ProjectIdeal.main_v33_2) = v2 c
          ∧ r.2.mem ((c.tc : Thread Cert.ProjectIdeal.nD Cert.ProjectIdeal.τ).loc Cert.ProjectIdeal.main_v33_3) = v3 c
          ∧ r.2.mem ((c.tc : Thread Cert.ProjectIdeal.nD Cert.ProjectIdeal.τ).loc Cert.ProjectIdeal.main_v33_4) = v4 c
          ∧ r.2.mem ((c.tc : Thread Cert.ProjectIdeal.nD Cert.ProjectIdeal.τ).loc Cert.ProjectIdeal.main_v33_5) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v173) = v0 c
          ∧ r.2.mem ((c.tc : Thread Cert.ProjectReferenceIdeal.nD Cert.ProjectReferenceIdeal.τ).loc Cert.ProjectReferenceIdeal.main_v176) = v1 c
          ∧ r.2.mem ((c.tc : Thread Cert.ProjectReferenceIdeal.nD Cert.ProjectReferenceIdeal.τ).loc Cert.ProjectReferenceIdeal.main_v177) = v2 c
          ∧ r.2.mem ((c.tc : Thread Cert.ProjectReferenceIdeal.nD Cert.ProjectReferenceIdeal.τ).loc Cert.ProjectReferenceIdeal.main_v180) = v3 c
          ∧ r.2.mem ((c.tc : Thread Cert.ProjectReferenceIdeal.nD Cert.ProjectReferenceIdeal.τ).loc Cert.ProjectReferenceIdeal.main_v182) = v4 c
          ∧ r.2.mem ((c.tc : Thread Cert.ProjectReferenceIdeal.nD Cert.ProjectReferenceIdeal.τ).loc Cert.ProjectReferenceIdeal.main_v183) = v5 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMlpInner : Cert.MlpInner.Facts) (hMlpInnerIdeal : Cert.MlpInnerIdeal.Facts) (hMlpInnerReferenceIdeal : Cert.MlpInnerReferenceIdeal.Facts) (hQuery : Cert.Query.Facts) (hQueryIdeal : Cert.QueryIdeal.Facts) (hQueryReferenceIdeal : Cert.QueryReferenceIdeal.Facts) (hProject : Cert.Project.Facts) (hProjectIdeal : Cert.ProjectIdeal.Facts) (hProjectReferenceIdeal : Cert.ProjectReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_MlpInner (hMlpInner := hMlpInner)
    ∧ quiescent_MlpInnerIdeal (hMlpInnerIdeal := hMlpInnerIdeal)
    ∧ quiescent_MlpInnerReferenceIdeal (hMlpInnerReferenceIdeal := hMlpInnerReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_MlpInner_MlpInnerIdeal
    ∧ algebraic_MlpInnerIdeal_MlpInnerReferenceIdeal (hMlpInnerIdeal := hMlpInnerIdeal) (hMlpInnerReferenceIdeal := hMlpInnerReferenceIdeal)
    ∧ preserves_Query_QueryIdeal
    ∧ algebraic_QueryIdeal_QueryReferenceIdeal (hQueryIdeal := hQueryIdeal) (hQueryReferenceIdeal := hQueryReferenceIdeal)
    ∧ preserves_Project_ProjectIdeal
    ∧ algebraic_ProjectIdeal_ProjectReferenceIdeal (hProjectIdeal := hProjectIdeal) (hProjectReferenceIdeal := hProjectReferenceIdeal)
-- ==== Pre_finite.lean ====
abbrev S8x4096x16x64 : Shape := ⟨4, ![8, 4096, 16, 64]⟩
abbrev S8x16x4096 : Shape := ⟨3, ![8, 16, 4096]⟩
abbrev S_ : Shape := ⟨0, ![]⟩

class Facts : Prop where
  bcast_S_S8x4096x16x64 : S_.BroadcastsInDim S8x4096x16x64 (![] : Fin 0 → Fin S8x4096x16x64.rank)
  reducesTo_S8x4096x16x64_S_d0_1_2_3 : S8x4096x16x64.ReducesTo [0, 1, 2, 3] S_
  h_S_ : 0 < S_.numel
  bcast_S_S8x16x4096 : S_.BroadcastsInDim S8x16x4096 (![] : Fin 0 → Fin S8x16x4096.rank)
  reducesTo_S8x16x4096_S_d0_1_2 : S8x16x4096.ReducesTo [0, 1, 2] S_

variable [Facts]

def fn {F : FTy → Type} [FloatOps F] (main_arg0 : FVec F S8x4096x16x64 .f32) (main_arg1 : FVec F S8x4096x16x64 .f32) (main_arg2 : FVec F S8x4096x16x64 .f32) (main_arg3 : FVec F S8x16x4096 .f32) : IVec S_ 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_c : IVec S_ 1 := constantI S_ 1 1#1
  let main_v3 : IVec S_ 1 := (fun x v => Host.reduce IntOp.andi x v reducesTo_S8x4096x16x64_S_d0_1_2_3 h_S_) main_v2 main_c
  let main_v4 : FVec F S8x4096x16x64 .f32 := Host.absf main_arg1
  let main_cst_0 : FVec F S_ .f32 := constant S_ .f32 0x7F800000#32
  let main_v5 : FVec F S8x4096x16x64 .f32 := broadcastInDim S8x4096x16x64 ![] bcast_S_S8x4096x16x64 main_cst_0
  let main_v6 : IVec S8x4096x16x64 1 := cmpf .olt main_v4 main_v5
  let main_c_1 : IVec S_ 1 := constantI S_ 1 1#1
  let main_v7 : IVec S_ 1 := (fun x v => Host.reduce IntOp.andi x v reducesTo_S8x4096x16x64_S_d0_1_2_3 h_S_) main_v6 main_c_1
  let main_v8 : IVec S_ 1 := andi main_v3 main_v7
  let main_v9 : FVec F S8x16x4096 .f32 := Host.absf main_arg3
  let main_cst_2 : FVec F S_ .f32 := constant S_ .f32 0x7F800000#32
  let main_v10 : FVec F S8x16x4096 .f32 := broadcastInDim S8x16x4096 ![] bcast_S_S8x16x4096 main_cst_2
  let main_v11 : IVec S8x16x4096 1 := cmpf .olt main_v9 main_v10
  let main_c_3 : IVec S_ 1 := constantI S_ 1 1#1
  let main_v12 : IVec S_ 1 := (fun x v => Host.reduce IntOp.andi x v reducesTo_S8x16x4096_S_d0_1_2 h_S_) main_v11 main_c_3
  let main_v13 : IVec S_ 1 := andi main_v8 main_v12
  main_v13
-- ==== Kernel.lean ====
abbrev S8x4096x16x64 : Shape := ⟨4, ![8, 4096, 16, 64]⟩
abbrev S8x16x4096 : Shape := ⟨3, ![8, 16, 4096]⟩
abbrev S_ : Shape := ⟨0, ![]⟩
abbrev S8x16x1x4096 : Shape := ⟨4, ![8, 16, 1, 4096]⟩
abbrev S8x16x3x4096 : Shape := ⟨4, ![8, 16, 3, 4096]⟩
abbrev S8x16x10x4096 : Shape := ⟨4, ![8, 16, 10, 4096]⟩
abbrev S8x16x64x4096 : Shape := ⟨4, ![8, 16, 64, 4096]⟩
abbrev S8x16x80x4096 : Shape := ⟨4, ![8, 16, 80, 4096]⟩
abbrev S8x1280x4096 : Shape := ⟨3, ![8, 1280, 4096]⟩
abbrev S8x1280x16x256 : Shape := ⟨4, ![8, 1280, 16, 256]⟩
abbrev S8x16x15x4096 : Shape := ⟨4, ![8, 16, 15, 4096]⟩
abbrev S1280x8x4096 : Shape := ⟨3, ![1280, 8, 4096]⟩
abbrev S1280x32768 : Shape := ⟨2, ![1280, 32768]⟩
abbrev S8x16x1280x256 : Shape := ⟨4, ![8, 16, 1280, 256]⟩
abbrev S128x1280x256 : Shape := ⟨3, ![128, 1280, 256]⟩
abbrev S1024x32768 : Shape := ⟨2, ![1024, 32768]⟩
abbrev S640x512 : Shape := ⟨2, ![640, 512]⟩
abbrev S16x640x256 : Shape := ⟨3, ![16, 640, 256]⟩
abbrev S512x512 : Shape := ⟨2, ![512, 512]⟩
abbrev S16x80x256 : Shape := ⟨3, ![16, 80, 256]⟩
abbrev S16x256x256 : Shape := ⟨3, ![16, 256, 256]⟩
abbrev S16x8x256 : Shape := ⟨3, ![16, 8, 256]⟩
abbrev S16x1x256 : Shape := ⟨3, ![16, 1, 256]⟩
abbrev S256x256 : Shape := ⟨2, ![256, 256]⟩
abbrev S1x256 : Shape := ⟨2, ![1, 256]⟩
abbrev S80x256 : Shape := ⟨2, ![80, 256]⟩
abbrev S1x80x256 : Shape := ⟨3, ![1, 80, 256]⟩
abbrev S1x256x256 : Shape := ⟨3, ![1, 256, 256]⟩
abbrev S32x8x256 : Shape := ⟨3, ![32, 8, 256]⟩
abbrev S8x256 : Shape := ⟨2, ![8, 256]⟩
abbrev S1x8x256 : Shape := ⟨3, ![1, 8, 256]⟩
abbrev S1x1x256 : Shape := ⟨3, ![1, 1, 256]⟩
abbrev S256 : Shape := ⟨1, ![256]⟩
abbrev S64x256 : Shape := ⟨2, ![64, 256]⟩

abbrev nBuf : Space → Nat
  | .hbm => 52
  | .vmem => 15
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x16x64, .f32⟩
  | .hbm, ⟨2, _⟩ => ⟨S8x4096x16x64, .f32⟩
  | .hbm, ⟨3, _⟩ => ⟨S8x16x4096, .f32⟩
  | .hbm, ⟨4, _⟩ => ⟨S_, .f32⟩
  | .hbm, ⟨5, _⟩ => ⟨S_, .f32⟩
  | .hbm, ⟨6, _⟩ => ⟨S8x16x4096, .f32⟩
  | .hbm, ⟨7, _⟩ => ⟨S8x16x4096, .f32⟩
  | .hbm, ⟨8, _⟩ => ⟨S8x16x4096, .bf16⟩
  | .hbm, ⟨9, _⟩ => ⟨S8x16x4096, .f32⟩
  | .hbm, ⟨10, _⟩ => ⟨S8x16x4096, .f32⟩
  | .hbm, ⟨11, _⟩ => ⟨S8x16x4096, .bf16⟩
  | .hbm, ⟨12, _⟩ => ⟨S8x16x4096, .f32⟩
  | .hbm, ⟨13, _⟩ => ⟨S8x16x4096, .f32⟩
  | .hbm, ⟨14, _⟩ => ⟨S8x16x4096, .bf16⟩
  | .hbm, ⟨15, _⟩ => ⟨S8x16x1x4096, .bf16⟩
  | .hbm, ⟨16, _⟩ => ⟨S8x16x1x4096, .bf16⟩
  | .hbm, ⟨17, _⟩ => ⟨S8x16x1x4096, .bf16⟩
  | .hbm, ⟨18, _⟩ => ⟨S8x16x3x4096, .bf16⟩
  | .hbm, ⟨19, _⟩ => ⟨S_, .bf16⟩
  | .hbm, ⟨20, _⟩ => ⟨S8x16x3x4096, .bf16⟩
  | .hbm, ⟨21, _⟩ => ⟨S_, .bf16⟩
  | .hbm, ⟨22, _⟩ => ⟨S8x16x10x4096, .bf16⟩
  | .hbm, ⟨23, _⟩ => ⟨S_, .f32⟩
  | .hbm, ⟨24, _⟩ => ⟨S8x4096x16x64, .f32⟩
  | .hbm, ⟨25, _⟩ => ⟨S8x4096x16x64, .f32⟩
  | .hbm, ⟨26, _⟩ => ⟨S8x4096x16x64, .f32⟩
  | .hbm, ⟨27, _⟩ => ⟨S8x4096x16x64, .f32⟩
  | .hbm, ⟨28, _⟩ => ⟨S8x4096x16x64, .bf16⟩
  | .hbm, ⟨29, _⟩ => ⟨S8x16x64x4096, .bf16⟩
  | .hbm, ⟨30, _⟩ => ⟨S8x4096x16x64, .bf16⟩
  | .hbm, ⟨31, _⟩ => ⟨S8x16x64x4096, .bf16⟩
  | .hbm, ⟨32, _⟩ => ⟨S8x4096x16x64, .bf16⟩
  | .hbm, ⟨33, _⟩ => ⟨S8x16x64x4096, .bf16⟩
  | .hbm, ⟨34, _⟩ => ⟨S8x16x80x4096, .bf16⟩
  | .hbm, ⟨35, _⟩ => ⟨S8x1280x4096, .bf16⟩
  | .hbm, ⟨36, _⟩ => ⟨S8x16x3x4096, .bf16⟩
  | .hbm, ⟨37, _⟩ => ⟨S8x16x80x4096, .bf16⟩
  | .hbm, ⟨38, _⟩ => ⟨S8x1280x16x256, .bf16⟩
  | .hbm, ⟨39, _⟩ => ⟨S_, .bf16⟩
  | .hbm, ⟨40, _⟩ => ⟨S8x16x1x4096, .bf16⟩
  | .hbm, ⟨41, _⟩ => ⟨S_, .bf16⟩
  | .hbm, ⟨42, _⟩ => ⟨S8x16x15x4096, .bf16⟩
  | .hbm, ⟨43, _⟩ => ⟨S8x16x80x4096, .bf16⟩
  | .hbm, ⟨44, _⟩ => ⟨S8x1280x16x256, .bf16⟩
  | .hbm, ⟨45, _⟩ => ⟨S1280x8x4096, .bf16⟩
  | .hbm, ⟨46, _⟩ => ⟨S1280x32768, .bf16⟩
  | .hbm, ⟨47, _⟩ => ⟨S8x16x1280x256, .bf16⟩
  | .hbm, ⟨48, _⟩ => ⟨S128x1280x256, .bf16⟩
  | .hbm, ⟨49, _⟩ => ⟨S8x16x1280x256, .bf16⟩
  | .hbm, ⟨50, _⟩ => ⟨S128x1280x256, .bf16⟩
  | .hbm, ⟨51, _⟩ => ⟨S1024x32768, .bf16⟩
  | .local _ .vmem, ⟨0, _⟩ => ⟨S640x512, .bf16⟩
  | .local _ .vmem, ⟨1, _⟩ => ⟨S640x512, .bf16⟩
  | .local _ .vmem, ⟨2, _⟩ => ⟨S16x640x256, .bf16⟩
  | .local _ .vmem, ⟨3, _⟩ => ⟨S16x640x256, .bf16⟩
  | .local _ .vmem, ⟨4, _⟩ => ⟨S16x640x256, .bf16⟩
  | .local _ .vmem, ⟨5, _⟩ => ⟨S16x640x256, .bf16⟩
  | .local _ .vmem, ⟨6, _⟩ => ⟨S512x512, .bf16⟩
  | .local _ .vmem, ⟨7, _⟩ => ⟨S512x512, .bf16⟩
  | .local _ .vmem, ⟨8, _⟩ => ⟨S16x80x256, .bf16⟩
  | .local _ .vmem, ⟨9, _⟩ => ⟨S16x256x256, .f32⟩
  | .local _ .vmem, ⟨10, _⟩ => ⟨S16x256x256, .f32⟩
  | .local _ .vmem, ⟨11, _⟩ => ⟨S16x8x256, .f32⟩
  | .local _ .vmem, ⟨12, _⟩ => ⟨S16x8x256, .f32⟩
  | .local _ .vmem, ⟨13, _⟩ => ⟨S16x1x256, .f32⟩
  | .local _ .vmem, ⟨14, _⟩ => ⟨S16x80x256, .f32⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

@[reducible] def k0_t1_loop (i : grid0.Coords) : Scf.Loop 32 :=
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_298 : BitVec 32 := 1#32
  ⟨c0_i32_297, v338, c1_i32_298⟩
def k0_off1 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1025 : BitVec 32 := 1#32
  let v1342 : BitVec 32 := Scalar.addi v1341 c1_i32_1025
  let v1343 : Index := Scalar.indexCast v1342
  let c0_1026 : Index := 0#32
  let c0_1027 : Index := 0#32
  ![v1343.toNat, 0, 0]
def k0_off2 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1372 : Index := Scalar.indexCast v1341
  let c0_1053 : Index := 0#32
  let c0_1054 : Index := 0#32
  ![v1372.toNat, 0, 0]
def k0_off3 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1097 : BitVec 32 := 1#32
  let v1432 : BitVec 32 := Scalar.addi v1341 c1_i32_1097
  let v1433 : Index := Scalar.indexCast v1432
  let c80_1098 : Index := 80#32
  let c0_1099 : Index := 0#32
  ![v1433.toNat, 80, 0]
def k0_off4 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1462 : Index := Scalar.indexCast v1341
  let c80_1125 : Index := 80#32
  let c0_1126 : Index := 0#32
  ![v1462.toNat, 80, 0]
def k0_off5 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1169 : BitVec 32 := 1#32
  let v1522 : BitVec 32 := Scalar.addi v1341 c1_i32_1169
  let v1523 : Index := Scalar.indexCast v1522
  let c160_1170 : Index := 160#32
  let c0_1171 : Index := 0#32
  ![v1523.toNat, 160, 0]
def k0_off6 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1552 : Index := Scalar.indexCast v1341
  let c160_1197 : Index := 160#32
  let c0_1198 : Index := 0#32
  ![v1552.toNat, 160, 0]
def k0_off7 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1241 : BitVec 32 := 1#32
  let v1612 : BitVec 32 := Scalar.addi v1341 c1_i32_1241
  let v1613 : Index := Scalar.indexCast v1612
  let c240_1242 : Index := 240#32
  let c0_1243 : Index := 0#32
  ![v1613.toNat, 240, 0]
def k0_off8 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1642 : Index := Scalar.indexCast v1341
  let c240_1269 : Index := 240#32
  let c0_1270 : Index := 0#32
  ![v1642.toNat, 240, 0]
def k0_off9 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1313 : BitVec 32 := 1#32
  let v1702 : BitVec 32 := Scalar.addi v1341 c1_i32_1313
  let v1703 : Index := Scalar.indexCast v1702
  let c320_1314 : Index := 320#32
  let c0_1315 : Index := 0#32
  ![v1703.toNat, 320, 0]
def k0_off10 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1732 : Index := Scalar.indexCast v1341
  let c320_1341 : Index := 320#32
  let c0_1342 : Index := 0#32
  ![v1732.toNat, 320, 0]
def k0_off11 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1385 : BitVec 32 := 1#32
  let v1792 : BitVec 32 := Scalar.addi v1341 c1_i32_1385
  let v1793 : Index := Scalar.indexCast v1792
  let c400_1386 : Index := 400#32
  let c0_1387 : Index := 0#32
  ![v1793.toNat, 400, 0]
def k0_off12 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1822 : Index := Scalar.indexCast v1341
  let c400_1413 : Index := 400#32
  let c0_1414 : Index := 0#32
  ![v1822.toNat, 400, 0]
def k0_off13 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1457 : BitVec 32 := 1#32
  let v1882 : BitVec 32 := Scalar.addi v1341 c1_i32_1457
  let v1883 : Index := Scalar.indexCast v1882
  let c480_1458 : Index := 480#32
  let c0_1459 : Index := 0#32
  ![v1883.toNat, 480, 0]
def k0_off14 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v1912 : Index := Scalar.indexCast v1341
  let c480_1485 : Index := 480#32
  let c0_1486 : Index := 0#32
  ![v1912.toNat, 480, 0]
def k0_off15 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1529 : BitVec 32 := 1#32
  let v1972 : BitVec 32 := Scalar.addi v1341 c1_i32_1529
  let v1973 : Index := Scalar.indexCast v1972
  let c560_1530 : Index := 560#32
  let c0_1531 : Index := 0#32
  ![v1973.toNat, 560, 0]
def k0_off16 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let v2002 : Index := Scalar.indexCast v1341
  let c560_1557 : Index := 560#32
  let c0_1558 : Index := 0#32
  ![v2002.toNat, 560, 0]
def k0_off17 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_1605 : BitVec 32 := 1#32
  let v2068 : BitVec 32 := Scalar.addi v2067 c1_i32_1605
  let v2069 : Index := Scalar.indexCast v2068
  let c0_1606 : Index := 0#32
  let c0_1607 : Index := 0#32
  ![v2069.toNat, 0, 0]
def k0_off18 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_1678 : BitVec 32 := 1#32
  let v2162 : BitVec 32 := Scalar.addi v2067 c1_i32_1678
  let v2163 : Index := Scalar.indexCast v2162
  let c80_1679 : Index := 80#32
  let c0_1680 : Index := 0#32
  ![v2163.toNat, 80, 0]
def k0_off19 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_1751 : BitVec 32 := 1#32
  let v2256 : BitVec 32 := Scalar.addi v2067 c1_i32_1751
  let v2257 : Index := Scalar.indexCast v2256
  let c160_1752 : Index := 160#32
  let c0_1753 : Index := 0#32
  ![v2257.toNat, 160, 0]
def k0_off20 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_1824 : BitVec 32 := 1#32
  let v2350 : BitVec 32 := Scalar.addi v2067 c1_i32_1824
  let v2351 : Index := Scalar.indexCast v2350
  let c240_1825 : Index := 240#32
  let c0_1826 : Index := 0#32
  ![v2351.toNat, 240, 0]
def k0_off21 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_1897 : BitVec 32 := 1#32
  let v2444 : BitVec 32 := Scalar.addi v2067 c1_i32_1897
  let v2445 : Index := Scalar.indexCast v2444
  let c320_1898 : Index := 320#32
  let c0_1899 : Index := 0#32
  ![v2445.toNat, 320, 0]
def k0_off22 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_1970 : BitVec 32 := 1#32
  let v2538 : BitVec 32 := Scalar.addi v2067 c1_i32_1970
  let v2539 : Index := Scalar.indexCast v2538
  let c400_1971 : Index := 400#32
  let c0_1972 : Index := 0#32
  ![v2539.toNat, 400, 0]
def k0_off23 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_2043 : BitVec 32 := 1#32
  let v2632 : BitVec 32 := Scalar.addi v2067 c1_i32_2043
  let v2633 : Index := Scalar.indexCast v2632
  let c480_2044 : Index := 480#32
  let c0_2045 : Index := 0#32
  ![v2633.toNat, 480, 0]
def k0_off24 (i : grid0.Coords) (k0_t1 : Fin (k0_t1_loop i).trips) : Fin 3 → Nat :=
  let c2_i32_1024 : BitVec 32 := 2#32
  let c0_i32_297 : BitVec 32 := 0#32
  let c1_i32_298 : BitVec 32 := 1#32
  let arg14 : BitVec 32 := Scf.iv c0_i32_297 c1_i32_298 k0_t1
  let v1341 : BitVec 32 := Scalar.muli c2_i32_1024 arg14
  let c1_i32_1604 : BitVec 32 := 1#32
  let v2067 : BitVec 32 := Scalar.addi v1341 c1_i32_1604
  let c1_i32_2116 : BitVec 32 := 1#32
  let v2726 : BitVec 32 := Scalar.addi v2067 c1_i32_2116
  let v2727 : Index := Scalar.indexCast v2726
  let c560_2117 : Index := 560#32
  let c0_2118 : Index := 0#32
  ![v2727.toNat, 560, 0]
@[reducible] def k0_t2_loop (i : grid0.Coords) : Scf.Loop 32 :=
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let v335 : BitVec 32 := Scalar.addi c0_i32_297 v334
  let c1_i32_299 : BitVec 32 := 1#32
  ⟨v338, v335, c1_i32_299⟩
def k0_off25 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1025 : BitVec 32 := 1#32
  let v1342 : BitVec 32 := Scalar.addi v1341 c1_i32_1025
  let v1343 : Index := Scalar.indexCast v1342
  let c0_1026 : Index := 0#32
  let c0_1027 : Index := 0#32
  ![v1343.toNat, 0, 0]
def k0_off26 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1372 : Index := Scalar.indexCast v1341
  let c0_1053 : Index := 0#32
  let c0_1054 : Index := 0#32
  ![v1372.toNat, 0, 0]
def k0_off27 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1097 : BitVec 32 := 1#32
  let v1432 : BitVec 32 := Scalar.addi v1341 c1_i32_1097
  let v1433 : Index := Scalar.indexCast v1432
  let c80_1098 : Index := 80#32
  let c0_1099 : Index := 0#32
  ![v1433.toNat, 80, 0]
def k0_off28 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1462 : Index := Scalar.indexCast v1341
  let c80_1125 : Index := 80#32
  let c0_1126 : Index := 0#32
  ![v1462.toNat, 80, 0]
def k0_off29 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1169 : BitVec 32 := 1#32
  let v1522 : BitVec 32 := Scalar.addi v1341 c1_i32_1169
  let v1523 : Index := Scalar.indexCast v1522
  let c160_1170 : Index := 160#32
  let c0_1171 : Index := 0#32
  ![v1523.toNat, 160, 0]
def k0_off30 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1552 : Index := Scalar.indexCast v1341
  let c160_1197 : Index := 160#32
  let c0_1198 : Index := 0#32
  ![v1552.toNat, 160, 0]
def k0_off31 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1241 : BitVec 32 := 1#32
  let v1612 : BitVec 32 := Scalar.addi v1341 c1_i32_1241
  let v1613 : Index := Scalar.indexCast v1612
  let c240_1242 : Index := 240#32
  let c0_1243 : Index := 0#32
  ![v1613.toNat, 240, 0]
def k0_off32 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1642 : Index := Scalar.indexCast v1341
  let c240_1269 : Index := 240#32
  let c0_1270 : Index := 0#32
  ![v1642.toNat, 240, 0]
def k0_off33 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1313 : BitVec 32 := 1#32
  let v1702 : BitVec 32 := Scalar.addi v1341 c1_i32_1313
  let v1703 : Index := Scalar.indexCast v1702
  let c320_1314 : Index := 320#32
  let c0_1315 : Index := 0#32
  ![v1703.toNat, 320, 0]
def k0_off34 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1732 : Index := Scalar.indexCast v1341
  let c320_1341 : Index := 320#32
  let c0_1342 : Index := 0#32
  ![v1732.toNat, 320, 0]
def k0_off35 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1385 : BitVec 32 := 1#32
  let v1792 : BitVec 32 := Scalar.addi v1341 c1_i32_1385
  let v1793 : Index := Scalar.indexCast v1792
  let c400_1386 : Index := 400#32
  let c0_1387 : Index := 0#32
  ![v1793.toNat, 400, 0]
def k0_off36 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1822 : Index := Scalar.indexCast v1341
  let c400_1413 : Index := 400#32
  let c0_1414 : Index := 0#32
  ![v1822.toNat, 400, 0]
def k0_off37 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1457 : BitVec 32 := 1#32
  let v1882 : BitVec 32 := Scalar.addi v1341 c1_i32_1457
  let v1883 : Index := Scalar.indexCast v1882
  let c480_1458 : Index := 480#32
  let c0_1459 : Index := 0#32
  ![v1883.toNat, 480, 0]
def k0_off38 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v1912 : Index := Scalar.indexCast v1341
  let c480_1485 : Index := 480#32
  let c0_1486 : Index := 0#32
  ![v1912.toNat, 480, 0]
def k0_off39 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1529 : BitVec 32 := 1#32
  let v1972 : BitVec 32 := Scalar.addi v1341 c1_i32_1529
  let v1973 : Index := Scalar.indexCast v1972
  let c560_1530 : Index := 560#32
  let c0_1531 : Index := 0#32
  ![v1973.toNat, 560, 0]
def k0_off40 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let v2002 : Index := Scalar.indexCast v1341
  let c560_1557 : Index := 560#32
  let c0_1558 : Index := 0#32
  ![v2002.toNat, 560, 0]
def k0_off41 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_1605 : BitVec 32 := 1#32
  let v2068 : BitVec 32 := Scalar.addi v2067 c1_i32_1605
  let v2069 : Index := Scalar.indexCast v2068
  let c0_1606 : Index := 0#32
  let c0_1607 : Index := 0#32
  ![v2069.toNat, 0, 0]
def k0_off42 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_1678 : BitVec 32 := 1#32
  let v2162 : BitVec 32 := Scalar.addi v2067 c1_i32_1678
  let v2163 : Index := Scalar.indexCast v2162
  let c80_1679 : Index := 80#32
  let c0_1680 : Index := 0#32
  ![v2163.toNat, 80, 0]
def k0_off43 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_1751 : BitVec 32 := 1#32
  let v2256 : BitVec 32 := Scalar.addi v2067 c1_i32_1751
  let v2257 : Index := Scalar.indexCast v2256
  let c160_1752 : Index := 160#32
  let c0_1753 : Index := 0#32
  ![v2257.toNat, 160, 0]
def k0_off44 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_1824 : BitVec 32 := 1#32
  let v2350 : BitVec 32 := Scalar.addi v2067 c1_i32_1824
  let v2351 : Index := Scalar.indexCast v2350
  let c240_1825 : Index := 240#32
  let c0_1826 : Index := 0#32
  ![v2351.toNat, 240, 0]
def k0_off45 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_1897 : BitVec 32 := 1#32
  let v2444 : BitVec 32 := Scalar.addi v2067 c1_i32_1897
  let v2445 : Index := Scalar.indexCast v2444
  let c320_1898 : Index := 320#32
  let c0_1899 : Index := 0#32
  ![v2445.toNat, 320, 0]
def k0_off46 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_1970 : BitVec 32 := 1#32
  let v2538 : BitVec 32 := Scalar.addi v2067 c1_i32_1970
  let v2539 : Index := Scalar.indexCast v2538
  let c400_1971 : Index := 400#32
  let c0_1972 : Index := 0#32
  ![v2539.toNat, 400, 0]
def k0_off47 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_2043 : BitVec 32 := 1#32
  let v2632 : BitVec 32 := Scalar.addi v2067 c1_i32_2043
  let v2633 : Index := Scalar.indexCast v2632
  let c480_2044 : Index := 480#32
  let c0_2045 : Index := 0#32
  ![v2633.toNat, 480, 0]
def k0_off48 (i : grid0.Coords) (k0_t2 : Fin (k0_t2_loop i).trips) : Fin 3 → Nat :=
  let c2_i32_1024 : BitVec 32 := 2#32
  let c0_i32_297 : BitVec 32 := 0#32
  let arg2 : BitVec 32 := BitVec.ofNat 32 (i 2).val
  let v334 : BitVec 32 := Scalar.subi arg2 c0_i32_297
  let c1_i32 : BitVec 32 := 1#32
  let v336 : BitVec 32 := Scalar.divsi v334 c1_i32
  let v337 : BitVec 32 := Scalar.muli v336 c1_i32
  let v338 : BitVec 32 := Scalar.addi c0_i32_297 v337
  let c1_i32_299 : BitVec 32 := 1#32
  let arg14 : BitVec 32 := Scf.iv v338 c1_i32_299 k0_t2
  let v1341 : BitVec 32 := Scalar.muli c2_i32_1024 arg14
  let c1_i32_1604 : BitVec 32 := 1#32
  let v2067 : BitVec 32 := Scalar.addi v1341 c1_i32_1604
  let c1_i32_2116 : BitVec 32 := 1#32
  let v2726 : BitVec 32 := Scalar.addi v2067 c1_i32_2116
  let v2727 : Index := Scalar.indexCast v2726
  let c560_2117 : Index := 560#32
  let c0_2118 : Index := 0#32
  ![v2727.toNat, 560, 0]
def k0_off49 (i : grid0.Coords) : Fin 3 → Nat :=
  let c2_i32 : BitVec 32 := 2#32
  let arg2 : BitVec 32 := BitVec.ofNat 32 (i 2).val
  let v339 : BitVec 32 := Scalar.muli c2_i32 arg2
  let c1_i32_300 : BitVec 32 := 1#32
  let v340 : BitVec 32 := Scalar.addi v339 c1_i32_300
  let v341 : Index := Scalar.indexCast v340
  let c0_301 : Index := 0#32
  let c0_302 : Index := 0#32
  ![v341.toNat, 0, 0]
def k0_off50 (i : grid0.Coords) : Fin 3 → Nat :=
  let c2_i32 : BitVec 32 := 2#32
  let arg2 : BitVec 32 := BitVec.ofNat 32 (i 2).val
  let v339 : BitVec 32 := Scalar.muli c2_i32 arg2
  let v359 : Index := Scalar.indexCast v339
  let c0_315 : Index := 0#32
  let c0_316 : Index := 0#32
  ![v359.toNat, 0, 0]
def k0_off51 (i : grid0.Coords) : Fin 3 → Nat :=
  let c2_i32 : BitVec 32 := 2#32
  let arg2 : BitVec 32 := BitVec.ofNat 32 (i 2).val
  let v339 : BitVec 32 := Scalar.muli c2_i32 arg2
  let c1_i32_359 : BitVec 32 := 1#32
  let v419 : BitVec 32 := Scalar.addi v339 c1_i32_359
  let v420 : Index := Scalar.indexCast v419
  let c80_360 : Index := 80#32
  let c0_361 : Index := 0#32
  ![v420.toNat, 80, 0]
def k0_off52 (i : grid0.Coords) : Fin 3 → Nat :=
  let c2_i32 : BitVec 32 := 2#32
  let arg2 : BitVec 32 := BitVec.ofNat 32 (i 2).val
  let v339 : BitVec 32 := Scalar.muli c2_i32 arg2
  let v438 : Index := Scalar.indexCast v339
  let c80_374 : Index := 80#32
  let c0_375 : Index := 0#32
  ![v438.toNat, 80, 0]
def k0_off53 (i : grid0.Coords) : Fin 3 → Nat :=
  let c2_i32 : BitVec 32 := 2#32
  let arg2 : BitVec 32 := BitVec.ofNat 32 (i 2).val
  let v339 : BitVec 32 := Scalar.muli c2_i32 arg2
  let c1_i32_418 : BitVec 32 := 1#32
  let v498 : BitVec 32 := Scalar.addi v339 c1_i32_418
  let v499 : Index := Scalar.indexCast v498
  let c160_419 : Index := 160#32
  let c0_420 : Index := 0#32
  ![v499.toNat, 160, 0]
def k0_off54 (i : grid0.Coords) : Fin 3 → Nat :=
  let c2_i32 : BitVec 32 := 2#32
  let arg2 : BitVec 32 := BitVec.ofNat 32 (i 2).val
  let v339 : BitVec 32 := Scalar.muli c2_i32 arg2
  let v517 : Index := Scalar.indexCast v339
  let c160_433 : Index := 160#32
  let c0_434 : Index := 0#32
  ![v517.toNat, 160, 0]
def k0_off55 (i : grid0.Coords) : Fin 3 → Nat :=
  let c2_i32 : BitVec 32 := 2#32
  let arg2 : BitVec 32 := BitVec.ofNat 32 (i 2).val
  let v339 : BitVec 32 := Scalar.muli c2_i32 arg2
  let c1_i32_477 : BitVec 32 := 1#32
  let v577 : BitVec 32 := Scalar.addi v339 c1_i32_477
  let v578 : Index := Scalar.indexCast v577
  let c240_478 : Index := 240#32
  let c0_479 : Index := 0#32
  ![v578.toNat, 240, 0]
def k0_off56 (i : grid0.Coords) : Fin 3 → Nat :=
  let c2_i32 : BitVec 32 := 2#32
  let arg2 : BitVec 32 := BitVec.ofNat 32 (i 2).val
  let v339 : BitVec 32 := Scalar.muli c2_i32 arg2
  let v596 : Index := Scalar.indexCast v339
  let c240_492 : Index := 240#32
  let c0_493 : Index := 0#32
  ![v596.toNat, 240, 0]
def k0_off57 (i : grid0.Coords) : Fin 3 → Nat :=
  let c2_i32 : BitVec 32 := 2#32
  let arg2 : BitVec 32 := BitVec.ofNat 32 (i 2).val
  let v339 : BitVec 32 := Scalar.muli c2_i32 arg2
  let c1_i32_536 : BitVec 32 := 1#32
  let v656 : BitVec 32 := Scalar.addi v339 c1_i32_536
  let v657 : Index := Scalar.indexCast v656
  let c320_537 : Index := 320#32
  let c0_538 : Index := 0#32
  ![v657.toNat, 320, 0]
def k0_off58 (i : grid0.Coords) : Fin 3 → Nat :=
  let c2_i32 : BitVec 32 := 2#32
  let arg2 : BitVec 32 := BitVec.ofNat 32 (i 2).val
  let v339 : BitVec 32 := Scalar.muli c2_i32 arg2
  let v675 : Index := Scalar.indexCast v339
  let c320_551 : Index := 320#32
  let c0_552 : Index := 0#32
  ![v675.toNat, 320, 0]
def k0_off59 (i : grid0.Coords) : Fin 3 → Nat :=
  let c2_i32 : BitVec 32 := 2#32
  let arg2 : BitVec 32 := BitVec.ofNat 32 (i 2).val
  let v339 : BitVec 32 := Scalar.muli c2_i32 arg2
  let c1_i32_595 : BitVec 32 := 1#32
  let v735 : BitVec 32 := Scalar.addi v339 c1_i32_595
  let v736 : Index := Scalar.indexCast v735
  let c400_596 : Index := 400#32
  let c0_597 : Index := 0#32
  ![v736.toNat, 400, 0]
def k0_off60 (i : grid0.Coords) : Fin 3 → Nat :=
  let c2_i32 : BitVec 32 := 2#32
  let arg2 : BitVec 32 := BitVec.ofNat 32 (i 2).val
  let v339 : BitVec 32 := Scalar.muli c2_i32 arg2
  let v754 : Index := Scalar.indexCast v339
  let c400_610 : Index := 400#32
  let c0_611 : Index := 0#32
  ![v754.toNat, 400, 0]
def k0_off61 (i : grid0.Coords) : Fin 3 → Nat :=
  let c2_i32 : BitVec 32 := 2#32
  let arg2 : BitVec 32 := BitVec.ofNat 32 (i 2).val
  let v339 : BitVec 32 := Scalar.muli c2_i32 arg2
  let c1_i32_654 : BitVec 32 := 1#32
  let v814 : BitVec 32 := Scalar.addi v339 c1_i32_654
  let v815 : Index := Scalar.indexCast v814
  let c480_655 : Index := 480#32
  let c0_656 : Index := 0#32
  ![v815.toNat, 480, 0]
def k0_off62 (i : grid0.Coords) : Fin 3 → Nat :=
  let c2_i32 : BitVec 32 := 2#32
  let arg2 : BitVec 32 := BitVec.ofNat 32 (i 2).val
  let v339 : BitVec 32 := Scalar.muli c2_i32 arg2
  let v833 : Index := Scalar.indexCast v339
  let c480_669 : Index := 480#32
  let c0_670 : Index := 0#32
  ![v833.toNat, 480, 0]
def k0_off63 (i : grid0.Coords) : Fin 3 → Nat :=
  let c2_i32 : BitVec 32 := 2#32
  let arg2 : BitVec 32 := BitVec.ofNat 32 (i 2).val
  let v339 : BitVec 32 := Scalar.muli c2_i32 arg2
  let c1_i32_713 : BitVec 32 := 1#32
  let v893 : BitVec 32 := Scalar.addi v339 c1_i32_713
  let v894 : Index := Scalar.indexCast v893
  let c560_714 : Index := 560#32
  let c0_715 : Index := 0#32
  ![v894.toNat, 560, 0]
def k0_off64 (i : grid0.Coords) : Fin 3 → Nat :=
  let c2_i32 : BitVec 32 := 2#32
  let arg2 : BitVec 32 := BitVec.ofNat 32 (i 2).val
  let v339 : BitVec 32 := Scalar.muli c2_i32 arg2
  let v912 : Index := Scalar.indexCast v339
  let c560_728 : Index := 560#32
  let c0_729 : Index := 0#32
  ![v912.toNat, 560, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S640x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x16x64 : Shape := ⟨4, ![8, 4096, 16, 64]⟩
abbrev S8x16x4096 : Shape := ⟨3, ![8, 16, 4096]⟩
abbrev S8x16x4096x4096 : Shape := ⟨4, ![8, 16, 4096, 4096]⟩
abbrev S_ : Shape := ⟨0, ![]⟩
abbrev S8x16x4096x1 : Shape := ⟨4, ![8, 16, 4096, 1]⟩
abbrev S8x16x1x4096 : Shape := ⟨4, ![8, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S8x16x64x4096 : Shape := ⟨4, ![8, 16, 64, 4096]⟩
abbrev S32768x1024 : Shape := ⟨2, ![32768, 1024]⟩
abbrev S1024x32768 : Shape := ⟨2, ![1024, 32768]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x16x64, .f32⟩
  | .hbm, ⟨2, _⟩ => ⟨S8x4096x16x64, .f32⟩
  | .hbm, ⟨3, _⟩ => ⟨S8x16x4096, .f32⟩
  | .hbm, ⟨4, _⟩ => ⟨S8x16x4096x4096, .f32⟩
  | .hbm, ⟨5, _⟩ => ⟨S_, .f32⟩
  | .hbm, ⟨6, _⟩ => ⟨S8x16x4096x4096, .f32⟩
  | .hbm, ⟨7, _⟩ => ⟨S8x16x4096x4096, .f32⟩
  | .hbm, ⟨8, _⟩ => ⟨S8x16x4096x1, .f32⟩
  | .hbm, ⟨9, _⟩ => ⟨S8x16x1x4096, .f32⟩
  | .hbm, ⟨10, _⟩ => ⟨S8x16x4096x4096, .f32⟩
  | .hbm, ⟨11, _⟩ => ⟨S8x16x4096x4096, .f32⟩
  | .hbm, ⟨12, _⟩ => ⟨S8x16x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x1x4096x4096, .i1⟩
  | .hbm, ⟨21, _⟩ => ⟨S8x16x4096x4096, .f32⟩
  | .hbm, ⟨22, _⟩ => ⟨S_, .f32⟩
  | .hbm, ⟨23, _⟩ => ⟨S_, .f32⟩
  | .hbm, ⟨24, _⟩ => ⟨S8x16x4096x4096, .i1⟩
  | .hbm, ⟨25, _⟩ => ⟨S8x16x4096x4096, .f32⟩
  | .hbm, ⟨26, _⟩ => ⟨S8x16x4096x4096, .f32⟩
  | .hbm, ⟨27, _⟩ => ⟨S_, .f32⟩
  | .hbm, ⟨28, _⟩ => ⟨S8x16x4096, .f32⟩
  | .hbm, ⟨29, _⟩ => ⟨S_, .f32⟩
  | .hbm, ⟨30, _⟩ => ⟨S8x16x4096, .f32⟩
  | .hbm, ⟨31, _⟩ => ⟨S8x16x4096, .f32⟩
  | .hbm, ⟨32, _⟩ => ⟨S8x16x4096x1, .f32⟩
  | .hbm, ⟨33, _⟩ => ⟨S8x16x4096x4096, .f32⟩
  | .hbm, ⟨34, _⟩ => ⟨S8x16x4096x4096, .f32⟩
  | .hbm, ⟨35, _⟩ => ⟨S8x16x4096x4096, .f32⟩
  | .hbm, ⟨36, _⟩ => ⟨S_, .f32⟩
  | .hbm, ⟨37, _⟩ => ⟨S8x16x4096, .f32⟩
  | .hbm, ⟨38, _⟩ => ⟨S8x16x4096x1, .f32⟩
  | .hbm, ⟨39, _⟩ => ⟨S8x16x4096x4096, .f32⟩
  | .hbm, ⟨40, _⟩ => ⟨S8x16x4096x4096, .f32⟩
  | .hbm, ⟨41, _⟩ => ⟨S8x16x64x4096, .f32⟩
  | .hbm, ⟨42, _⟩ => ⟨S8x4096x16x64, .f32⟩
  | .hbm, ⟨43, _⟩ => ⟨S32768x1024, .f32⟩
  | .hbm, ⟨44, _⟩ => ⟨S1024x32768, .f32⟩
  | .hbm, ⟨45, _⟩ => ⟨S1024x32768, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Mlp.lean ====
abbrev S32768x1024 : Shape := ⟨2, ![32768, 1024]⟩
abbrev S1024x32768 : Shape := ⟨2, ![1024, 32768]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x32768, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpReferenceIdeal.lean ====
abbrev S32768x1024 : Shape := ⟨2, ![32768, 1024]⟩
abbrev S1024x32768 : Shape := ⟨2, ![1024, 32768]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 50
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x32768, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x4096, .f32⟩
  | .hbm, ⟨28, _⟩ => ⟨S_, .f32⟩
  | .hbm, ⟨29, _⟩ => ⟨S32768x4096, .f32⟩
  | .hbm, ⟨30, _⟩ => ⟨S32768x4096, .f32⟩
  | .hbm, ⟨31, _⟩ => ⟨S32768x4096, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== MlpInner.lean ====
abbrev S32768x1024 : Shape := ⟨2, ![32768, 1024]⟩
abbrev S1024x32768 : Shape := ⟨2, ![1024, 32768]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x32768, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpInnerReferenceIdeal.lean ====
abbrev S32768x1024 : Shape := ⟨2, ![32768, 1024]⟩
abbrev S1024x32768 : Shape := ⟨2, ![1024, 32768]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x32768, .bf16⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x4096, .f32⟩
  | .hbm, ⟨28, _⟩ => ⟨S_, .f32⟩
  | .hbm, ⟨29, _⟩ => ⟨S32768x4096, .f32⟩
  | .hbm, ⟨30, _⟩ => ⟨S32768x4096, .f32⟩
  | .hbm, ⟨31, _⟩ => ⟨S32768x4096, .f32⟩
  | .hbm, ⟨32, _⟩ => ⟨S32768x1024, .f32⟩
  | .hbm, ⟨33, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Query.lean ====
abbrev S32768x1024 : Shape := ⟨2, ![32768, 1024]⟩
abbrev S1024 : Shape := ⟨1, ![1024]⟩
abbrev S1024x1024 : Shape := ⟨2, ![1024, 1024]⟩
abbrev S256x32768 : Shape := ⟨2, ![256, 32768]⟩
abbrev S1x1024 : Shape := ⟨2, ![1, 1024]⟩
abbrev S1280x32768 : Shape := ⟨2, ![1280, 32768]⟩
abbrev S512x1024 : Shape := ⟨2, ![512, 1024]⟩
abbrev S256x512 : Shape := ⟨2, ![256, 512]⟩
abbrev S1280x512 : Shape := ⟨2, ![1280, 512]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S128x512 : Shape := ⟨2, ![128, 512]⟩
abbrev S64x512 : Shape := ⟨2, ![64, 512]⟩
abbrev S16x512 : Shape := ⟨2, ![16, 512]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S256x32768, .bf16⟩
  | .hbm, ⟨4, _⟩ => ⟨S1x1024, .f32⟩
  | .hbm, ⟨5, _⟩ => ⟨S1024x1024, .bf16⟩
  | .hbm, ⟨6, _⟩ => ⟨S1280x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S256x512, .bf16⟩
  | .local _ .vmem, ⟨5, _⟩ => ⟨S256x512, .bf16⟩
  | .local _ .vmem, ⟨6, _⟩ => ⟨S1280x512, .bf16⟩
  | .local _ .vmem, ⟨7, _⟩ => ⟨S1280x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QueryReferenceIdeal.lean ====
abbrev S32768x1024 : Shape := ⟨2, ![32768, 1024]⟩
abbrev S1024 : Shape := ⟨1, ![1024]⟩
abbrev S1024x1024 : Shape := ⟨2, ![1024, 1024]⟩
abbrev S256x32768 : Shape := ⟨2, ![256, 32768]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x32768 : Shape := ⟨2, ![1024, 32768]⟩
abbrev S16x64x32768 : Shape := ⟨3, ![16, 64, 32768]⟩
abbrev S16x16x32768 : Shape := ⟨3, ![16, 16, 32768]⟩
abbrev S16x80x32768 : Shape := ⟨3, ![16, 80, 32768]⟩
abbrev S1280x32768 : Shape := ⟨2, ![1280, 32768]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x1024, .f32⟩
  | .hbm, ⟨3, _⟩ => ⟨S256x32768, .bf16⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S1024x32768, .f32⟩
  | .hbm, ⟨25, _⟩ => ⟨S16x64x32768, .f32⟩
  | .hbm, ⟨26, _⟩ => ⟨S16x64x32768, .bf16⟩
  | .hbm, ⟨27, _⟩ => ⟨S16x16x32768, .bf16⟩
  | .hbm, ⟨28, _⟩ => ⟨S16x80x32768, .bf16⟩
  | .hbm, ⟨29, _⟩ => ⟨S1280x32768, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Project.lean ====
abbrev S32768x1024 : Shape := ⟨2, ![32768, 1024]⟩
abbrev S1024 : Shape := ⟨1, ![1024]⟩
abbrev S1024x2120 : Shape := ⟨2, ![1024, 2120]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S1x1024 : Shape := ⟨2, ![1, 1024]⟩
abbrev S1024x8 : Shape := ⟨2, ![1024, 8]⟩
abbrev S1024x2048 : Shape := ⟨2, ![1024, 2048]⟩
abbrev S1024x64 : Shape := ⟨2, ![1024, 64]⟩
abbrev S1024x128 : Shape := ⟨2, ![1024, 128]⟩
abbrev S1024x2304 : Shape := ⟨2, ![1024, 2304]⟩
abbrev S128x4096 : Shape := ⟨2, ![128, 4096]⟩
abbrev S1024x32768 : Shape := ⟨2, ![1024, 32768]⟩
abbrev S128x256x256 : Shape := ⟨3, ![128, 256, 256]⟩
abbrev S128x320x256 : Shape := ⟨3, ![128, 320, 256]⟩
abbrev S512x32768 : Shape := ⟨2, ![512, 32768]⟩
abbrev S32768x128 : Shape := ⟨2, ![32768, 128]⟩
abbrev S8x32768 : Shape := ⟨2, ![8, 32768]⟩
abbrev S512x1024 : Shape := ⟨2, ![512, 1024]⟩
abbrev S512x128 : Shape := ⟨2, ![512, 128]⟩
abbrev S128x512 : Shape := ⟨2, ![128, 512]⟩
abbrev S1024x512 : Shape := ⟨2, ![1024, 512]⟩
abbrev S2x256x256 : Shape := ⟨3, ![2, 256, 256]⟩
abbrev S2x320x256 : Shape := ⟨3, ![2, 320, 256]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1024x256 : Shape := ⟨2, ![1024, 256]⟩
abbrev S512x256 : Shape := ⟨2, ![512, 256]⟩
abbrev S128x256 : Shape := ⟨2, ![128, 256]⟩
abbrev S1x128x256 : Shape := ⟨3, ![1, 128, 256]⟩
abbrev S256x128 : Shape := ⟨2, ![256, 128]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩

abbrev nBuf : Space → Nat
  | .hbm => 49
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2120, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x128, .f32⟩
  | .hbm, ⟨28, _⟩ => ⟨S4096x32, .f32⟩
  | .hbm, ⟨29, _⟩ => ⟨S4096x32, .f32⟩
  | .hbm, ⟨30, _⟩ => ⟨S4096x128, .f32⟩
  | .hbm, ⟨31, _⟩ => ⟨S1x1024, .f32⟩
  | .hbm, ⟨32, _⟩ => ⟨S1024x8, .f32⟩
  | .hbm, ⟨33, _⟩ => ⟨S1024x2048, .f32⟩
  | .hbm, ⟨34, _⟩ => ⟨S1024x64, .f32⟩
  | .hbm, ⟨35, _⟩ => ⟨S1024x64, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x2304, .f32⟩
  | .hbm, ⟨40, _⟩ => ⟨S1024x2304, .bf16⟩
  | .hbm, ⟨41, _⟩ => ⟨S128x4096, .f32⟩
  | .hbm, ⟨42, _⟩ => ⟨S128x4096, .f32⟩
  | .hbm, ⟨43, _⟩ => ⟨S1024x32768, .bf16⟩
  | .hbm, ⟨44, _⟩ => ⟨S128x256x256, .bf16⟩
  | .hbm, ⟨45, _⟩ => ⟨S128x320x256, .bf16⟩
  | .hbm, ⟨46, _⟩ => ⟨S512x32768, .bf16⟩
  | .hbm, ⟨47, _⟩ => ⟨S32768x128, .bf16⟩
  | .hbm, ⟨48, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S1024x512, .bf16⟩
  | .local _ .vmem, ⟨13, _⟩ => ⟨S1024x512, .bf16⟩
  | .local _ .vmem, ⟨14, _⟩ => ⟨S2x256x256, .bf16⟩
  | .local _ .vmem, ⟨15, _⟩ => ⟨S2x256x256, .bf16⟩
  | .local _ .vmem, ⟨16, _⟩ => ⟨S2x320x256, .bf16⟩
  | .local _ .vmem, ⟨17, _⟩ => ⟨S2x320x256, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S8x512, .f32⟩
  | .local _ .vmem, ⟨23, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v33_4 : Ref sig .tc := ⟨.hbm, 47, rfl⟩
abbrev main_v33_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x320x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjectReferenceIdeal.lean ====
abbrev S32768x1024 : Shape := ⟨2, ![32768, 1024]⟩
abbrev S1024 : Shape := ⟨1, ![1024]⟩
abbrev S1024x2120 : Shape := ⟨2, ![1024, 2120]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2120 : Shape := ⟨2, ![32768, 2120]⟩
abbrev S32768x256 : Shape := ⟨2, ![32768, 256]⟩
abbrev S32768x512 : Shape := ⟨2, ![32768, 512]⟩
abbrev S32768x64 : Shape := ⟨2, ![32768, 64]⟩
abbrev S32768x8 : Shape := ⟨2, ![32768, 8]⟩
abbrev S8x4096x16x64 : Shape := ⟨4, ![8, 4096, 16, 64]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x16x32 : Shape := ⟨4, ![8, 4096, 16, 32]⟩
abbrev S8x4096x4x64 : Shape := ⟨4, ![8, 4096, 4, 64]⟩
abbrev S8x4096x4x32 : Shape := ⟨4, ![8, 4096, 4, 32]⟩
abbrev S8x4096x8x64 : Shape := ⟨4, ![8, 4096, 8, 64]⟩
abbrev S8x4096x8x32 : Shape := ⟨4, ![8, 4096, 8, 32]⟩
abbrev S8x4096x1x64 : Shape := ⟨4, ![8, 4096, 1, 64]⟩
abbrev S8x4096x1x32 : Shape := ⟨4, ![8, 4096, 1, 32]⟩
abbrev S128x256x4x64 : Shape := ⟨4, ![128, 256, 4, 64]⟩
abbrev S128x4x64x256 : Shape := ⟨4, ![128, 4, 64, 256]⟩
abbrev S128x4x1x256 : Shape := ⟨4, ![128, 4, 1, 256]⟩
abbrev S128x4x15x256 : Shape := ⟨4, ![128, 4, 15, 256]⟩
abbrev S128x4x80x256 : Shape := ⟨4, ![128, 4, 80, 256]⟩
abbrev S128x320x256 : Shape := ⟨3, ![128, 320, 256]⟩
abbrev S1024x32768 : Shape := ⟨2, ![1024, 32768]⟩
abbrev S128x256x256 : Shape := ⟨3, ![128, 256, 256]⟩
abbrev S512x32768 : Shape := ⟨2, ![512, 32768]⟩
abbrev S32768x128 : Shape := ⟨2, ![32768, 128]⟩
abbrev S8x32768 : Shape := ⟨2, ![8, 32768]⟩

abbrev nBuf : Space → Nat
  | .hbm => 214
  | .vmem => 0
  | .smem => 0
  | _ => 0

abbrev hbmTy0_0 (i : Nat) : BufTy := match i % 128 with
  | 0 => ⟨S32768x1024, .f32⟩
  | 1 => ⟨S1024, .f32⟩
  | 2 => ⟨S1024x2120, .f32⟩
  | 3 => ⟨S32768x1024, .f32⟩
  | 4 => ⟨S_, .f32⟩
  | 5 => ⟨S32768, .f32⟩
  | 6 => ⟨S32768x1, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x1, .f32⟩
  | 14 => ⟨S32768x1024, .f32⟩
  | 15 => ⟨S32768x1024, .f32⟩
  | 16 => ⟨S1x1024, .f32⟩
  | 17 => ⟨S32768x1024, .f32⟩
  | 18 => ⟨S32768x1024, .f32⟩
  | 19 => ⟨S32768x2120, .f32⟩
  | 20 => ⟨S32768x1024, .f32⟩
  | 21 => ⟨S32768x256, .f32⟩
  | 22 => ⟨S32768x256, .f32⟩
  | 23 => ⟨S32768x512, .f32⟩
  | 24 => ⟨S32768x64, .f32⟩
  | 25 => ⟨S32768x8, .f32⟩
  | 26 => ⟨S8x4096x16x64, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S_, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S4096, .f32⟩
  | 44 => ⟨S4096x1, .f32⟩
  | 45 => ⟨S1x32, .f32⟩
  | 46 => ⟨S4096x32, .f32⟩
  | 47 => ⟨S4096x32, .f32⟩
  | 48 => ⟨S4096x32, .f32⟩
  | 49 => ⟨S4096x32, .f32⟩
  | 50 => ⟨S1x4096x1x32, .f32⟩
  | 51 => ⟨S4096x32, .f32⟩
  | 52 => ⟨S1x4096x1x32, .f32⟩
  | 53 => ⟨S8x4096x16x32, .f32⟩
  | 54 => ⟨S8x4096x16x32, .f32⟩
  | 55 => ⟨S8x4096x16x32, .f32⟩
  | 56 => ⟨S8x4096x16x32, .f32⟩
  | 57 => ⟨S8x4096x16x32, .f32⟩
  | 58 => ⟨S8x4096x16x32, .f32⟩
  | 59 => ⟨S8x4096x16x32, .f32⟩
  | 60 => ⟨S8x4096x16x32, .f32⟩
  | 61 => ⟨S8x4096x16x32, .f32⟩
  | 62 => ⟨S8x4096x16x32, .f32⟩
  | 63 => ⟨S8x4096x16x32, .f32⟩
  | 64 => ⟨S8x4096x16x32, .f32⟩
  | 65 => ⟨S8x4096x16x64, .f32⟩
  | 66 => ⟨S_, .f32⟩
  | 67 => ⟨S8x4096x16x64, .f32⟩
  | 68 => ⟨S8x4096x16x64, .f32⟩
  | 69 => ⟨S8x4096x4x64, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S4096, .f32⟩
  | 87 => ⟨S4096x1, .f32⟩
  | 88 => ⟨S1x32, .f32⟩
  | 89 => ⟨S4096x32, .f32⟩
  | 90 => ⟨S4096x32, .f32⟩
  | 91 => ⟨S4096x32, .f32⟩
  | 92 => ⟨S4096x32, .f32⟩
  | 93 => ⟨S1x4096x1x32, .f32⟩
  | 94 => ⟨S4096x32, .f32⟩
  | 95 => ⟨S1x4096x1x32, .f32⟩
  | 96 => ⟨S8x4096x4x32, .f32⟩
  | 97 => ⟨S8x4096x4x32, .f32⟩
  | 98 => ⟨S8x4096x4x32, .f32⟩
  | 99 => ⟨S8x4096x4x32, .f32⟩
  | 100 => ⟨S8x4096x4x32, .f32⟩
  | 101 => ⟨S8x4096x4x32, .f32⟩
  | 102 => ⟨S8x4096x4x32, .f32⟩
  | 103 => ⟨S8x4096x4x32, .f32⟩
  | 104 => ⟨S8x4096x4x32, .f32⟩
  | 105 => ⟨S8x4096x4x32, .f32⟩
  | 106 => ⟨S8x4096x4x32, .f32⟩
  | 107 => ⟨S8x4096x4x32, .f32⟩
  | 108 => ⟨S8x4096x4x64, .f32⟩
  | 109 => ⟨S8x4096x8x64, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S4096, .f32⟩
  | 127 => ⟨S4096x1, .f32⟩
  | _ => ⟨S32768x1024, .f32⟩

abbrev hbmTy0_1 (i : Nat) : BufTy := match i % 128 with
  | 0 => ⟨S1x32, .f32⟩
  | 1 => ⟨S4096x32, .f32⟩
  | 2 => ⟨S4096x32, .f32⟩
  | 3 => ⟨S4096x32, .f32⟩
  | 4 => ⟨S4096x32, .f32⟩
  | 5 => ⟨S1x4096x1x32, .f32⟩
  | 6 => ⟨S4096x32, .f32⟩
  | 7 => ⟨S1x4096x1x32, .f32⟩
  | 8 => ⟨S8x4096x8x32, .f32⟩
  | 9 => ⟨S8x4096x8x32, .f32⟩
  | 10 => ⟨S8x4096x8x32, .f32⟩
  | 11 => ⟨S8x4096x8x32, .f32⟩
  | 12 => ⟨S8x4096x8x32, .f32⟩
  | 13 => ⟨S8x4096x8x32, .f32⟩
  | 14 => ⟨S8x4096x8x32, .f32⟩
  | 15 => ⟨S8x4096x8x32, .f32⟩
  | 16 => ⟨S8x4096x8x32, .f32⟩
  | 17 => ⟨S8x4096x8x32, .f32⟩
  | 18 => ⟨S8x4096x8x32, .f32⟩
  | 19 => ⟨S8x4096x8x32, .f32⟩
  | 20 => ⟨S8x4096x8x64, .f32⟩
  | 21 => ⟨S8x4096x1x64, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S4096, .f32⟩
  | 39 => ⟨S4096x1, .f32⟩
  | 40 => ⟨S1x32, .f32⟩
  | 41 => ⟨S4096x32, .f32⟩
  | 42 => ⟨S4096x32, .f32⟩
  | 43 => ⟨S4096x32, .f32⟩
  | 44 => ⟨S4096x32, .f32⟩
  | 45 => ⟨S1x4096x1x32, .f32⟩
  | 46 => ⟨S4096x32, .f32⟩
  | 47 => ⟨S1x4096x1x32, .f32⟩
  | 48 => ⟨S8x4096x1x32, .f32⟩
  | 49 => ⟨S8x4096x1x32, .f32⟩
  | 50 => ⟨S8x4096x1x32, .f32⟩
  | 51 => ⟨S8x4096x1x32, .f32⟩
  | 52 => ⟨S8x4096x1x32, .f32⟩
  | 53 => ⟨S8x4096x1x32, .f32⟩
  | 54 => ⟨S8x4096x1x32, .f32⟩
  | 55 => ⟨S8x4096x1x32, .f32⟩
  | 56 => ⟨S8x4096x1x32, .f32⟩
  | 57 => ⟨S8x4096x1x32, .f32⟩
  | 58 => ⟨S8x4096x1x32, .f32⟩
  | 59 => ⟨S8x4096x1x32, .f32⟩
  | 60 => ⟨S8x4096x1x64, .f32⟩
  | 61 => ⟨S32768x64, .f32⟩
  | 62 => ⟨S_, .f32⟩
  | 63 => ⟨S32768x8, .f32⟩
  | 64 => ⟨S32768x8, .f32⟩
  | 65 => ⟨S128x256x4x64, .f32⟩
  | 66 => ⟨S128x4x64x256, .f32⟩
  | 67 => ⟨S_, .f32⟩
  | 68 => ⟨S128x4x1x256, .f32⟩
  | 69 => ⟨S_, .f32⟩
  | 70 => ⟨S128x4x15x256, .f32⟩
  | 71 => ⟨S128x4x80x256, .f32⟩
  | 72 => ⟨S128x320x256, .f32⟩
  | 73 => ⟨S32768x1024, .f32⟩
  | 74 => ⟨S1024x32768, .f32⟩
  | 75 => ⟨S1024x32768, .bf16⟩
  | 76 => ⟨S128x256x256, .f32⟩
  | 77 => ⟨S128x256x256, .f32⟩
  | 78 => ⟨S128x256x256, .bf16⟩
  | 79 => ⟨S128x320x256, .bf16⟩
  | 80 => ⟨S32768x512, .f32⟩
  | 81 => ⟨S512x32768, .f32⟩
  | 82 => ⟨S512x32768, .bf16⟩
  | 83 => ⟨S32768x128, .f32⟩
  | 84 => ⟨S32768x128, .bf16⟩
  | 85 => ⟨S8x32768, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_cst_9 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_13 : Ref sig .tc := ⟨.hbm, 111, rfl⟩
abbrev main_v94 : Ref sig .tc := ⟨.hbm, 112, rfl⟩
abbrev main_v95 : Ref sig .tc := ⟨.hbm, 113, rfl⟩
abbrev main_cst_14 : Ref sig .tc := ⟨.hbm, 114, rfl⟩
abbrev main_v96 : Ref sig .tc := ⟨.hbm, 115, rfl⟩
abbrev main_v97 : Ref sig .tc := ⟨.hbm, 116, rfl⟩
abbrev main_cst_15 : Ref sig .tc := ⟨.hbm, 117, rfl⟩
abbrev main_v98 : Ref sig .tc := ⟨.hbm, 118, rfl⟩
abbrev main_v99 : Ref sig .tc := ⟨.hbm, 119, rfl⟩
abbrev main_cst_16 : Ref sig .tc := ⟨.hbm, 120, rfl⟩
abbrev main_v100 : Ref sig .tc := ⟨.hbm, 121, rfl⟩
abbrev main_v101 : Ref sig .tc := ⟨.hbm, 122, rfl⟩
abbrev main_cst_17 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_18 : Ref sig .tc := ⟨.hbm, 151, rfl⟩
abbrev main_v129 : Ref sig .tc := ⟨.hbm, 152, rfl⟩
abbrev main_v130 : Ref sig .tc := ⟨.hbm, 153, rfl⟩
abbrev main_cst_19 : Ref sig .tc := ⟨.hbm, 154, rfl⟩
abbrev main_v131 : Ref sig .tc := ⟨.hbm, 155, rfl⟩
abbrev main_v132 : Ref sig .tc := ⟨.hbm, 156, rfl⟩
abbrev main_cst_20 : Ref sig .tc := ⟨.hbm, 157, rfl⟩
abbrev main_v133 : Ref sig .tc := ⟨.hbm, 158, rfl⟩
abbrev main_v134 : Ref sig .tc := ⟨.hbm, 159, rfl⟩
abbrev main_cst_21 : Ref sig .tc := ⟨.hbm, 160, rfl⟩
abbrev main_v135 : Ref sig .tc := ⟨.hbm, 161, rfl⟩
abbrev main_v136 : Ref sig .tc := ⟨.hbm, 162, rfl⟩
abbrev main_cst_22 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_cst_23 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_cst_24 : Ref sig .tc := ⟨.hbm, 195, rfl⟩
abbrev main_v167 : Ref sig .tc := ⟨.hbm, 196, rfl⟩
abbrev main_cst_25 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩

abbrev nD : Nat := 1
abbrev τ : Topo := Topo.v7x

variable {F : FTy → Type} [FloatOps F]
-- ==== Proof.MlpValue.lean ====
/- The feed-forward call at the extended reals: what one grid point writes back is 512 rows of the reference's
   result. The only step that is not a reading of both texts is that eight partial sums over 512 columns of the
   hidden layer add up to the sum over all 4096. -/
module

public import proofs.«01_k».proof.Defs
public import proofs.«01_k».proof.Proof.Gen.MlpIdeal.Frame
public import proofs.«01_k».proof.Proof.Gen.MlpIdeal.Value
public import proofs.«01_k».proof.Proof.Gen.MlpReferenceIdeal.Run
public import Idealize.ShloMosaic.Lib.Pointwise
public import Idealize.ShloMosaic.Lib.Pipeline.ValueKit
public import Idealize.ShloMosaic.Lib.Quiescent

@[expose] public section

set_option maxRecDepth 16384

noncomputable section

namespace Cert.MlpValue

open Idealize.ShloMosaic Idealize.ShloMosaic.TcCoe Idealize.SL.Sem
open Cert.MlpIdeal Cert.MlpIdeal.Gen

/-- The mean over 1024 columns with the norm's epsilon added, under the reciprocal root: a row's norm factor. -/
def scale (x : Fin 1024 → EReal) : EReal :=
  Ideal.rsqrt (Ideal.div (∑ k, x k * x k) (Ideal.ofBits .f32 0x44800000#32) + Ideal.ofBits .f32 0x358637BD#32)

/-- A row's root-mean-square norm with gain `g`. -/
def norm (x g : Fin 1024 → EReal) (k : Fin 1024) : EReal := x k * scale x * g k

/-- One hidden unit's squared positive part. -/
def unit (xn : Fin 1024 → EReal) (w : Fin 1024 → EReal) : EReal :=
  max (∑ k, xn k * w k) 0 * max (∑ k, xn k * w k) 0

theorem pay2_apply (v0 : Vec Ideal S512x1024 .f32) (v1 : Vec Ideal S1024x512 .bf16) (v2 : Vec Ideal S1024x1024 .bf16)
    (r : Fin 512) (k : Fin 1024) :
    k0_pay2 v0 v1 v2 (ix2 r k) = v0 (ix2 r k) + ∑ j : Fin 1024, v1 (ix2 j r) * v2 (ix2 j k) := by
  pointwise [k0_pay2]

theorem pay3_apply (v0 : Vec Ideal S512x1024 .f32) (v1 : Vec Ideal S1024x512 .bf16) (v2 : Vec Ideal S1024x1024 .bf16)
    (v6 : Vec Ideal S1x1024 .f32) (r : Fin 512) (k : Fin 1024) :
    k0_pay3 v0 v1 v2 v6 (ix2 r k) = norm (fun k => k0_pay2 v0 v1 v2 (ix2 r k)) (fun k => v6 (ix2 0 k)) k := by
  pointwise [k0_pay3, norm, scale]

theorem pay1_apply (v108 : FVec Ideal S512x1024 .f32) (v109 : Vec Ideal S1x1024 .f32) (r : Fin 512) (k : Fin 1024) :
    k0_pay1 v108 v109 (ix2 r k) = norm (fun k => v108 (ix2 r k)) (fun k => v109 (ix2 0 k)) k := by
  pointwise [k0_pay1, norm, scale]

/-- The contribution of 512 hidden units to output column `c` of row `r`. -/
def part (xn : FVec Ideal S512x1024 .bf16) (up : Vec Ideal S1024x512 .bf16) (dn : Vec Ideal S512x1024 .bf16)
    (r : Fin 512) (c : Fin 1024) : EReal :=
  ∑ f : Fin 512, unit (fun k => xn (ix2 r k)) (fun k => up (ix2 k f)) * dn (ix2 f c)

theorem pay4_apply (v0 : Vec Ideal S512x1024 .f32) (v1 : Vec Ideal S1024x512 .bf16) (v2 : Vec Ideal S1024x1024 .bf16)
    (v6 : Vec Ideal S1x1024 .f32) (v21 : Vec Ideal S1024x512 .bf16) (v28 : Vec Ideal S512x1024 .bf16) (r : Fin 512) (c : Fin 1024) :
    k0_pay4 v0 v1 v2 v6 v21 v28 (ix2 r c)
      = k0_pay2 v0 v1 v2 (ix2 r c) + part (k0_pay3 v0 v1 v2 v6) v21 v28 r c := by
  pointwise [k0_pay4, part, unit]

theorem pay7_apply (v20 : FVec Ideal S512x1024 .bf16) (v31 : FVec Ideal S512x1024 .f32)
    (v0 : Vec Ideal S512x1024 .f32) (v1 : Vec Ideal S1024x512 .bf16) (v2 : Vec Ideal S1024x1024 .bf16)
    (v6 : Vec Ideal S1x1024 .f32) (v32 : Vec Ideal S1024x512 .bf16)
    (v39 : Vec Ideal S512x1024 .bf16) (v43 : Vec Ideal S1024x512 .bf16) (v50 : Vec Ideal S512x1024 .bf16)
    (v54 : Vec Ideal S1024x512 .bf16) (v61 : Vec Ideal S512x1024 .bf16) (r : Fin 512) (c : Fin 1024)
    (h : v20 = k0_pay3 v0 v1 v2 v6) :
    k0_pay7 v20 v31 (k0_pay5 v0 v1 v2 v6 v32) (k0_pay6 (F := Ideal)) v39 v43 v50 v54 v61 (ix2 r c)
      = v31 (ix2 r c) + part v20 v32 v39 r c + part v20 v43 v50 r c + part v20 v54 v61 r c := by
  subst h
  pointwise [k0_pay7, k0_pay5, k0_pay6, part, unit]

theorem pay9_apply (v20 : FVec Ideal S512x1024 .bf16) (v64 : FVec Ideal S512x1024 .f32)
    (v65 : Vec Ideal S1024x512 .bf16)
    (v72 : Vec Ideal S512x1024 .bf16) (v76 : Vec Ideal S1024x512 .bf16) (v83 : Vec Ideal S512x1024 .bf16)
    (v87 : Vec Ideal S1024x512 .bf16) (v94 : Vec Ideal S512x1024 .bf16) (v98 : Vec Ideal S1024x512 .bf16)
    (v105 : Vec Ideal S512x1024 .bf16) (r : Fin 512) (c : Fin 1024) :
    k0_pay9 v20 v64 (k0_pay8 v20 v65) v72 v76 v83 v87 v94 v98 v105 (ix2 r c)
      = v64 (ix2 r c) + part v20 v65 v72 r c + part v20 v76 v83 r c + part v20 v87 v94 r c + part v20 v98 v105 r c := by
  pointwise [k0_pay9, k0_pay8, part, unit]

/-- A row of the stream after the block, before any final norm. -/
def rowIn (h o : Fin 1024 → EReal) (wo : Fin 1024 → Fin 1024 → EReal) (g : Fin 1024 → EReal)
    (up : Fin 1024 → Fin 4096 → EReal) (dn : Fin 4096 → Fin 1024 → EReal) (c : Fin 1024) : EReal :=
  (h c + ∑ j : Fin 1024, o j * wo j c)
    + ∑ f : Fin 4096, unit (norm (fun c => h c + ∑ j : Fin 1024, o j * wo j c) g) (fun k => up k f) * dn f c

/-- A row of the result from a row of the residual stream and a row of the attention output. -/
def rowOut (h o : Fin 1024 → EReal) (wo : Fin 1024 → Fin 1024 → EReal) (g : Fin 1024 → EReal)
    (up : Fin 1024 → Fin 4096 → EReal) (dn : Fin 4096 → Fin 1024 → EReal) (gf : Fin 1024 → EReal) : Fin 1024 → EReal :=
  norm (rowIn h o wo g up dn) gf

theorem rowOut_congr {h h' o o' : Fin 1024 → EReal} {wo wo' : Fin 1024 → Fin 1024 → EReal} {g g' : Fin 1024 → EReal}
    {up up' : Fin 1024 → Fin 4096 → EReal} {dn dn' : Fin 4096 → Fin 1024 → EReal} {gf gf' : Fin 1024 → EReal} {c c' : Fin 1024}
    (h0 : ∀ k, h k = h' k) (h1 : ∀ k, o k = o' k) (h2 : ∀ j k, wo j k = wo' j k) (h3 : ∀ k, g k = g' k)
    (h4 : ∀ k f, up k f = up' k f) (h5 : ∀ f k, dn f k = dn' f k) (h6 : ∀ k, gf k = gf' k) (hc : c = c') :
    rowOut h o wo g up dn gf c = rowOut h' o' wo' g' up' dn' gf' c' := by
  obtain rfl := funext h0; obtain rfl := funext h1; obtain rfl := funext fun j => funext (h2 j); obtain rfl := funext h3
  obtain rfl := funext fun j => funext (h4 j); obtain rfl := funext fun j => funext (h5 j); obtain rfl := funext h6; rw [hc]

/-- A sum over 4096 is its eight consecutive sums of 512, added in order. -/
theorem sum_eight (f : Fin 4096 → EReal) :
    (∑ i, f i) = (∑ i : Fin 512, f ⟨i, by omega⟩) + (∑ i : Fin 512, f ⟨512 + i, by omega⟩)
      + (∑ i : Fin 512, f ⟨1024 + i, by omega⟩) + (∑ i : Fin 512, f ⟨1536 + i, by omega⟩)
      + (∑ i : Fin 512, f ⟨2048 + i, by omega⟩) + (∑ i : Fin 512, f ⟨2560 + i, by omega⟩)
      + (∑ i : Fin 512, f ⟨3072 + i, by omega⟩) + (∑ i : Fin 512, f ⟨3584 + i, by omega⟩) := by
  have h : ∀ (n : ℕ) (f : Fin (n + 512) → EReal), (∑ i, f i) = (∑ i : Fin n, f ⟨i, by omega⟩) + ∑ i : Fin 512, f ⟨n + i, by omega⟩ :=
    fun n f => Fin.sum_univ_add f
  rw [h 3584 f, h 3072 (fun i => f ⟨i, by omega⟩), h 2560 (fun i => f ⟨i, by omega⟩), h 2048 (fun i => f ⟨i, by omega⟩),
    h 1536 (fun i => f ⟨i, by omega⟩), h 1024 (fun i => f ⟨i, by omega⟩), h 512 (fun i => f ⟨i, by omega⟩)]

/-- The eight partial sums of a grid point's body, one after the other. -/
theorem body_apply (x0 : Vec Ideal S512x1024 .f32) (x1 : Vec Ideal S1024x512 .bf16) (x2 : Vec Ideal S1024x1024 .bf16)
    (x3 : Vec Ideal S1x1024 .f32) (u : Fin 8 → Vec Ideal S1024x512 .bf16) (d : Fin 8 → Vec Ideal S512x1024 .bf16) (r : Fin 512) (c : Fin 1024)
    (s : Fin 8 → EReal) (hs : ∀ i, s i = ∑ f : Fin 512, unit (norm (fun c => x0 (ix2 r c) + ∑ j : Fin 1024, x1 (ix2 j r) * x2 (ix2 j c)) (fun k => x3 (ix2 0 k)))
      (fun k => u i (ix2 k f)) * d i (ix2 f c)) :
    k0_pay9 (k0_pay3 x0 x1 x2 x3) (k0_pay7 (k0_pay3 x0 x1 x2 x3) (k0_pay4 x0 x1 x2 x3 (u 0) (d 0)) (k0_pay5 x0 x1 x2 x3 (u 1)) (k0_pay6 (F := Ideal))
        (d 1) (u 2) (d 2) (u 3) (d 3)) (k0_pay8 (k0_pay3 x0 x1 x2 x3) (u 4)) (d 4) (u 5) (d 5) (u 6) (d 6) (u 7) (d 7) (ix2 r c)
      = (x0 (ix2 r c) + ∑ j : Fin 1024, x1 (ix2 j r) * x2 (ix2 j c)) + (s 0 + s 1 + s 2 + s 3 + s 4 + s 5 + s 6 + s 7) := by
  have e3 : (fun k => k0_pay3 x0 x1 x2 x3 (ix2 r k))
      = norm (fun c => x0 (ix2 r c) + ∑ j : Fin 1024, x1 (ix2 j r) * x2 (ix2 j c)) (fun k => x3 (ix2 0 k)) := by
    funext k
    rw [pay3_apply]
    refine congrArg₂ (fun a b => norm a b k) (funext fun k => ?_) rfl
    rw [pay2_apply]
  rw [pay9_apply, pay7_apply _ _ _ _ _ _ _ _ _ _ _ _ _ _ rfl, pay4_apply, pay2_apply]
  unfold part
  rw [e3]
  simp only [hs, add_assoc]

/-- What a grid point leaves in its output block, a row at a time. -/
theorem out_apply (x0 : Vec Ideal S512x1024 .f32) (x1 : Vec Ideal S1024x512 .bf16) (x2 : Vec Ideal S1024x1024 .bf16)
    (x3 : Vec Ideal S1x1024 .f32) (x4 : Vec Ideal S1024x4096 .bf16) (x5 : Vec Ideal S4096x1024 .bf16)
    (x6 : Vec Ideal S1x1024 .f32) (r : Fin 512) (c : Fin 1024) :
    out0_7 x0 x1 x2 x3 x4 x5 x6 (ix2 r c)
      = rowOut (fun k => x0 (ix2 r k)) (fun j => x1 (ix2 j r)) (fun j k => x2 (ix2 j k)) (fun k => x3 (ix2 0 k))
          (fun k f => x4 (ix2 k f)) (fun f k => x5 (ix2 f k)) (fun k => x6 (ix2 0 k)) c := by
  unfold out0_7 k0_pay10
  frame_out
  rw [pay1_apply]
  unfold rowOut rowIn
  refine congrArg₂ (fun a b => norm a b c) (funext fun k => ?_) (funext fun k => by pointwise)
  rw [sum_eight]
  refine (body_apply _ _ _ _ ![View.ld x4 r0_4, View.ld x4 r0_6, View.ld x4 r0_8, View.ld x4 r0_10, View.ld x4 r0_12, View.ld x4 r0_14, View.ld x4 r0_16, View.ld x4 r0_18]
    ![View.ld x5 r0_5, View.ld x5 r0_7, View.ld x5 r0_9, View.ld x5 r0_11, View.ld x5 r0_13, View.ld x5 r0_15, View.ld x5 r0_17, View.ld x5 r0_19] r k _ fun _ => rfl).trans ?_
  dsimp only [Matrix.cons_val_zero, Matrix.cons_val_one, Matrix.cons_val]
  pointwise

/-- The reference's result, a row at a time. -/
theorem ref_apply (m : (ℓ : Loc Cert.MlpReferenceIdeal.nD Cert.MlpReferenceIdeal.τ Cert.MlpReferenceIdeal.sig) → Buf (Elt Ideal) ℓ)
    (d : Dev Cert.MlpReferenceIdeal.nD) (R : Fin 32768) (c : Fin 1024)
    (h : FVec Ideal S32768x1024 .f32) (o : FVec Ideal S1024x32768 .bf16) (wo : FVec Ideal S1024x1024 .f32) (g : FVec Ideal S1024 .f32)
    (up : FVec Ideal S1024x4096 .f32) (dn : FVec Ideal S4096x1024 .f32) (gf : FVec Ideal S1024 .f32)
    (e0 : m ((d.tc : Thread Cert.MlpReferenceIdeal.nD Cert.MlpReferenceIdeal.τ).loc Cert.MlpReferenceIdeal.main_arg0) = h)
    (e1 : m ((d.tc : Thread Cert.MlpReferenceIdeal.nD Cert.MlpReferenceIdeal.τ).loc Cert.MlpReferenceIdeal.main_arg1) = o)
    (e2 : m ((d.tc : Thread Cert.MlpReferenceIdeal.nD Cert.MlpReferenceIdeal.τ).loc Cert.MlpReferenceIdeal.main_arg2) = wo)
    (e3 : m ((d.tc : Thread Cert.MlpReferenceIdeal.nD Cert.MlpReferenceIdeal.τ).loc Cert.MlpReferenceIdeal.main_arg3) = g)
    (e4 : m ((d.tc : Thread Cert.MlpReferenceIdeal.nD Cert.MlpReferenceIdeal.τ).loc Cert.MlpReferenceIdeal.main_arg4) = up)
    (e5 : m ((d.tc : Thread Cert.MlpReferenceIdeal.nD Cert.MlpReferenceIdeal.τ).loc Cert.MlpReferenceIdeal.main_arg5) = dn)
    (e6 : m ((d.tc : Thread Cert.MlpReferenceIdeal.nD Cert.MlpReferenceIdeal.τ).loc Cert.MlpReferenceIdeal.main_arg6) = gf) :
    (Cert.MlpReferenceIdeal.Value.res_main_v34 m d : FVec Ideal S32768x1024 .f32) (ix2 R c)
      = rowOut (fun k => h (ix2 R k)) (fun j => o (ix2 j R)) (fun j k => wo (ix2 j k)) (fun k => g (ix1 k))
          (fun k f => up (ix2 k f)) (fun f k => dn (ix2 f k)) (fun k => gf (ix1 k)) c := by
  unfold Cert.MlpReferenceIdeal.Value.res_main_v34
  rw [e0, e1, e2, e3, e4, e5, e6]
  clear e0 e1 e2 e3 e4 e5 e6
  pointwise [rowOut, rowIn, norm, scale, unit]

/-- The blocks the eight windows name at each of the 64 points. -/
theorem idx : ∀ t : Fin grid0.N, win0_0.index t = ![(grid0.coords t 0).val, 0] ∧ win0_1.index t = ![0, (grid0.coords t 0).val]
    ∧ win0_2.index t = ![0, 0] ∧ win0_3.index t = ![0, 0] ∧ win0_4.index t = ![0, 0] ∧ win0_5.index t = ![0, 0]
    ∧ win0_6.index t = ![0, 0] ∧ win0_7.index t = ![(grid0.coords t 0).val, 0] := by
  decide +kernel

variable (m : (ℓ : Loc nD τ sig) → Buf (Elt Ideal) ℓ)

/-- A vector reshaped to one row, read at its column. -/
theorem shapeCast_row (x : FVec Ideal S1024 .f32) (h : S1024.ShapeCasts S1x1024) (j : Fin 1024) :
    shapeCast S1x1024 x h (ix2 0 j) = x (ix1 j) := by
  pointwise

/-- The array the call returns, row by row, from the arguments as launched. -/
def result (c : Dev nD) : FVec Ideal S32768x1024 .f32 := fun i =>
  rowOut (fun k => (m ((c : Thread nD τ).loc main_arg0) : FVec Ideal S32768x1024 .f32) (ix2 (i 0) k))
    (fun j => (m ((c : Thread nD τ).loc main_arg1) : FVec Ideal S1024x32768 .bf16) (ix2 j (i 0)))
    (fun j k => (m ((c : Thread nD τ).loc main_arg2) : FVec Ideal S1024x1024 .f32) (ix2 j k))
    (fun k => (m ((c : Thread nD τ).loc main_arg3) : FVec Ideal S1024 .f32) (ix1 k))
    (fun k f => (m ((c : Thread nD τ).loc main_arg4) : FVec Ideal S1024x4096 .f32) (ix2 k f))
    (fun f k => (m ((c : Thread nD τ).loc main_arg5) : FVec Ideal S4096x1024 .f32) (ix2 f k))
    (fun k => (m ((c : Thread nD τ).loc main_arg6) : FVec Ideal S1024 .f32) (ix1 k)) (i 1)

theorem arr_eq (c : Dev nD) : (dats m 0 c).arrAt 7 cfg0.N = result m c := by
  refine (dats m 0 c).arrAt_eq_of_covers 7 _ (by decide +kernel) fun t hf y => ?_
  blk_simp
  rw [after0_7]
  obtain ⟨r, k, rfl⟩ : ∃ (r : Fin 512) (k : Fin 1024), y = ix2 r k := ⟨y 0, y 1, eq_ix2 y⟩
  refine (out_apply _ _ _ _ _ _ _ r k).trans ?_
  unfold result
  have hc : k = ((((cfg0.win 7).blk t).view.emb (ix2 r k)) 1 : Fin 1024) := by
    refine Fin.ext ?_
    blk_simp [idx t]
  refine rowOut_congr (fun j => ?_) (fun j => ?_) (fun i j => ?_) (fun j => ?_) (fun j f => ?_) (fun f j => ?_) (fun j => ?_) hc
  · blk_ext [iblk, V, idx t]
  · blk_ext [iblk, V, idx t]
  · unfold iblk; entry_read; pointwise; blk_ext [idx t]
  · have e : (win0_3.blk t).view.emb (ix2 0 j) = ix2 0 j := by blk_ext [idx t]
    unfold iblk; entry_read; blk_simp; erw [e]; exact shapeCast_row _ _ _
  · unfold iblk; entry_read; pointwise; blk_ext [idx t]
  · unfold iblk; entry_read; pointwise; blk_ext [idx t]
  · have e : (win0_6.blk t).view.emb (ix2 0 j) = ix2 0 j := by blk_ext [idx t]
    unfold iblk; entry_read; blk_simp; erw [e]; exact shapeCast_row _ _ _

/-- Both programs, from memories that agree on the arguments, end with the same result. -/
theorem algebraic : Cert.algebraic_MlpIdeal_MlpReferenceIdeal := by
  intro m g m' g' _ hm
  refine ⟨fun c => result m c, ?_, ?_⟩
  · refine (θ_run _ _ _).mono (fun r h c => ?_) (Cert.MlpIdeal.Value.run_blocks m g)
    obtain ⟨h0, h1⟩ := h c
    exact ⟨h0.trans (arr_eq m c), h1⟩
  · refine (θ_run _ _ _).mono (fun r h c => ?_) (Cert.MlpReferenceIdeal.Value.run m' g')
    obtain ⟨h0, h1⟩ := h c
    obtain ⟨e0, e1, e2, e3, e4, e5, e6⟩ := hm c
    refine ⟨h0.trans ?_, h1⟩
    funext i
    obtain ⟨R, k, rfl⟩ : ∃ (R : Fin 32768) (k : Fin 1024), i = ix2 R k := ⟨i 0, i 1, eq_ix2 i⟩
    exact ref_apply m' c R k _ _ _ _ _ _ _ e0 e1 e2 e3 e4 e5 e6

/-- The reference runs, changes no argument and holds no semaphore. -/
theorem quiescent_ref : Cert.quiescent_MlpReferenceIdeal := by
  intro m g _
  refine (θ_run _ _ _).mono (fun r h => ⟨fun c => (h c).2, ?_⟩) (Cert.MlpReferenceIdeal.Value.run m g)
  exact sem_eq_zero_of_no_sems rfl _

end Cert.MlpValue

end
-- ==== Proof.MlpInnerValue.lean ====
/- The feed-forward call of the earlier layers, without the final norm, at the extended reals. Its values are those of
   the last layer's call one step before the norm, so the lemmas of that call are read here as they are. -/
module

public import proofs.«01_k».proof.Defs
public import proofs.«01_k».proof.Proof.MlpValue
public import proofs.«01_k».proof.Proof.Gen.MlpInnerIdeal.Frame
public import proofs.«01_k».proof.Proof.Gen.MlpInnerIdeal.Value
public import proofs.«01_k».proof.Proof.Gen.MlpInnerReferenceIdeal.Run
public import Idealize.ShloMosaic.Lib.Pointwise
public import Idealize.ShloMosaic.Lib.Pipeline.ValueKit
public import Idealize.ShloMosaic.Lib.Quiescent

@[expose] public section

set_option maxRecDepth 16384

noncomputable section

namespace Cert.MlpInnerValue

open Idealize.ShloMosaic Idealize.ShloMosaic.TcCoe Idealize.SL.Sem
open Cert.MlpValue (rowIn sum_eight body_apply shapeCast_row scale unit)

section Ref

open Cert.MlpInnerReferenceIdeal Cert.MlpInnerReferenceIdeal.Gen Idealize.ShloMosaic.StableHlo

/-- The reference's stream after the attention's output projection. -/
abbrev refMid (h : FVec Ideal S32768x1024 .f32) (o : FVec Ideal S1024x32768 .bf16) (wo : FVec Ideal S1024x1024 .f32) :
    FVec Ideal S32768x1024 .f32 :=
  addf h (Host.dotGeneral dot_S32768x1024_S1024x1024_S32768x1024_1_0_0_1_n_n none
    (extf .f32 (transpose S32768x1024 [1, 0] o transposes_S1024x32768_S32768x1024_1_0) bitsLt_bf16_f32) wo)

/-- The reference's norm of a stream `x` with gain `g`. -/
abbrev refNorm (x : FVec Ideal S32768x1024 .f32) (g : FVec Ideal S1024 .f32) : FVec Ideal S32768x1024 .f32 :=
  mulf (mulf x (broadcastInDim S32768x1024 ![0, 1] bcast_S32768x1_S32768x1024_0_1
      (Host.rsqrt (addf (Host.divf (broadcastInDim S32768x1 ![0] bcast_S32768_S32768x1_0
          (Host.reduceAdd (mulf x x) (constant S_ .f32 0x00000000#32) reducesTo_S32768x1024_S32768_d1 h_S_))
          (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The positive part of the reference's hidden layer. -/
abbrev refHid (x : FVec Ideal S32768x1024 .f32) (up : FVec Ideal S1024x4096 .f32) : FVec Ideal S32768x4096 .f32 :=
  maximumf (Host.dotGeneral dot_S32768x1024_S1024x4096_S32768x4096_1_0_0_1_n_n none x up)
    (broadcastInDim S32768x4096 ![] bcast_S_S32768x4096 (constant S_ .f32 0x00000000#32))

/-- The reference's result, a row at a time. -/
theorem ref_apply (R : Fin 32768) (c : Fin 1024)
    (h : FVec Ideal S32768x1024 .f32) (o : FVec Ideal S1024x32768 .bf16) (wo : FVec Ideal S1024x1024 .f32) (g : FVec Ideal S1024 .f32)
    (up : FVec Ideal S1024x4096 .f32) (dn : FVec Ideal S4096x1024 .f32) :
    addf (refMid h o wo) (Host.dotGeneral dot_S32768x4096_S4096x1024_S32768x1024_1_0_0_1_n_n none
        (mulf (refHid (refNorm (refMid h o wo) g) up) (refHid (refNorm (refMid h o wo) g) up)) dn) (ix2 R c)
      = rowIn (fun k => h (ix2 R k)) (fun j => o (ix2 j R)) (fun j k => wo (ix2 j k)) (fun k => g (ix1 k))
          (fun k f => up (ix2 k f)) (fun f k => dn (ix2 f k)) c := by
  pointwise [rowIn, Cert.MlpValue.norm, scale, unit]

end Ref

open Cert.MlpInnerIdeal Cert.MlpInnerIdeal.Gen

theorem rowIn_congr {h h' o o' g g' : Fin 1024 → EReal} {wo wo' : Fin 1024 → Fin 1024 → EReal}
    {up up' : Fin 1024 → Fin 4096 → EReal} {dn dn' : Fin 4096 → Fin 1024 → EReal} {c c' : Fin 1024}
    (e0 : ∀ j, h j = h' j) (e1 : ∀ j, o j = o' j) (e2 : ∀ i j, wo i j = wo' i j) (e3 : ∀ j, g j = g' j)
    (e4 : ∀ j f, up j f = up' j f) (e5 : ∀ f j, dn f j = dn' f j) (e6 : c = c') :
    rowIn h o wo g up dn c = rowIn h' o' wo' g' up' dn' c' := by
  rw [funext e0, funext e1, funext₂ e2, funext e3, funext₂ e4, funext₂ e5, e6]

/-- What a grid point leaves in its output block, a row at a time. -/
theorem out_apply (x0 : Vec Ideal S512x1024 .f32) (x1 : Vec Ideal S1024x512 .bf16) (x2 : Vec Ideal S1024x1024 .bf16)
    (x3 : Vec Ideal S1x1024 .f32) (x4 : Vec Ideal S1024x4096 .bf16) (x5 : Vec Ideal S4096x1024 .bf16)
    (x6 : Vec Ideal S1x1024 .f32) (r : Fin 512) (c : Fin 1024) :
    out0_7 x0 x1 x2 x3 x4 x5 x6 (ix2 r c)
      = rowIn (fun k => x0 (ix2 r k)) (fun j => x1 (ix2 j r)) (fun j k => x2 (ix2 j k)) (fun k => x3 (ix2 0 k))
          (fun k f => x4 (ix2 k f)) (fun f k => x5 (ix2 f k)) c := by
  unfold out0_7 k0_pay9
  frame_out
  unfold rowIn
  rw [sum_eight]
  refine (body_apply _ _ _ _ ![View.ld x4 r0_4, View.ld x4 r0_6, View.ld x4 r0_8, View.ld x4 r0_10, View.ld x4 r0_12, View.ld x4 r0_14, View.ld x4 r0_16, View.ld x4 r0_18]
    ![View.ld x5 r0_5, View.ld x5 r0_7, View.ld x5 r0_9, View.ld x5 r0_11, View.ld x5 r0_13, View.ld x5 r0_15, View.ld x5 r0_17, View.ld x5 r0_19] r c _ fun _ => rfl).trans ?_
  dsimp only [Matrix.cons_val_zero, Matrix.cons_val_one, Matrix.cons_val]
  pointwise

/-- The blocks the eight windows name at each of the 64 points. -/
theorem idx : ∀ t : Fin grid0.N, win0_0.index t = ![(grid0.coords t 0).val, 0] ∧ win0_1.index t = ![0, (grid0.coords t 0).val]
    ∧ win0_2.index t = ![0, 0] ∧ win0_3.index t = ![0, 0] ∧ win0_4.index t = ![0, 0] ∧ win0_5.index t = ![0, 0]
    ∧ win0_6.index t = ![0, 0] ∧ win0_7.index t = ![(grid0.coords t 0).val, 0] := by
  decide +kernel

variable (m : (ℓ : Loc nD τ sig) → Buf (Elt Ideal) ℓ)

/-- The array the call returns, row by row, from the arguments as launched. -/
def result (c : Dev nD) : FVec Ideal S32768x1024 .f32 := fun i =>
  rowIn (fun k => (m ((c : Thread nD τ).loc main_arg0) : FVec Ideal S32768x1024 .f32) (ix2 (i 0) k))
    (fun j => (m ((c : Thread nD τ).loc main_arg1) : FVec Ideal S1024x32768 .bf16) (ix2 j (i 0)))
    (fun j k => (m ((c : Thread nD τ).loc main_arg2) : FVec Ideal S1024x1024 .f32) (ix2 j k))
    (fun k => (m ((c : Thread nD τ).loc main_arg3) : FVec Ideal S1024 .f32) (ix1 k))
    (fun k f => (m ((c : Thread nD τ).loc main_arg4) : FVec Ideal S1024x4096 .f32) (ix2 k f))
    (fun f k => (m ((c : Thread nD τ).loc main_arg5) : FVec Ideal S4096x1024 .f32) (ix2 f k)) (i 1)

theorem arr_eq (c : Dev nD) : (dats m 0 c).arrAt 7 cfg0.N = result m c := by
  refine (dats m 0 c).arrAt_eq_of_covers 7 _ (by decide +kernel) fun t hf y => ?_
  blk_simp
  rw [after0_7]
  obtain ⟨r, k, rfl⟩ : ∃ (r : Fin 512) (k : Fin 1024), y = ix2 r k := ⟨y 0, y 1, eq_ix2 y⟩
  refine (out_apply _ _ _ _ _ _ _ r k).trans ?_
  unfold result
  have hc : k = ((((cfg0.win 7).blk t).view.emb (ix2 r k)) 1 : Fin 1024) := by
    refine Fin.ext ?_
    blk_simp [idx t]
  refine rowIn_congr (fun j => ?_) (fun j => ?_) (fun i j => ?_) (fun j => ?_) (fun j f => ?_) (fun f j => ?_) hc
  · blk_ext [iblk, V, idx t]
  · blk_ext [iblk, V, idx t]
  · unfold iblk; entry_read; pointwise; blk_ext [idx t]
  · have e : (win0_3.blk t).view.emb (ix2 0 j) = ix2 0 j := by blk_ext [idx t]
    unfold iblk; entry_read; blk_simp; erw [e]; exact shapeCast_row _ _ _
  · unfold iblk; entry_read; pointwise; blk_ext [idx t]
  · unfold iblk; entry_read; pointwise; blk_ext [idx t]

/-- Both programs, from memories that agree on the arguments, end with the same result. -/
theorem algebraic : Cert.algebraic_MlpInnerIdeal_MlpInnerReferenceIdeal := by
  intro m g m' g' _ hm
  refine ⟨fun c => result m c, ?_, ?_⟩
  · refine (θ_run _ _ _).mono (fun r h c => ?_) (Cert.MlpInnerIdeal.Value.run_blocks m g)
    obtain ⟨h0, h1⟩ := h c
    exact ⟨h0.trans (arr_eq m c), h1⟩
  · refine (θ_run _ _ _).mono (fun r h c => ?_) (Cert.MlpInnerReferenceIdeal.Value.run m' g')
    obtain ⟨h0, h1⟩ := h c
    obtain ⟨e0, e1, e2, e3, e4, e5, e6⟩ := hm c
    rw [e0, e1, e2, e3, e4, e5] at h0
    refine ⟨h0.trans ?_, h1⟩
    funext i
    obtain ⟨R, k, rfl⟩ : ∃ (R : Fin 32768) (k : Fin 1024), i = ix2 R k := ⟨i 0, i 1, eq_ix2 i⟩
    exact ref_apply R k _ _ _ _ _ _

/-- The reference runs, changes no argument and holds no semaphore. -/
theorem quiescent_ref : Cert.quiescent_MlpInnerReferenceIdeal := by
  intro m g _
  refine (θ_run _ _ _).mono (fun r h => ⟨fun c => (h c).2, ?_⟩) (Cert.MlpInnerReferenceIdeal.Value.run m g)
  exact sem_eq_zero_of_no_sems rfl _

end Cert.MlpInnerValue

end
-- ==== Proof.QueryValue.lean ====
/- The query projection at the extended reals: each head's 64 rows are the scaled products of the normed stream with the
   head's columns of the weight, and the 16 rows below them are the bias rows as given. The body writes 32 such pieces;
   each is read by one of two lemmas, whichever head it belongs to. -/
module

public import proofs.«01_k».proof.Defs
public import proofs.«01_k».proof.Proof.MlpValue
public import proofs.«01_k».proof.Proof.Gen.QueryIdeal.Frame
public import proofs.«01_k».proof.Proof.Gen.QueryIdeal.Value
public import proofs.«01_k».proof.Proof.Gen.QueryReferenceIdeal.Run
public import Idealize.ShloMosaic.Lib.Pointwise
public import Idealize.ShloMosaic.Lib.Pipeline.ValueKit
public import Idealize.ShloMosaic.Lib.Quiescent

@[expose] public section

set_option maxRecDepth 16384

noncomputable section

namespace Cert.QueryValue

open Idealize.ShloMosaic Idealize.ShloMosaic.TcCoe Idealize.SL.Sem
open Cert.MlpValue (scale shapeCast_row)

/-- A token's scaled query, column `j` of all heads' columns. -/
def query (h g : Fin 1024 → EReal) (w : Fin 1024 → Fin 1024 → EReal) (j : Fin 1024) : EReal :=
  (∑ k, Cert.MlpValue.norm h g k * w k j) * Ideal.ofBits .f32 0x3E38AA3B#32

/-- Row `r` of a token's column: head `r / 80`, its 64 query entries above its 16 bias rows. -/
def entry (h g : Fin 1024 → EReal) (w : Fin 1024 → Fin 1024 → EReal) (b : Fin 256 → EReal) (r : Fin 1280) : EReal :=
  if r.val % 80 < 64 then query h g w (Fin.ofNat 1024 (64 * (r.val / 80) + r.val % 80))
  else b (Fin.ofNat 256 (16 * (r.val / 80) + (r.val % 80 - 64)))

theorem entry_query (h g : Fin 1024 → EReal) (w : Fin 1024 → Fin 1024 → EReal) (b : Fin 256 → EReal) (r : Fin 1280) (j : Fin 1024)
    (h1 : r.val % 80 < 64) (h2 : j.val = 64 * (r.val / 80) + r.val % 80) : entry h g w b r = query h g w j := by
  unfold entry
  rw [if_pos h1]
  refine congrArg (query h g w) (Fin.ext ?_)
  simp only [Fin.ofNat]
  omega

theorem entry_bias (h g : Fin 1024 → EReal) (w : Fin 1024 → Fin 1024 → EReal) (b : Fin 256 → EReal) (r : Fin 1280) (j : Fin 256)
    (h1 : 64 ≤ r.val % 80) (h2 : j.val = 16 * (r.val / 80) + (r.val % 80 - 64)) : entry h g w b r = b j := by
  unfold entry
  rw [if_neg (by omega)]
  refine congrArg b (Fin.ext ?_)
  simp only [Fin.ofNat]
  omega

section Ref

open Cert.QueryReferenceIdeal Cert.QueryReferenceIdeal.Gen Idealize.ShloMosaic.StableHlo

/-- The reference's scaled queries, one token a row. -/
abbrev refQuery (h : FVec Ideal S32768x1024 .f32) (g : FVec Ideal S1024 .f32) (w : FVec Ideal S1024x1024 .f32) :
    FVec Ideal S32768x1024 .f32 :=
  mulf (Host.dotGeneral dot_S32768x1024_S1024x1024_S32768x1024_1_0_0_1_n_n none
      (mulf (mulf h (broadcastInDim S32768x1024 ![0, 1] bcast_S32768x1_S32768x1024_0_1
          (Host.rsqrt (addf (Host.divf (broadcastInDim S32768x1 ![0] bcast_S32768_S32768x1_0
              (Host.reduceAdd (mulf h h) (constant S_ .f32 0x00000000#32) reducesTo_S32768x1024_S32768_d1 h_S_))
              (broadcastInDim S32768x1 ![] bcast_S_S32768x1 (constant S_ .f32 0x44800000#32)))
            (broadcastInDim S32768x1 ![] bcast_S_S32768x1 (constant S_ .f32 0x358637BD#32))))))
        (broadcastInDim S32768x1024 ![0, 1] bcast_S1x1024_S32768x1024_0_1 (broadcastInDim S1x1024 ![1] bcast_S1024_S1x1024_1 g))) w)
    (broadcastInDim S32768x1024 ![] bcast_S_S32768x1024 (constant S_ .f32 0x3E38AA3B#32))

theorem refQuery_apply (h : FVec Ideal S32768x1024 .f32) (g : FVec Ideal S1024 .f32) (w : FVec Ideal S1024x1024 .f32)
    (R : Fin 32768) (j : Fin 1024) :
    refQuery h g w (ix2 R j) = query (fun k => h (ix2 R k)) (fun k => g (ix1 k)) (fun k j => w (ix2 k j)) j := by
  pointwise [query, Cert.MlpValue.norm, scale]

/-- The reference's result at row `80 n + e`, head `n`: an entry of the head's queries or of its bias rows. -/
theorem ref_apply (h : FVec Ideal S32768x1024 .f32) (g : FVec Ideal S1024 .f32) (w : FVec Ideal S1024x1024 .f32)
    (b : FVec Ideal S256x32768 .bf16) (r : Fin 1280) (R : Fin 32768) :
    shapeCast S1280x32768 (concatenate S16x80x32768 1 [⟨S16x64x32768, (truncf .bf16 (shapeCast S16x64x32768
        (transpose S1024x32768 [1, 0] (refQuery h g w) transposes_S32768x1024_S1024x32768_1_0)
        shapeCasts_S1024x32768_S16x64x32768) bitsLt_bf16_f32)⟩,
      ⟨S16x16x32768, (shapeCast S16x16x32768 b shapeCasts_S256x32768_S16x16x32768)⟩]
        concatenates_S16x64x32768_S16x16x32768_S16x80x32768_d1) shapeCasts_S16x80x32768_S1280x32768 (ix2 r R)
      = entry (fun k => h (ix2 R k)) (fun k => g (ix1 k)) (fun k j => w (ix2 k j)) (fun i => b (ix2 i R)) r := by
  unfold entry
  generalize hQ : refQuery h g w = Q
  pointwise
  split
  · subst hQ
    rw [refQuery_apply]
    refine congrArg (query _ _ _) (Fin.ext ?_)
    show r.val / 80 * 64 + r.val % 80 = (64 * (r.val / 80) + r.val % 80) % 1024
    omega
  · refine congrArg (fun i => b (ix2 i R)) (Fin.ext ?_)
    show r.val / 80 * 16 + (r.val % 80 - 64) = (16 * (r.val / 80) + (r.val % 80 - 64)) % 256
    omega

end Ref

open Cert.QueryIdeal Cert.QueryIdeal.Gen

theorem pay2_apply (v0 : Vec Ideal S512x1024 .f32) (v1 : Vec Ideal S1x1024 .f32) (r : Fin 512) (k : Fin 1024) :
    k0_pay2 v0 v1 (ix2 r k) = Cert.MlpValue.norm (fun k => v0 (ix2 r k)) (fun k => v1 (ix2 0 k)) k := by
  pointwise [k0_pay2, Cert.MlpValue.norm, scale]

theorem pay16_apply (v0 : Vec Ideal S512x1024 .bf16) (w : Vec Ideal S1024x512 .bf16) (r : Fin 512) (j : Fin 512) :
    k0_pay16 v0 w (ix2 r j) = (∑ k : Fin 1024, v0 (ix2 r k) * w (ix2 k j)) * Ideal.ofBits .f32 0x3E38AA3B#32 := by
  pointwise [k0_pay16]

/-- The block a grid point leaves, entry by entry. -/
def block (x0 : Vec Ideal S512x1024 .f32) (x1 : Vec Ideal S1x1024 .f32) (x2 : Vec Ideal S1024x1024 .bf16)
    (x3 : Vec Ideal S256x512 .bf16) (y : S1280x512.Idx) : EReal :=
  entry (fun k => x0 (ix2 (y 1) k)) (fun k => x1 (ix2 0 k)) (fun k j => x2 (ix2 k j)) (fun i => x3 (ix2 i (y 1))) (y 0)

/-- Where a stored piece of whole rows puts its entry. -/
theorem piece_emb (n p : ℕ) (ip : ∀ a, ![p, 0] a + ![n, 512] a ≤ S1280x512.size a) (e : Fin n) (c : Fin 512) (r : Fin 1280)
    (hr : r.val = p + e.val) :
    (Rect.unit (s := S1280x512) ![p, 0] ![n, 512] ip).emb (ix2 e c) = ix2 r c := by
  funext a
  refine Fin.ext ?_
  rw [Rect.emb_apply]
  match a with
  | ⟨0, _⟩ => show p + 1 * e.val = r.val; omega
  | ⟨1, _⟩ => show 0 + 1 * c.val = c.val; omega

/-- A stored piece of bias rows. -/
theorem bias_piece (x0 : Vec Ideal S512x1024 .f32) (x1 : Vec Ideal S1x1024 .f32) (x2 : Vec Ideal S1024x1024 .bf16)
    (x3 : Vec Ideal S256x512 .bf16) (o p : ℕ) (io : ∀ a, ![o, 0] a + ![16, 512] a ≤ S256x512.size a)
    (ip : ∀ a, ![p, 0] a + ![16, 512] a ≤ S1280x512.size a) (h1 : p % 80 = 64) (h2 : o = 16 * (p / 80))
    (x : (Rect.unit (s := S1280x512) ![p, 0] ![16, 512] ip).shape.Idx) :
    View.ld x3 (Rect.unit (s := S256x512) ![o, 0] ![16, 512] io) x
      = block x0 x1 x2 x3 ((Rect.unit (s := S1280x512) ![p, 0] ![16, 512] ip).emb x) := by
  obtain ⟨e, c, rfl⟩ : ∃ (e : Fin 16) (c : Fin 512), x = ix2 e c := ⟨x 0, x 1, eq_ix2 x⟩
  have hp : p + 16 ≤ 1280 := ip 0
  have ho : o + 16 ≤ 256 := io 0
  have he := e.isLt
  rw [piece_emb 16 p ip e c ⟨p + e.val, by omega⟩ rfl]
  refine Eq.trans ?_ (entry_bias _ _ _ _ _ ⟨o + e.val, by omega⟩ (by show 64 ≤ (p + e.val) % 80; omega)
    (by show o + e.val = 16 * ((p + e.val) / 80) + ((p + e.val) % 80 - 64); omega)).symm
  refine congrArg x3 (funext fun a => Fin.ext ?_)
  match a with
  | ⟨0, _⟩ => show o + 1 * e.val = o + e.val; omega
  | ⟨1, _⟩ => show 0 + 1 * c.val = c.val; omega

/-- A head's columns of a product's half, transposed. -/
theorem slice_apply (a b : ℕ) (Y : FVec Ideal S512x512 .f32) (ha : S128x512.Slices ![a, 0] S64x512)
    (hb : S512x512.Slices ![0, b] S512x128) (e : Fin 64) (c : Fin 512) (j : Fin 512) (hj : j.val = b + (a + e.val)) :
    extractStridedSlice S64x512 ![a, 0] (truncf .bf16 (transpose S128x512 [1, 0] (extractStridedSlice S512x128 ![0, b] Y hb)
      transposes_S512x128_p1_0_S128x512) bitsLt_bf16_f32) ha (ix2 e c) = Y (ix2 c j) := by
  pointwise
  exact congrArg (fun i => Y (ix2 c i)) (Fin.ext hj.symm)

/-- A stored piece of a head's queries. -/
theorem query_piece (x0 : Vec Ideal S512x1024 .f32) (x1 : Vec Ideal S1x1024 .f32) (x2 : Vec Ideal S1024x1024 .bf16)
    (x3 : Vec Ideal S256x512 .bf16) (y0 : Vec Ideal S512x1024 .f32) (y1 : Vec Ideal S1x1024 .f32) (e0 : y0 = x0) (e1 : y1 = x1) (s a b p : ℕ) (is : ∀ a, ![0, s] a + ![1024, 512] a ≤ S1024x1024.size a)
    (ip : ∀ a, ![p, 0] a + ![64, 512] a ≤ S1280x512.size a) (ha : S128x512.Slices ![a, 0] S64x512)
    (hb : S512x512.Slices ![0, b] S512x128) (h1 : p % 80 = 0) (h2 : s + (b + a) = 64 * (p / 80)) (h3 : b + a ≤ 448)
    (x : (Rect.unit (s := S1280x512) ![p, 0] ![64, 512] ip).shape.Idx) :
    extractStridedSlice S64x512 ![a, 0] (truncf .bf16 (transpose S128x512 [1, 0] (extractStridedSlice S512x128 ![0, b]
        (k0_pay16 (k0_pay2 y0 y1) (View.ld x2 (Rect.unit (s := S1024x1024) ![0, s] ![1024, 512] is))) hb)
        transposes_S512x128_p1_0_S128x512) bitsLt_bf16_f32) ha x
      = block x0 x1 x2 x3 ((Rect.unit (s := S1280x512) ![p, 0] ![64, 512] ip).emb x) := by
  subst e0 e1
  obtain ⟨e, c, rfl⟩ : ∃ (e : Fin 64) (c : Fin 512), x = ix2 e c := ⟨x 0, x 1, eq_ix2 x⟩
  have hp : p + 64 ≤ 1280 := ip 0
  have hs : s + 512 ≤ 1024 := is 1
  have he := e.isLt
  rw [piece_emb 64 p ip e c ⟨p + e.val, by omega⟩ rfl]
  refine (slice_apply a b _ ha hb e c ⟨b + (a + e.val), by omega⟩ rfl).trans ?_
  refine Eq.trans ?_ (entry_query _ _ _ _ _ ⟨s + (b + (a + e.val)), by omega⟩ (by show (p + e.val) % 80 < 64; omega)
    (by show s + (b + (a + e.val)) = 64 * ((p + e.val) / 80) + (p + e.val) % 80; omega)).symm
  rw [pay16_apply]
  refine congrArg (· * Ideal.ofBits .f32 0x3E38AA3B#32) (Finset.sum_congr rfl fun k _ => ?_)
  rw [pay2_apply]
  refine congrArg (Cert.MlpValue.norm _ _ k * ·) (congrArg x2 (funext fun i => Fin.ext ?_))
  match i with
  | ⟨0, _⟩ => show 0 + 1 * k.val = k.val; omega
  | ⟨1, _⟩ => show s + 1 * (b + (a + e.val)) = s + (b + (a + e.val)); omega

variable (m : (ℓ : Loc nD τ sig) → Buf (Elt Ideal) ℓ)

/-- The two halves' products are one function. -/
theorem pay3_eq (v0 : Vec Ideal S512x1024 .f32) (v1 : Vec Ideal S1x1024 .f32) (w : Vec Ideal S1024x512 .bf16) :
    k0_pay3 v0 v1 w = k0_pay16 (k0_pay2 v0 v1) w := rfl

/-- What a grid point leaves in its output block. -/
theorem out_eq (c : Dev nD) (t : Fin cfg0.N) (y : S1280x512.Idx) :
    outsAt0 m c t y = block (iblk m c 0 t) (iblk m c 1 t) (iblk m c 2 t) (iblk m c 3 t) y := by
  unfold outsAt0 out0_A_4
  rw [View.read_writes_eq_canon _ _ _ (cover0_A_4 c _ _ _ _ _ _ _ _ _ _ _ _ _ _ _)]
  generalize iblk m c 0 t = x0
  generalize iblk m c 1 t = x1
  generalize iblk m c 2 t = x2
  generalize iblk m c 3 t = x3
  refine View.canon_apply_of_pieces (Val := Elt Ideal) (e := .bf16) (block x0 x1 x2 x3) _ ?_ y
    (cover0_A_4 c _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5,
    kernelRun0_A.sl.r_6]
  simp only [View.readAt_eq_ld, Memref.IsWhole.read_unread]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1
  simp only [List.forall_mem_cons, List.not_mem_nil, false_implies, implies_true, and_true]
  dsimp only [k0_pay1, k0_pay4, k0_pay5, k0_pay6, k0_pay7, k0_pay8, k0_pay9, k0_pay10, k0_pay11, k0_pay12, k0_pay13, k0_pay14, k0_pay15,
    k0_pay17, k0_pay18, k0_pay19, k0_pay20, k0_pay21, k0_pay22, k0_pay23, k0_pay24, k0_pay25, k0_pay26, k0_pay27]
  simp only [pay3_eq]
  have hb := bias_piece x0 x1 x2 x3
  refine ⟨hb _ _ _ _ (by decide) (by decide), ?_, hb _ _ _ _ (by decide) (by decide), ?_,
    hb _ _ _ _ (by decide) (by decide), ?_, hb _ _ _ _ (by decide) (by decide), ?_,
    hb _ _ _ _ (by decide) (by decide), ?_, hb _ _ _ _ (by decide) (by decide), ?_,
    hb _ _ _ _ (by decide) (by decide), ?_, hb _ _ _ _ (by decide) (by decide), ?_,
    hb _ _ _ _ (by decide) (by decide), ?_, hb _ _ _ _ (by decide) (by decide), ?_,
    hb _ _ _ _ (by decide) (by decide), ?_, hb _ _ _ _ (by decide) (by decide), ?_,
    hb _ _ _ _ (by decide) (by decide), ?_, hb _ _ _ _ (by decide) (by decide), ?_,
    hb _ _ _ _ (by decide) (by decide), ?_, hb _ _ _ _ (by decide) (by decide), ?_⟩
  all_goals
    intro x
    exact query_piece x0 x1 x2 x3 _ _ l0 l1 _ _ _ _ _ _ _ _ (by decide) (by decide) (by decide) x

/-- The blocks the five windows name at each of the 64 points. -/
theorem idx : ∀ t : Fin grid0.N, win0_0.index t = ![(grid0.coords t 0).val, 0] ∧ win0_1.index t = ![0, 0]
    ∧ win0_2.index t = ![0, 0] ∧ win0_3.index t = ![0, (grid0.coords t 0).val] ∧ win0_4.index t = ![0, (grid0.coords t 0).val] := by
  decide +kernel

theorem entry_congr {h h' g g' : Fin 1024 → EReal} {w w' : Fin 1024 → Fin 1024 → EReal} {b b' : Fin 256 → EReal}
    {r r' : Fin 1280} (e0 : ∀ k, h k = h' k) (e1 : ∀ k, g k = g' k) (e2 : ∀ k j, w k j = w' k j) (e3 : ∀ i, b i = b' i)
    (e4 : r = r') : entry h g w b r = entry h' g' w' b' r' := by
  rw [funext e0, funext e1, funext₂ e2, funext e3, e4]

/-- The array the call returns, token by token, from the arguments as launched. -/
def result (c : Dev nD) : FVec Ideal S1280x32768 .bf16 := fun i =>
  entry (fun k => (m ((c : Thread nD τ).loc main_arg0) : FVec Ideal S32768x1024 .f32) (ix2 (i 1) k))
    (fun k => (m ((c : Thread nD τ).loc main_arg1) : FVec Ideal S1024 .f32) (ix1 k))
    (fun k j => (m ((c : Thread nD τ).loc main_arg2) : FVec Ideal S1024x1024 .f32) (ix2 k j))
    (fun r => (m ((c : Thread nD τ).loc main_arg3) : FVec Ideal S256x32768 .bf16) (ix2 r (i 1))) (i 0)

theorem arr_eq (c : Dev nD) : (dats m 0 c).arrAt 4 cfg0.N = result m c := by
  refine (dats m 0 c).arrAt_eq_of_covers 4 _ (by decide +kernel) fun t hf y => ?_
  blk_simp
  rw [after0_4]
  obtain ⟨r, k, rfl⟩ : ∃ (r : Fin 1280) (k : Fin 512), y = ix2 r k := ⟨y 0, y 1, eq_ix2 y⟩
  refine (out_eq m c t (ix2 r k)).trans ?_
  unfold result block
  have hc : r = ((((cfg0.win 4).blk t).view.emb (ix2 r k)) 0 : Fin 1280) := by
    refine Fin.ext ?_
    blk_simp [idx t]
  refine entry_congr (fun j => ?_) (fun j => ?_) (fun i j => ?_) (fun i => ?_) hc
  · blk_ext [iblk, V, idx t]
  · have e : (win0_1.blk t).view.emb (ix2 0 j) = ix2 0 j := by blk_ext [idx t]
    unfold iblk; entry_read; blk_simp; erw [e]; exact shapeCast_row _ _ _
  · unfold iblk; entry_read; pointwise; blk_ext [idx t]
  · blk_ext [iblk, V, idx t]

/-- Both programs, from memories that agree on the arguments, end with the same result. -/
theorem algebraic : Cert.algebraic_QueryIdeal_QueryReferenceIdeal := by
  intro m g m' g' _ hm
  refine ⟨fun c => result m c, ?_, ?_⟩
  · refine (θ_run _ _ _).mono (fun r h c => ?_) (Cert.QueryIdeal.Value.run_blocks m g)
    obtain ⟨h0, h1⟩ := h c
    exact ⟨h0.trans (arr_eq m c), h1⟩
  · refine (θ_run _ _ _).mono (fun r h c => ?_) (Cert.QueryReferenceIdeal.Value.run m' g')
    obtain ⟨h0, h1⟩ := h c
    obtain ⟨e0, e1, e2, e3⟩ := hm c
    rw [e0, e1, e2, e3] at h0
    refine ⟨h0.trans ?_, h1⟩
    funext i
    obtain ⟨r, R, rfl⟩ : ∃ (r : Fin 1280) (R : Fin 32768), i = ix2 r R := ⟨i 0, i 1, eq_ix2 i⟩
    exact ref_apply _ _ _ _ r R

/-- The reference runs, changes no argument and holds no semaphore. -/
theorem quiescent_ref : Cert.quiescent_QueryReferenceIdeal := by
  intro m g _
  refine (θ_run _ _ _).mono (fun r h => ⟨fun c => (h c).2, ?_⟩) (Cert.QueryReferenceIdeal.Value.run m g)
  exact sem_eq_zero_of_no_sems rfl _

end Cert.QueryValue

end
-- ==== Proof.ProjectBody.lean ====
/- The input projection of a sparse-attention layer, block by block at the extended reals: what each of the six outputs of
   the call holds after a grid point, in terms of that point's operand blocks. -/
module

public import proofs.«01_k».proof.Proof.MlpValue
public import proofs.«01_k».proof.Proof.Gen.ProjectIdeal.Frame
public import proofs.«01_k».proof.Proof.Gen.ProjectIdeal.Value
public import Idealize.ShloMosaic.Lib.Pointwise
public import Idealize.ShloMosaic.Lib.Pipeline.ValueKit

@[expose] public section

set_option maxRecDepth 16384

noncomputable section

namespace Cert.ProjectValue

open Idealize.ShloMosaic Idealize.ShloMosaic.TcCoe Idealize.SL.Sem
open Cert.MlpValue (scale)

/-- The column a rotation pairs with column `a` of a 64-column head. -/
def partner (a : ℕ) : ℕ := if a % 64 < 32 then a + 32 else a - 32

open Cert.ProjectIdeal Cert.ProjectIdeal.Gen

/-- A token's product with column `j` of the call's weight. -/
def prod (x0 : Vec Ideal S512x1024 .f32) (x1 : Vec Ideal S1x1024 .f32) (x2 : Vec Ideal S1024x2304 .bf16) (r : Fin 512) (j : ℕ) : EReal :=
  ∑ k : Fin 1024, Cert.MlpValue.norm (fun k => x0 (ix2 r k)) (fun k => x1 (ix2 0 k)) k * x2 (ix2 k (Fin.ofNat 2304 j))

theorem norm_apply (v0 : Vec Ideal S512x1024 .f32) (v1 : Vec Ideal S1x1024 .f32) (r : Fin 512) (k : Fin 1024) :
    k0_pay4 v0 v1 (ix2 r k) = Cert.MlpValue.norm (fun k => v0 (ix2 r k)) (fun k => v1 (ix2 0 k)) k := by
  pointwise [k0_pay4, Cert.MlpValue.norm, scale]

theorem prod_512 (x0 : Vec Ideal S512x1024 .f32) (x1 : Vec Ideal S1x1024 .f32) (x2 : Vec Ideal S1024x2304 .bf16)
    (s : ℕ) (is : ∀ a, ![0, s] a + ![1024, 512] a ≤ S1024x2304.size a) (r : Fin 512) (j : Fin 512) :
    k0_pay18 (k0_pay4 x0 x1) (View.ld x2 (Rect.unit (s := S1024x2304) ![0, s] ![1024, 512] is)) (ix2 r j) = prod x0 x1 x2 r (s + j.val) := by
  have hs : s + 512 ≤ 2304 := is 1
  have e : ∀ (v : FVec Ideal S512x1024 .bf16) (w : Vec Ideal S1024x512 .bf16), k0_pay18 v w (ix2 r j) = ∑ k : Fin 1024, v (ix2 r k) * w (ix2 k j) := by
    intro v w
    pointwise [k0_pay18]
  rw [e]
  refine Finset.sum_congr rfl fun k _ => ?_
  rw [norm_apply]
  refine congrArg (Cert.MlpValue.norm _ _ k * ·) (congrArg x2 (funext fun i => Fin.ext ?_))
  match i with
  | ⟨0, _⟩ => show 0 + 1 * k.val = k.val; omega
  | ⟨1, _⟩ => show s + 1 * j.val = (s + j.val) % 2304; omega

theorem prod_256 (x0 : Vec Ideal S512x1024 .f32) (x1 : Vec Ideal S1x1024 .f32) (x2 : Vec Ideal S1024x2304 .bf16)
    (s : ℕ) (is : ∀ a, ![0, s] a + ![1024, 256] a ≤ S1024x2304.size a) (r : Fin 512) (j : Fin 256) :
    k0_pay24 (k0_pay4 x0 x1) (View.ld x2 (Rect.unit (s := S1024x2304) ![0, s] ![1024, 256] is)) (ix2 r j) = prod x0 x1 x2 r (s + j.val) := by
  have hs : s + 256 ≤ 2304 := is 1
  have e : ∀ (v : FVec Ideal S512x1024 .bf16) (w : Vec Ideal S1024x256 .bf16), k0_pay24 v w (ix2 r j) = ∑ k : Fin 1024, v (ix2 r k) * w (ix2 k j) := by
    intro v w
    pointwise [k0_pay24]
  rw [e]
  refine Finset.sum_congr rfl fun k _ => ?_
  rw [norm_apply]
  refine congrArg (Cert.MlpValue.norm _ _ k * ·) (congrArg x2 (funext fun i => Fin.ext ?_))
  match i with
  | ⟨0, _⟩ => show 0 + 1 * k.val = k.val; omega
  | ⟨1, _⟩ => show s + 1 * j.val = (s + j.val) % 2304; omega

/-- Two heads' columns turned over. -/
abbrev turned (z : FVec Ideal S128x512 .f32) : FVec Ideal S128x512 .f32 :=
  concatenate S128x512 0 [⟨S32x512, extractStridedSlice S32x512 ![32, 0] z slices_S128x512_o32_0_S32x512⟩,
    ⟨S32x512, extractStridedSlice S32x512 ![0, 0] z slices_S128x512_o0_0_S32x512⟩,
    ⟨S32x512, extractStridedSlice S32x512 ![96, 0] z slices_S128x512_o96_0_S32x512⟩,
    ⟨S32x512, extractStridedSlice S32x512 ![64, 0] z slices_S128x512_o64_0_S32x512⟩]
    concatenates_S32x512_S32x512_S32x512_S32x512_S128x512_d0

theorem turned_apply (z : FVec Ideal S128x512 .f32) (l : Fin 128) (r : Fin 512) :
    turned z (ix2 l r) = z (ix2 (Fin.ofNat 128 (partner l.val)) r) := by
  pointwise
  have hl := l.isLt
  have hp : (if l.val % 64 < 32 then l.val + 32 else l.val - 32) % 128 = if l.val % 64 < 32 then l.val + 32 else l.val - 32 := by
    split <;> omega
  split
  · refine congrArg (fun i => z (ix2 i r)) (Fin.ext ?_)
    show _ = partner l.val % 128
    unfold partner
    rw [hp]
    split <;> dsimp only <;> omega
  split
  · refine congrArg (fun i => z (ix2 i r)) (Fin.ext ?_)
    show _ = partner l.val % 128
    unfold partner
    rw [hp]
    split <;> dsimp only <;> omega
  split
  · refine congrArg (fun i => z (ix2 i r)) (Fin.ext ?_)
    show _ = partner l.val % 128
    unfold partner
    rw [hp]
    split <;> dsimp only <;> omega
  · refine congrArg (fun i => z (ix2 i r)) (Fin.ext ?_)
    show _ = partner l.val % 128
    unfold partner
    rw [hp]
    split <;> dsimp only <;> omega

theorem ki_apply (v15 : FVec Ideal S512x1024 .bf16) (v17 v19 : FVec Ideal S512x128 .f32)  (w : Vec Ideal S1024x128 .bf16) (r : Fin 512) (l : Fin 128) :
    k0_pay2 v15 v17 v19 k0_pay9 w (ix2 r l) = (∑ k : Fin 1024, v15 (ix2 r k) * w (ix2 k l)) * v17 (ix2 r l)
      + (∑ k : Fin 1024, v15 (ix2 r k) * w (ix2 k (Fin.ofNat 128 (partner l.val)))) * v19 (ix2 r l) := by
  pointwise [k0_pay2, k0_pay9]
  have hc : ∀ l : Fin 128, IntOp.cmpi .eq (IntOp.andi (BitVec.ofNat 32 l.val) 32#32) 0#32 = if l.val % 64 < 32 then 1#1 else 0#1 := by decide +kernel
  have hl := l.isLt
  rw [hc]
  refine congrArg₂ (· + ·) rfl (congrArg₂ (· * ·) ?_ rfl)
  by_cases h : l.val % 64 < 32
  · rw [if_pos h]
    refine Eq.trans (if_pos rfl) ?_
    refine Finset.sum_congr rfl fun k _ => congrArg (fun i => v15 (ix2 r k) * w (ix2 k i)) (Fin.ext ?_)
    show _ = partner l.val % 128
    unfold partner
    rw [if_pos h]
    dsimp only; omega
  · rw [if_neg h]
    refine Eq.trans (if_neg (by decide)) ?_
    refine Finset.sum_congr rfl fun k _ => congrArg (fun i => v15 (ix2 r k) * w (ix2 k i)) (Fin.ext ?_)
    show _ = partner l.val % 128
    unfold partner
    rw [if_neg h]
    dsimp only; omega

theorem wi_apply (v15 : FVec Ideal S512x1024 .bf16) (w : Vec Ideal S1024x128 .bf16) (r : Fin 512) (l : Fin 8) :
    k0_pay3 v15 w (ix2 l r) = (∑ k : Fin 1024, v15 (ix2 r k) * w (ix2 k (Fin.ofNat 128 l.val))) * Ideal.ofBits .f32 0x3D3504F3#32 := by
  pointwise [k0_pay3]
  have hl := l.isLt
  refine congrArg₂ (· * ·) (Finset.sum_congr rfl fun k _ => congrArg (fun i => v15 (ix2 r k) * w (ix2 k i)) (Fin.ext ?_)) rfl
  show l.val = l.val % 128
  omega

theorem ones_apply (l : Fin 16) (r : Fin 256) : k0_pay38 (F := Ideal) (ix3 0 l r) = if l.val = 0 then 1 else 0 := by
  pointwise [k0_pay38]
  have hc : ∀ l : Fin 16, IntOp.cmpi .eq (BitVec.ofNat 32 l.val) 0#32 = if l.val = 0 then 1#1 else 0#1 := by decide +kernel
  rw [hc]
  by_cases h : l.val = 0
  · rw [if_pos h, if_pos h]; rfl
  · rw [if_neg h, if_neg h]; rfl

variable (x0 : Vec Ideal S512x1024 .f32) (x1 : Vec Ideal S1x1024 .f32) (x2 : Vec Ideal S1024x2304 .bf16)
  (x3 x4 : Vec Ideal S512x128 .f32) (x5 x6 : Vec Ideal S128x512 .f32)
  (y0 : Vec Ideal S512x1024 .f32) (y1 : Vec Ideal S1x1024 .f32) (y3 y4 : Vec Ideal S512x128 .f32) (y5 y6 : Vec Ideal S128x512 .f32)

/-- A rotated column of a token, with the rotation's tables laid out head by head. -/
def spin (o : ℕ) (a : ℕ) (r : Fin 512) : EReal :=
  prod x0 x1 x2 r (o + a) * x5 (ix2 (Fin.ofNat 128 a) r) + prod x0 x1 x2 r (o + partner a) * x6 (ix2 (Fin.ofNat 128 a) r)

/-- Two heads' columns, rotated. -/
theorem spin_of (e5 : y5 = x5) (e6 : y6 = x6) (o p : ℕ) (hp : p % 128 = 0) (T : FVec Ideal S128x512 .f32)
    (hT : ∀ l r, T (ix2 l r) = prod x0 x1 x2 r (o + p + l.val)) (l : Fin 128) (r : Fin 512) :
    addf (mulf T (shapeCast S128x512 y5 shapeCasts_S128x512_S128x512)) (mulf (turned T) (shapeCast S128x512 y6 shapeCasts_S128x512_S128x512)) (ix2 l r)
      = spin x0 x1 x2 x5 x6 o (p + l.val) r := by
  subst e5 e6
  have hl := l.isLt
  have h1 : partner (p + l.val) = p + partner l.val := by unfold partner; split <;> split <;> omega
  have h2 : partner l.val < 128 := by unfold partner; split <;> omega
  have h3 : (Fin.ofNat 128 (partner l.val)).val = partner l.val := Nat.mod_eq_of_lt h2
  have h4 : Fin.ofNat 128 (p + l.val) = l := Fin.ext (by show (p + l.val) % 128 = l.val; omega)
  rw [shapeCast_self, shapeCast_self]
  show T (ix2 l r) * _ + turned T (ix2 l r) * _ = _
  rw [turned_apply, hT, hT, h3]
  unfold spin
  rw [h1, h4, Nat.add_assoc, Nat.add_assoc]

/-- Two heads' columns of a 512-column product, transposed. -/
theorem cols_512 (e0 : y0 = x0) (e1 : y1 = x1) (s b q : ℕ) (is : ∀ a, ![0, s] a + ![1024, 512] a ≤ S1024x2304.size a)
    (hb : S512x512.Slices ![0, b] S512x128) (hq : s + b = q) (h3 : b + 128 ≤ 512) (l : Fin 128) (r : Fin 512) :
    transpose S128x512 [1, 0] (extractStridedSlice S512x128 ![0, b] (k0_pay18 (k0_pay4 y0 y1)
      (View.ld x2 (Rect.unit (s := S1024x2304) ![0, s] ![1024, 512] is))) hb) transposes_S512x128_p1_0_S128x512 (ix2 l r)
      = prod x0 x1 x2 r (q + l.val) := by
  subst e0 e1 hq
  have e := prod_512 y0 y1 x2 s is r
  generalize k0_pay18 (k0_pay4 y0 y1) (View.ld x2 (Rect.unit (s := S1024x2304) ![0, s] ![1024, 512] is)) = Y at e ⊢
  pointwise
  rw [e]
  exact congrArg (prod _ _ _ r) (by show s + (b + l.val) = _; omega)

/-- Two heads' columns of a 256-column product, transposed. -/
theorem cols_256 (e0 : y0 = x0) (e1 : y1 = x1) (s b q : ℕ) (is : ∀ a, ![0, s] a + ![1024, 256] a ≤ S1024x2304.size a)
    (hb : S512x256.Slices ![0, b] S512x128) (hq : s + b = q) (h3 : b + 128 ≤ 256) (l : Fin 128) (r : Fin 512) :
    transpose S128x512 [1, 0] (extractStridedSlice S512x128 ![0, b] (k0_pay24 (k0_pay4 y0 y1)
      (View.ld x2 (Rect.unit (s := S1024x2304) ![0, s] ![1024, 256] is))) hb) transposes_S512x128_p1_0_S128x512 (ix2 l r)
      = prod x0 x1 x2 r (q + l.val) := by
  subst e0 e1 hq
  have e := prod_256 y0 y1 x2 s is r
  generalize k0_pay24 (k0_pay4 y0 y1) (View.ld x2 (Rect.unit (s := S1024x2304) ![0, s] ![1024, 256] is)) = Y at e ⊢
  pointwise
  rw [e]
  exact congrArg (prod _ _ _ r) (by show s + (b + l.val) = _; omega)

/-- A point's block of queries, at an index. -/
def qB (y : S1024x512.Idx) : EReal := spin x0 x1 x2 x5 x6 0 (y 0).val (y 1) * Ideal.ofBits .f32 0x3E38AA3B#32

/-- A point's block of keys. -/
def kB (y : S2x256x256.Idx) : EReal := spin x0 x1 x2 x5 x6 1024 (y 1).val (Fin.ofNat 512 (256 * (y 0).val + (y 2).val))

/-- A point's block of values, each head followed by a row of ones and fifteen rows of zeros. -/
def vB (y : S2x320x256.Idx) : EReal :=
  if (y 1).val % 80 < 64 then prod x0 x1 x2 (Fin.ofNat 512 (256 * (y 0).val + (y 2).val)) (1280 + (64 * ((y 1).val / 80) + (y 1).val % 80))
  else if (y 1).val % 80 = 64 then 1 else 0

/-- A point's block of indexer queries. -/
def qiB (y : S512x512.Idx) : EReal := spin x0 x1 x2 x5 x6 1536 (y 0).val (y 1)

/-- A point's block of indexer keys. -/
def kiB (y : S512x128.Idx) : EReal :=
  prod x0 x1 x2 (y 0) (2048 + (y 1).val) * x3 y + prod x0 x1 x2 (y 0) (2048 + partner (y 1).val) * x4 y

/-- A point's block of index weights. -/
def wiB (y : S8x512.Idx) : EReal := prod x0 x1 x2 (y 1) (2176 + (y 0).val) * Ideal.ofBits .f32 0x3D3504F3#32

/-- A stored piece of the queries. -/
theorem q_piece (e5 : y5 = x5) (e6 : y6 = x6) (p : ℕ) (ip : ∀ a, ![p, 0] a + ![128, 512] a ≤ S1024x512.size a) (hp : p % 128 = 0)
    (T : FVec Ideal S128x512 .f32) (hT : ∀ l r, T (ix2 l r) = prod x0 x1 x2 r (p + l.val))
    (x : (Rect.unit (s := S1024x512) ![p, 0] ![128, 512] ip).shape.Idx) :
    truncf (F := Ideal) .bf16 (mulf (addf (mulf T (shapeCast S128x512 y5 shapeCasts_S128x512_S128x512))
        (mulf (turned T) (shapeCast S128x512 y6 shapeCasts_S128x512_S128x512))) (broadcast S128x512 (Scalar.ofBits .f32 0x3E38AA3B#32))) bitsLt_bf16_f32 x
      = qB x0 x1 x2 x5 x6 ((Rect.unit (s := S1024x512) ![p, 0] ![128, 512] ip).emb x) := by
  obtain ⟨l, r, rfl⟩ : ∃ (l : Fin 128) (r : Fin 512), x = ix2 l r := ⟨x 0, x 1, eq_ix2 x⟩
  have e := spin_of x0 x1 x2 x5 x6 y5 y6 e5 e6 0 p hp T (fun l r => (hT l r).trans (by rw [Nat.zero_add])) l r
  refine Eq.trans (congrArg (· * Ideal.ofBits .f32 0x3E38AA3B#32) e) ?_
  refine congrArg (· * Ideal.ofBits .f32 0x3E38AA3B#32) ?_
  have h0 : (((Rect.unit (s := S1024x512) ![p, 0] ![128, 512] ip).emb (ix2 l r)) 0).val = p + l.val := by show p + 1 * l.val = _; omega
  have h1 : ((Rect.unit (s := S1024x512) ![p, 0] ![128, 512] ip).emb (ix2 l r)) 1 = r := Fin.ext (by show 0 + 1 * r.val = _; omega)
  rw [h0, h1]

/-- A stored piece of the indexer queries. -/
theorem qi_piece (e5 : y5 = x5) (e6 : y6 = x6) (p : ℕ) (ip : ∀ a, ![p, 0] a + ![128, 512] a ≤ S512x512.size a) (hp : p % 128 = 0)
    (T : FVec Ideal S128x512 .f32) (hT : ∀ l r, T (ix2 l r) = prod x0 x1 x2 r (1536 + p + l.val))
    (x : (Rect.unit (s := S512x512) ![p, 0] ![128, 512] ip).shape.Idx) :
    truncf (F := Ideal) .bf16 (addf (mulf T (shapeCast S128x512 y5 shapeCasts_S128x512_S128x512))
        (mulf (turned T) (shapeCast S128x512 y6 shapeCasts_S128x512_S128x512))) bitsLt_bf16_f32 x
      = qiB x0 x1 x2 x5 x6 ((Rect.unit (s := S512x512) ![p, 0] ![128, 512] ip).emb x) := by
  obtain ⟨l, r, rfl⟩ : ∃ (l : Fin 128) (r : Fin 512), x = ix2 l r := ⟨x 0, x 1, eq_ix2 x⟩
  refine Eq.trans (spin_of x0 x1 x2 x5 x6 y5 y6 e5 e6 1536 p hp T hT l r) ?_
  unfold qiB
  have h0 : (((Rect.unit (s := S512x512) ![p, 0] ![128, 512] ip).emb (ix2 l r)) 0).val = p + l.val := by show p + 1 * l.val = _; omega
  have h1 : ((Rect.unit (s := S512x512) ![p, 0] ![128, 512] ip).emb (ix2 l r)) 1 = r := Fin.ext (by show 0 + 1 * r.val = _; omega)
  rw [h0, h1]

/-- A stored piece of the keys. -/
theorem k_piece (e5 : y5 = x5) (e6 : y6 = x6) (i p o : ℕ) (ip : ∀ a, ![i, p, 0] a + ![1, 128, 256] a ≤ S2x256x256.size a) (hp : p % 128 = 0)
    (ho : S128x512.Slices ![0, o] S128x256) (hi : o = 256 * i)
    (T : FVec Ideal S128x512 .f32) (hT : ∀ l r, T (ix2 l r) = prod x0 x1 x2 r (1024 + p + l.val))
    (x : (Rect.unit (s := S2x256x256) ![i, p, 0] ![1, 128, 256] ip).shape.Idx) :
    shapeCast S1x128x256 (extractStridedSlice S128x256 ![0, o] (truncf (F := Ideal) .bf16 (addf (mulf T (shapeCast S128x512 y5 shapeCasts_S128x512_S128x512))
        (mulf (turned T) (shapeCast S128x512 y6 shapeCasts_S128x512_S128x512))) bitsLt_bf16_f32) ho) shapeCasts_S128x256_S1x128x256 x
      = kB x0 x1 x2 x5 x6 ((Rect.unit (s := S2x256x256) ![i, p, 0] ![1, 128, 256] ip).emb x) := by
  obtain ⟨z, l, j, rfl⟩ : ∃ (z : Fin 1) (l : Fin 128) (j : Fin 256), x = ix3 z l j := ⟨x 0, x 1, x 2, eq_ix3 x⟩
  have e := spin_of x0 x1 x2 x5 x6 y5 y6 e5 e6 1024 p hp T hT l
  have hi' : i + 1 ≤ 2 := ip 0
  have hj := j.isLt
  have hz := z.isLt
  generalize addf (mulf T (shapeCast S128x512 y5 shapeCasts_S128x512_S128x512))
        (mulf (turned T) (shapeCast S128x512 y6 shapeCasts_S128x512_S128x512)) = Y at e ⊢
  have h0 : (((Rect.unit (s := S2x256x256) ![i, p, 0] ![1, 128, 256] ip).emb (ix3 z l j)) 0).val = i := by show i + 1 * z.val = _; omega
  have h1 : (((Rect.unit (s := S2x256x256) ![i, p, 0] ![1, 128, 256] ip).emb (ix3 z l j)) 1).val = p + l.val := by show p + 1 * l.val = _; omega
  have h2 : (((Rect.unit (s := S2x256x256) ![i, p, 0] ![1, 128, 256] ip).emb (ix3 z l j)) 2).val = j.val := by show 0 + 1 * j.val = _; omega
  unfold kB
  rw [h0, h1, h2, ← e]
  pointwise
  exact congrArg (fun q => Y (ix2 l q)) (Fin.ext (by show o + j.val = (256 * i + j.val) % 512; omega))

/-- A stored piece of a head's values. -/
theorem v_piece (e0 : y0 = x0) (e1 : y1 = x1) (i p o w u : ℕ) (ip : ∀ a, ![i, p, 0] a + ![1, 64, 256] a ≤ S2x320x256.size a)
    (is : ∀ a, ![0, 1280] a + ![1024, 256] a ≤ S1024x2304.size a)
    (hu : S128x256.Slices ![u, 0] S64x256) (ho : S512x128.Slices ![o, 0] S256x128) (hw : S512x256.Slices ![0, w] S512x128)
    (h1 : o = 256 * i) (h2 : p % 80 = 0) (h3 : w + u = 64 * (p / 80)) (h4 : u + 64 ≤ 128) (h5 : w + 128 ≤ 256)
    (x : (Rect.unit (s := S2x320x256) ![i, p, 0] ![1, 64, 256] ip).shape.Idx) :
    shapeCast S1x64x256 (extractStridedSlice S64x256 ![u, 0] (truncf (F := Ideal) .bf16 (transpose S128x256 [1, 0]
        (extractStridedSlice S256x128 ![o, 0] (extractStridedSlice S512x128 ![0, w] (k0_pay24 (k0_pay4 y0 y1)
          (View.ld x2 (Rect.unit (s := S1024x2304) ![0, 1280] ![1024, 256] is))) hw) ho) transposes_S256x128_p1_0_S128x256) bitsLt_bf16_f32) hu)
        shapeCasts_S64x256_S1x64x256 x
      = vB x0 x1 x2 ((Rect.unit (s := S2x320x256) ![i, p, 0] ![1, 64, 256] ip).emb x) := by
  subst e0 e1
  obtain ⟨z, l, j, rfl⟩ : ∃ (z : Fin 1) (l : Fin 64) (j : Fin 256), x = ix3 z l j := ⟨x 0, x 1, x 2, eq_ix3 x⟩
  have e := prod_256 y0 y1 x2 1280 is
  generalize k0_pay24 (k0_pay4 y0 y1) (View.ld x2 (Rect.unit (s := S1024x2304) ![0, 1280] ![1024, 256] is)) = Y at e ⊢
  have hi' : i + 1 ≤ 2 := ip 0
  have hj := j.isLt
  have hl := l.isLt
  have hz := z.isLt
  have g0 : (((Rect.unit (s := S2x320x256) ![i, p, 0] ![1, 64, 256] ip).emb (ix3 z l j)) 0).val = i := by show i + 1 * z.val = _; omega
  have g1 : (((Rect.unit (s := S2x320x256) ![i, p, 0] ![1, 64, 256] ip).emb (ix3 z l j)) 1).val = p + l.val := by show p + 1 * l.val = _; omega
  have g2 : (((Rect.unit (s := S2x320x256) ![i, p, 0] ![1, 64, 256] ip).emb (ix3 z l j)) 2).val = j.val := by show 0 + 1 * j.val = _; omega
  unfold vB
  rw [g0, g1, g2, if_pos (by omega)]
  pointwise
  rw [e]
  have q1 : ∀ h, (⟨o + j.val, h⟩ : Fin 512) = Fin.ofNat 512 (256 * i + j.val) := fun h => Fin.ext (by show o + j.val = (256 * i + j.val) % 512; omega)
  rw [q1]
  exact congrArg (prod _ _ _ _) (by show 1280 + (w + (u + l.val)) = _; omega)

/-- A stored piece of ones and zeros. -/
theorem ones_piece (i p : ℕ) (ip : ∀ a, ![i, p, 0] a + ![1, 16, 256] a ≤ S2x320x256.size a) (hp : p % 80 = 64)
    (x : (Rect.unit (s := S2x320x256) ![i, p, 0] ![1, 16, 256] ip).shape.Idx) :
    k0_pay38 (F := Ideal) x = vB x0 x1 x2 ((Rect.unit (s := S2x320x256) ![i, p, 0] ![1, 16, 256] ip).emb x) := by
  obtain ⟨z, l, j, rfl⟩ : ∃ (z : Fin 1) (l : Fin 16) (j : Fin 256), x = ix3 z l j := ⟨x 0, x 1, x 2, eq_ix3 x⟩
  obtain rfl : z = 0 := Subsingleton.elim _ _
  have hl := l.isLt
  have g1 : (((Rect.unit (s := S2x320x256) ![i, p, 0] ![1, 16, 256] ip).emb (ix3 0 l j)) 1).val = p + l.val := by show p + 1 * l.val = _; omega
  unfold vB
  rw [g1, if_neg (by omega), ones_apply]
  by_cases h : l.val = 0
  · rw [if_pos h, if_pos (by omega)]
  · rw [if_neg h, if_neg (by omega)]

/-- The whole block of indexer keys. -/
theorem ki_piece (e0 : y0 = x0) (e1 : y1 = x1) (e3 : y3 = x3) (e4 : y4 = x4)
    (is : ∀ a, ![0, 2048] a + ![1024, 128] a ≤ S1024x2304.size a) (ip : ∀ a, ![0, 0] a + ![512, 128] a ≤ S512x128.size a)
    (x : (Rect.unit (s := S512x128) ![0, 0] ![512, 128] ip).shape.Idx) :
    k0_pay2 (k0_pay4 y0 y1) (shapeCast S512x128 y3 shapeCasts_S512x128_S512x128) (shapeCast S512x128 y4 shapeCasts_S512x128_S512x128) k0_pay9
        (View.ld x2 (Rect.unit (s := S1024x2304) ![0, 2048] ![1024, 128] is)) x
      = kiB x0 x1 x2 x3 x4 ((Rect.unit (s := S512x128) ![0, 0] ![512, 128] ip).emb x) := by
  subst e0 e1 e3 e4
  obtain ⟨r, l, rfl⟩ : ∃ (r : Fin 512) (l : Fin 128), x = ix2 r l := ⟨x 0, x 1, eq_ix2 x⟩
  have hl := l.isLt
  have g : (Rect.unit (s := S512x128) ![0, 0] ![512, 128] ip).emb (ix2 r l) = ix2 r l := by
    funext a
    refine Fin.ext ?_
    match a with
    | ⟨0, _⟩ => show 0 + 1 * r.val = r.val; omega
    | ⟨1, _⟩ => show 0 + 1 * l.val = l.val; omega
  have hs : ∀ i : Fin 128, (∑ k : Fin 1024, k0_pay4 y0 y1 (ix2 r k) * View.ld x2 (Rect.unit (s := S1024x2304) ![0, 2048] ![1024, 128] is) (ix2 k i))
      = prod y0 y1 x2 r (2048 + i.val) := by
    intro i
    refine Finset.sum_congr rfl fun k _ => ?_
    rw [norm_apply]
    refine congrArg (Cert.MlpValue.norm _ _ k * ·) (congrArg x2 (funext fun a => Fin.ext ?_))
    match a with
    | ⟨0, _⟩ => show 0 + 1 * k.val = k.val; omega
    | ⟨1, _⟩ => show 2048 + 1 * i.val = (2048 + i.val) % 2304; omega
  have h2 : (Fin.ofNat 128 (partner l.val)).val = partner l.val := Nat.mod_eq_of_lt (by unfold partner; split <;> omega)
  rw [g, ki_apply, hs, hs, h2, shapeCast_self, shapeCast_self]
  rfl

/-- The whole block of index weights. -/
theorem wi_piece (e0 : y0 = x0) (e1 : y1 = x1)
    (is : ∀ a, ![0, 2176] a + ![1024, 128] a ≤ S1024x2304.size a) (ip : ∀ a, ![0, 0] a + ![8, 512] a ≤ S8x512.size a)
    (x : (Rect.unit (s := S8x512) ![0, 0] ![8, 512] ip).shape.Idx) :
    k0_pay3 (k0_pay4 y0 y1) (View.ld x2 (Rect.unit (s := S1024x2304) ![0, 2176] ![1024, 128] is)) x
      = wiB x0 x1 x2 ((Rect.unit (s := S8x512) ![0, 0] ![8, 512] ip).emb x) := by
  subst e0 e1
  obtain ⟨l, r, rfl⟩ : ∃ (l : Fin 8) (r : Fin 512), x = ix2 l r := ⟨x 0, x 1, eq_ix2 x⟩
  have hl := l.isLt
  have g : (Rect.unit (s := S8x512) ![0, 0] ![8, 512] ip).emb (ix2 l r) = ix2 l r := by
    funext a
    refine Fin.ext ?_
    match a with
    | ⟨0, _⟩ => show 0 + 1 * l.val = l.val; omega
    | ⟨1, _⟩ => show 0 + 1 * r.val = r.val; omega
  rw [g, wi_apply]
  unfold wiB
  refine congrArg (· * Ideal.ofBits .f32 0x3D3504F3#32) (Finset.sum_congr rfl fun k _ => ?_)
  rw [norm_apply]
  refine congrArg (Cert.MlpValue.norm _ _ k * ·) (congrArg x2 (funext fun a => Fin.ext ?_))
  match a with
  | ⟨0, _⟩ => show 0 + 1 * k.val = k.val; omega
  | ⟨1, _⟩ => show 2176 + 1 * (l.val % 128) = (2176 + l.val) % 2304; omega

end Cert.ProjectValue

end
-- ==== Proof.ProjectRef.lean ====
/- The reference of a sparse-attention layer's input projection, entry by entry. -/
module

public import proofs.«01_k».proof.Proof.MlpValue
public import proofs.«01_k».proof.Proof.Gen.ProjectReferenceIdeal.Run
public import Idealize.ShloMosaic.Lib.Pointwise

@[expose] public section

set_option maxRecDepth 16384

noncomputable section

namespace Cert.ProjectValue

open Idealize.ShloMosaic Idealize.ShloMosaic.TcCoe Idealize.SL.Sem
open Cert.MlpValue (scale)
open Cert.ProjectReferenceIdeal Cert.ProjectReferenceIdeal.Gen Cert.ProjectReferenceIdeal.Value Idealize.ShloMosaic.StableHlo

/-- A token's product with column `j` of the input weight. -/
def col (h g : Fin 1024 → EReal) (w : Fin 1024 → Fin 2120 → EReal) (j : ℕ) : EReal :=
  ∑ k, Cert.MlpValue.norm h g k * w k (Fin.ofNat 2120 j)

/-- The angles by which position `p` turns a head's pairs. -/
abbrev angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- Column `j` of a token's product after the rotation by position `p`, from the cosines and sines of every position. -/
def rot (C S : FVec Ideal S4096x32 .f32) (h g : Fin 1024 → EReal) (w : Fin 1024 → Fin 2120 → EReal) (p : Fin 4096) (j : ℕ) : EReal :=
  if j % 64 < 32 then col h g w j * C (ix2 p (Fin.ofNat 32 j)) - col h g w (j + 32) * S (ix2 p (Fin.ofNat 32 j))
  else col h g w (j - 32) * S (ix2 p (Fin.ofNat 32 j)) + col h g w j * C (ix2 p (Fin.ofNat 32 j))

theorem rot_lo (C S : FVec Ideal S4096x32 .f32) (h g : Fin 1024 → EReal) (w : Fin 1024 → Fin 2120 → EReal) {p q : Fin 4096} {d : Fin 32}
    {j a b : ℕ} (hj : j % 64 < 32) (ha : a = j) (hb : b = j + 32) (hq : q.val = p.val) (hd : d.val = j % 64) :
    col h g w a * C (ix2 q d) - col h g w b * S (ix2 q d) = rot C S h g w p j := by
  obtain rfl : q = p := Fin.ext hq
  obtain rfl : d = Fin.ofNat 32 j := Fin.ext (by show _ = j % 32; omega)
  subst ha hb
  exact (if_pos hj).symm

theorem rot_hi (C S : FVec Ideal S4096x32 .f32) (h g : Fin 1024 → EReal) (w : Fin 1024 → Fin 2120 → EReal) {p q : Fin 4096} {d : Fin 32}
    {j a b : ℕ} (hj : ¬ j % 64 < 32) (ha : a = j - 32) (hb : b = j) (hq : q.val = p.val) (hd : d.val = j % 64 - 32) :
    col h g w a * S (ix2 q d) + col h g w b * C (ix2 q d) = rot C S h g w p j := by
  obtain rfl : q = p := Fin.ext hq
  obtain rfl : d = Fin.ofNat 32 j := Fin.ext (by show _ = j % 32; omega)
  subst ha hb
  exact (if_neg hj).symm

variable (V0 : Valuation τ sig (Elt Ideal))

/-- The three arguments, as plain functions. -/
abbrev argH (R : Fin 32768) (k : Fin 1024) : EReal := (V0 (Proc.devRef .tc main_arg0) : FVec Ideal S32768x1024 .f32) (ix2 R k)
abbrev argG (k : Fin 1024) : EReal := (V0 (Proc.devRef .tc main_arg1) : FVec Ideal S1024 .f32) (ix1 k)
abbrev argW (k : Fin 1024) (j : Fin 2120) : EReal := (V0 (Proc.devRef .tc main_arg2) : FVec Ideal S1024x2120 .f32) (ix2 k j)

theorem v13_apply (R : Fin 32768) (j : Fin 2120) :
    (res_main_v13 V0 : FVec Ideal S32768x2120 .f32) (ix2 R j) = col (argH V0 R) (argG V0) (argW V0) j.val := by
  have e : Fin.ofNat 2120 j.val = j := Fin.ext (Nat.mod_eq_of_lt j.isLt)
  unfold col
  rw [e]
  generalize hh : (V0 (Proc.devRef .tc main_arg0) : FVec Ideal S32768x1024 .f32) = h
  generalize hg : (V0 (Proc.devRef .tc main_arg1) : FVec Ideal S1024 .f32) = g
  generalize hw : (V0 (Proc.devRef .tc main_arg2) : FVec Ideal S1024x2120 .f32) = w
  unfold res_main_v13
  erw [hh, hg, hw]
  unfold argH argG argW
  erw [hh, hg, hw]
  pointwise [Cert.MlpValue.norm, scale]

/-- The index weights. -/
theorem wi_ref (j : Fin 8) (R : Fin 32768) :
    (transpose S8x32768 [1, 0] (mulf (extractStridedSlice S32768x8 ![0, 2112] (res_main_v13 V0) slices_S32768x2120_S32768x8_0_2112) (broadcastInDim S32768x8 ![] bcast_S_S32768x8 (constant S_ .f32 0x3D3504F3#32))) transposes_S32768x8_S8x32768_1_0 : FVec Ideal S8x32768 .f32) (ix2 j R)
      = col (argH V0 R) (argG V0) (argW V0) (2112 + j.val) * Ideal.ofBits .f32 0x3D3504F3#32 := by
  have H := v13_apply V0 R
  generalize (res_main_v13 V0 : FVec Ideal S32768x2120 .f32) = z at H ⊢
  pointwise
  rw [H]

/-- The queries. -/
theorem q_ref (a : Fin 1024) (R : Fin 32768) :
    (truncf .bf16 (transpose S1024x32768 [1, 0] (shapeCast _ (mulf (concatenate S8x4096x16x64 3 [⟨S8x4096x16x32, (subf (mulf (res_main_v42 V0) (broadcastInDim S8x4096x16x32 ![0, 1, 2, 3] bcast_S1x4096x1x32_S8x4096x16x32_0_1_2_3 (res_main_v39 V0))) (mulf (res_main_v43 V0) (broadcastInDim S8x4096x16x32 ![0, 1, 2, 3] bcast_S1x4096x1x32_S8x4096x16x32_0_1_2_3 (res_main_v41 V0))))⟩, ⟨S8x4096x16x32, (addf (mulf (res_main_v42 V0) (broadcastInDim S8x4096x16x32 ![0, 1, 2, 3] bcast_S1x4096x1x32_S8x4096x16x32_0_1_2_3 (res_main_v41 V0))) (mulf (res_main_v43 V0) (broadcastInDim S8x4096x16x32 ![0, 1, 2, 3] bcast_S1x4096x1x32_S8x4096x16x32_0_1_2_3 (res_main_v39 V0))))⟩] concatenates_S8x4096x16x32_S8x4096x16x32_S8x4096x16x64_d3) (broadcastInDim S8x4096x16x64 ![] bcast_S_S8x4096x16x64 (constant S_ .f32 0x3E38AA3B#32))) shapeCasts_S8x4096x16x64_S32768x1024) transposes_S32768x1024_S1024x32768_1_0) bitsLt_bf16_f32 : FVec Ideal S1024x32768 .bf16) (ix2 a R)
      = rot (Host.cos angles) (Host.sin angles) (argH V0 R) (argG V0) (argW V0) (Fin.ofNat 4096 R.val) a.val * Ideal.ofBits .f32 0x3E38AA3B#32 := by
  have H := v13_apply V0
  unfold res_main_v42 res_main_v43 res_main_v39 res_main_v41 res_main_v20
  generalize (res_main_v13 V0 : FVec Ideal S32768x2120 .f32) = z at H ⊢
  unfold res_main_v37
  generalize (Host.cos angles : FVec Ideal S4096x32 .f32) = C
  generalize (Host.sin angles : FVec Ideal S4096x32 .f32) = S
  pointwise
  simp only [H]
  refine congrArg (· * Ideal.ofBits .f32 0x3E38AA3B#32) ?_
  split
  · exact rot_lo C S _ _ _ (by omega) (by rfl) (by omega) (by rfl) (by rfl)
  · exact rot_hi C S _ _ _ (by omega) (by omega) (by omega) (by rfl) (by rfl)

/-- The keys. -/
theorem k_ref (b : Fin 128) (d : Fin 256) (j : Fin 256) :
    (truncf .bf16 (transpose S128x256x256 [0, 2, 1] (shapeCast _ (concatenate S8x4096x4x64 3 [⟨S8x4096x4x32, (subf (mulf (res_main_v79 V0) (broadcastInDim S8x4096x4x32 ![0, 1, 2, 3] bcast_S1x4096x1x32_S8x4096x4x32_0_1_2_3 (res_main_v76 V0))) (mulf (res_main_v80 V0) (broadcastInDim S8x4096x4x32 ![0, 1, 2, 3] bcast_S1x4096x1x32_S8x4096x4x32_0_1_2_3 (res_main_v78 V0))))⟩, ⟨S8x4096x4x32, (addf (mulf (res_main_v79 V0) (broadcastInDim S8x4096x4x32 ![0, 1, 2, 3] bcast_S1x4096x1x32_S8x4096x4x32_0_1_2_3 (res_main_v78 V0))) (mulf (res_main_v80 V0) (broadcastInDim S8x4096x4x32 ![0, 1, 2, 3] bcast_S1x4096x1x32_S8x4096x4x32_0_1_2_3 (res_main_v76 V0))))⟩] concatenates_S8x4096x4x32_S8x4096x4x32_S8x4096x4x64_d3) shapeCasts_S8x4096x4x64_S128x256x256) transposes_S128x256x256_S128x256x256_0_2_1) bitsLt_bf16_f32 : FVec Ideal S128x256x256 .bf16) (ix3 b d j)
      = rot (Host.cos angles) (Host.sin angles) (argH V0 (Fin.ofNat 32768 (256 * b.val + j.val))) (argG V0) (argW V0) (Fin.ofNat 4096 (256 * b.val + j.val)) (1024 + d.val) := by
  have H := v13_apply V0
  unfold res_main_v79 res_main_v80 res_main_v76 res_main_v78 res_main_v57
  generalize (res_main_v13 V0 : FVec Ideal S32768x2120 .f32) = z at H ⊢
  unfold res_main_v74
  generalize (Host.cos angles : FVec Ideal S4096x32 .f32) = C
  generalize (Host.sin angles : FVec Ideal S4096x32 .f32) = S
  pointwise
  simp only [H]
  have e : ∀ h, (⟨b.val / 16 * 4096 + (b.val % 16 * 256 + j.val), h⟩ : Fin 32768) = Fin.ofNat 32768 (256 * b.val + j.val) :=
    fun h => Fin.ext (by show b.val / 16 * 4096 + (b.val % 16 * 256 + j.val) = (256 * b.val + j.val) % 32768; omega)
  have hp : b.val % 16 * 256 + j.val = (256 * b.val + j.val) % 4096 := by omega
  simp only [e]
  split
  · exact rot_lo C S _ _ _ (by omega) (by rfl) (by omega) hp (by show d.val % 64 = _; omega)
  · exact rot_hi C S _ _ _ (by omega) (by omega) (by omega) hp (by show d.val % 64 - 32 = _; omega)

/-- The indexer queries. -/
theorem qi_ref (a : Fin 512) (R : Fin 32768) :
    (truncf .bf16 (transpose S512x32768 [1, 0] (shapeCast _ (concatenate S8x4096x8x64 3 [⟨S8x4096x8x32, (subf (mulf (res_main_v114 V0) (broadcastInDim S8x4096x8x32 ![0, 1, 2, 3] bcast_S1x4096x1x32_S8x4096x8x32_0_1_2_3 (res_main_v111 V0))) (mulf (res_main_v115 V0) (broadcastInDim S8x4096x8x32 ![0, 1, 2, 3] bcast_S1x4096x1x32_S8x4096x8x32_0_1_2_3 (res_main_v113 V0))))⟩, ⟨S8x4096x8x32, (addf (mulf (res_main_v114 V0) (broadcastInDim S8x4096x8x32 ![0, 1, 2, 3] bcast_S1x4096x1x32_S8x4096x8x32_0_1_2_3 (res_main_v113 V0))) (mulf (res_main_v115 V0) (broadcastInDim S8x4096x8x32 ![0, 1, 2, 3] bcast_S1x4096x1x32_S8x4096x8x32_0_1_2_3 (res_main_v111 V0))))⟩] concatenates_S8x4096x8x32_S8x4096x8x32_S8x4096x8x64_d3) shapeCasts_S8x4096x8x64_S32768x512) transposes_S32768x512_S512x32768_1_0) bitsLt_bf16_f32 : FVec Ideal S512x32768 .bf16) (ix2 a R)
      = rot (Host.cos angles) (Host.sin angles) (argH V0 R) (argG V0) (argW V0) (Fin.ofNat 4096 R.val) (1536 + a.val) := by
  have H := v13_apply V0
  unfold res_main_v114 res_main_v115 res_main_v111 res_main_v113 res_main_v92
  generalize (res_main_v13 V0 : FVec Ideal S32768x2120 .f32) = z at H ⊢
  unfold res_main_v109
  generalize (Host.cos angles : FVec Ideal S4096x32 .f32) = C
  generalize (Host.sin angles : FVec Ideal S4096x32 .f32) = S
  pointwise
  simp only [H]
  split
  · exact rot_lo C S _ _ _ (by omega) (by rfl) (by omega) (by rfl) (by show a.val % 64 = _; omega)
  · exact rot_hi C S _ _ _ (by omega) (by omega) (by omega) (by rfl) (by show a.val % 64 - 32 = _; omega)

/-- The indexer key, twice. -/
theorem ki_ref (R : Fin 32768) (l : Fin 128) :
    (truncf .bf16 (concatenate S32768x128 1 [⟨S32768x64, (res_main_v162 V0)⟩, ⟨S32768x64, (res_main_v162 V0)⟩] concatenates_S32768x64_S32768x64_S32768x128_d1) bitsLt_bf16_f32 : FVec Ideal S32768x128 .bf16) (ix2 R l)
      = rot (Host.cos angles) (Host.sin angles) (argH V0 R) (argG V0) (argW V0) (Fin.ofNat 4096 R.val) (2048 + l.val % 64) := by
  have H := v13_apply V0
  unfold res_main_v162 res_main_v149 res_main_v150 res_main_v146 res_main_v148 res_main_v127
  generalize (res_main_v13 V0 : FVec Ideal S32768x2120 .f32) = z at H ⊢
  unfold res_main_v144
  generalize (Host.cos angles : FVec Ideal S4096x32 .f32) = C
  generalize (Host.sin angles : FVec Ideal S4096x32 .f32) = S
  pointwise
  simp only [H]
  have hl := l.isLt
  split
  · split
    · exact rot_lo C S _ _ _ (by omega) (by omega) (by omega) (by rfl) (by show l.val = _; omega)
    · exact rot_hi C S _ _ _ (by omega) (by omega) (by omega) (by rfl) (by show l.val - 32 = _; omega)
  · split
    · exact rot_lo C S _ _ _ (by omega) (by omega) (by omega) (by rfl) (by show l.val - 64 = _; omega)
    · exact rot_hi C S _ _ _ (by omega) (by omega) (by omega) (by rfl) (by show l.val - 64 - 32 = _; omega)

/-- The values. -/
theorem v_ref (b : Fin 128) (e : Fin 320) (j : Fin 256) :
    (truncf .bf16 (shapeCast _ ((concatenate S128x4x80x256 2 [⟨S128x4x64x256, ((transpose S128x4x64x256 [0, 2, 3, 1] (shapeCast _ (extractStridedSlice S32768x256 ![0, 1280] (res_main_v13 V0) slices_S32768x2120_S32768x256_0_1280) shapeCasts_S32768x256_S128x256x4x64) transposes_S128x256x4x64_S128x4x64x256_0_2_3_1) : (⟨S128x4x64x256, .f32⟩ : BufTy).Contents (Elt Ideal))⟩, ⟨S128x4x1x256, ((broadcastInDim S128x4x1x256 ![] bcast_S_S128x4x1x256 (constant (F := Ideal) S_ .f32 0x3F800000#32)) : (⟨S128x4x1x256, .f32⟩ : BufTy).Contents (Elt Ideal))⟩, ⟨S128x4x15x256, ((broadcastInDim S128x4x15x256 ![] bcast_S_S128x4x15x256 (constant (F := Ideal) S_ .f32 0x00000000#32)) : (⟨S128x4x15x256, .f32⟩ : BufTy).Contents (Elt Ideal))⟩] concatenates_S128x4x64x256_S128x4x1x256_S128x4x15x256_S128x4x80x256_d2 : (⟨S128x4x80x256, .f32⟩ : BufTy).Contents (Elt Ideal))) shapeCasts_S128x4x80x256_S128x320x256) bitsLt_bf16_f32 : FVec Ideal S128x320x256 .bf16) (ix3 b e j)
      = if e.val % 80 < 64 then col (argH V0 (Fin.ofNat 32768 (256 * b.val + j.val))) (argG V0) (argW V0) (1280 + (64 * (e.val / 80) + e.val % 80))
        else if e.val % 80 = 64 then 1 else 0 := by
  have H := v13_apply V0
  generalize (res_main_v13 V0 : FVec Ideal S32768x2120 .f32) = z at H ⊢
  pointwise
  simp only [H]
  have hR : ∀ h, (⟨b.val * 256 + j.val, h⟩ : Fin 32768) = Fin.ofNat 32768 (256 * b.val + j.val) :=
    fun h => Fin.ext (by show b.val * 256 + j.val = (256 * b.val + j.val) % 32768; omega)
  have hc : e.val / 80 * 64 = 64 * (e.val / 80) := Nat.mul_comm _ _
  simp only [hR, hc]
  by_cases h : e.val % 80 < 64
  · rw [dif_pos h, if_pos h]
  · rw [dif_neg h, if_neg h]
    by_cases h' : e.val % 80 = 64
    · rw [dif_pos (by omega), if_pos h']
    · rw [dif_neg (by omega), if_neg h']

end Cert.ProjectValue

end
-- ==== Proof.ProjectHost.lean ====
/- The input projection of a sparse-attention layer: what the call's operand blocks hold at a grid point, from the arguments
   as launched. -/
module

public import proofs.«01_k».proof.Proof.ProjectBody
public import proofs.«01_k».proof.Proof.ProjectRef
public import Idealize.ShloMosaic.Lib.StableHlo.RunRead

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

/-- The blocks the thirteen windows name at each of the 64 points. -/
theorem idx : ∀ t : Fin grid0.N, win0_0.index t = ![(grid0.coords t 0).val, 0] ∧ win0_1.index t = ![0, 0]
    ∧ win0_2.index t = ![0, 0] ∧ win0_3.index t = ![(grid0.coords t 0).val % 8, 0] ∧ win0_4.index t = ![(grid0.coords t 0).val % 8, 0]
    ∧ win0_5.index t = ![0, (grid0.coords t 0).val % 8] ∧ win0_6.index t = ![0, (grid0.coords t 0).val % 8]
    ∧ win0_7.index t = ![0, (grid0.coords t 0).val] ∧ win0_8.index t = ![(grid0.coords t 0).val, 0, 0]
    ∧ win0_9.index t = ![(grid0.coords t 0).val, 0, 0] ∧ win0_10.index t = ![0, (grid0.coords t 0).val]
    ∧ win0_11.index t = ![(grid0.coords t 0).val, 0] ∧ win0_12.index t = ![0, (grid0.coords t 0).val] := by
  decide +kernel

/-- The arguments as launched, as plain functions. -/
abbrev aH (c : Dev nD) (R : Fin 32768) (k : Fin 1024) : EReal := (m ((c : Thread nD τ).loc main_arg0) : FVec Ideal S32768x1024 .f32) (ix2 R k)
abbrev aG (c : Dev nD) (k : Fin 1024) : EReal := (m ((c : Thread nD τ).loc main_arg1) : FVec Ideal S1024 .f32) (ix1 k)
abbrev aW (c : Dev nD) (k : Fin 1024) (j : Fin 2120) : EReal := (m ((c : Thread nD τ).loc main_arg2) : FVec Ideal S1024x2120 .f32) (ix2 k j)

/-- Row `r` of a point's tokens, among all tokens. -/
def token (t : Fin cfg0.N) (r : Fin 512) : Fin 32768 := Fin.ofNat 32768 (512 * (grid0.coords t 0).val + r.val)

/-- The host operations before the call. -/
abbrev line : List (HloOp τ sig (Elt Ideal)) := hostOps0 ++ (hostOps0_1 ++ hostOps0_2)

theorem V_line (c : Dev nD) (b : Ref sig .tc) : V m c b = StableHlo.after line (fun b => m (c, b)) (Proc.devRef .tc b) := rfl

theorem V23 (c : Dev nD) : (V m c main_v23 : FVec Ideal S1x1024 .f32) = shapeCast S1x1024 (m ((c : Thread nD τ).loc main_arg1) : FVec Ideal S1024 .f32) shapeCasts_S1024_S1x1024 := by
  rw [V_line]
  after_reads_simp
  rfl

/-- The cosines, a position's 32 four times over. -/
def cosTab (C : FVec Ideal S4096x32 .f32) : FVec Ideal S4096x128 .f32 :=
  concatenate S4096x128 1 [⟨S4096x32, C⟩, ⟨S4096x32, C⟩, ⟨S4096x32, C⟩, ⟨S4096x32, C⟩] concatenates_S4096x32_S4096x32_S4096x32_S4096x32_S4096x128_d1

/-- The sines, every other 32 with its sign turned. -/
def sinTab (S : FVec Ideal S4096x32 .f32) : FVec Ideal S4096x128 .f32 :=
  concatenate S4096x128 1 [⟨S4096x32, Host.negf S⟩, ⟨S4096x32, S⟩, ⟨S4096x32, Host.negf S⟩, ⟨S4096x32, S⟩]
    concatenates_S4096x32_S4096x32_S4096x32_S4096x32_S4096x128_d1

/-- The index weights' columns, filled up to 128. -/
def wPad (w : FVec Ideal S1024x2120 .f32) : FVec Ideal S1024x128 .f32 :=
  pad S1024x128 ![0, 0] ![0, 120] ![0, 0] (extractStridedSlice S1024x8 ![0, 2112] w slices_S1024x2120_S1024x8_0_2112)
    (sitofp .f32 (constantI S_ 32 0#32)) pads_S1024x8_S1024x128_000_01200 h_S_

/-- The input weight with the indexer key's columns twice and the index weights' columns filled up to 128. -/
def wTab (w : FVec Ideal S1024x2120 .f32) : FVec Ideal S1024x2304 .bf16 :=
  truncf .bf16 (concatenate S1024x2304 1 [⟨S1024x2048, extractStridedSlice S1024x2048 ![0, 0] w slices_S1024x2120_S1024x2048_0_0⟩,
    ⟨S1024x64, extractStridedSlice S1024x64 ![0, 2048] w slices_S1024x2120_S1024x64_0_2048⟩,
    ⟨S1024x64, extractStridedSlice S1024x64 ![0, 2048] w slices_S1024x2120_S1024x64_0_2048⟩,
    ⟨S1024x128, wPad w⟩]
    concatenates_S1024x2048_S1024x64_S1024x64_S1024x128_S1024x2304_d1) bitsLt_bf16_f32

theorem V19 (c : Dev nD) : (V m c main_v19 : FVec Ideal S4096x128 .f32) = cosTab (Host.cos angles) := by
  have e : StableHlo.upto line (fun b => m (c, b)) 24 (Proc.devRef .tc main_v17) = Host.cos angles := by
    after_reads_simp
  rw [V_line]
  after_reads_simp
  dsimp only [Matrix.cons_val_zero, Matrix.cons_val_one, Matrix.cons_val]
  rw [e]
  rfl

theorem V22 (c : Dev nD) : (V m c main_v22 : FVec Ideal S4096x128 .f32) = sinTab (Host.sin angles) := by
  have e : StableHlo.upto line (fun b => m (c, b)) 27 (Proc.devRef .tc main_v18) = Host.sin angles := by
    after_reads_simp
  have e0 : StableHlo.upto line (fun b => m (c, b)) 27 (Proc.devRef .tc main_v20) = Host.negf (Host.sin angles) := by
    after_reads_simp
  have e1 : StableHlo.upto line (fun b => m (c, b)) 27 (Proc.devRef .tc main_v21) = Host.negf (Host.sin angles) := by
    after_reads_simp
  rw [V_line]
  after_reads_simp
  dsimp only [Matrix.cons_val_zero, Matrix.cons_val_one, Matrix.cons_val]
  rw [e, e0, e1]
  rfl

theorem V31 (c : Dev nD) : (V m c main_v31 : FVec Ideal S128x4096 .f32) = transpose S128x4096 [1, 0] (cosTab (Host.cos angles)) transposes_S4096x128_S128x4096_1_0 := by
  rw [← V19 m c, V_line, V_line]
  after_reads_simp

theorem V32 (c : Dev nD) : (V m c main_v32 : FVec Ideal S128x4096 .f32) = transpose S128x4096 [1, 0] (sinTab (Host.sin angles)) transposes_S4096x128_S128x4096_1_0 := by
  rw [← V22 m c, V_line, V_line]
  after_reads_simp

theorem V30 (c : Dev nD) : (V m c main_v30 : FVec Ideal S1024x2304 .bf16) = wTab (m ((c : Thread nD τ).loc main_arg2)) := by
  have e25 : StableHlo.upto line (fun b => m (c, b)) 36 (Proc.devRef .tc main_v25) = extractStridedSlice S1024x2048 ![0, 0] (m ((c : Thread nD τ).loc main_arg2) : FVec Ideal S1024x2120 .f32) slices_S1024x2120_S1024x2048_0_0 := by
    after_reads_simp
  have e26 : StableHlo.upto line (fun b => m (c, b)) 36 (Proc.devRef .tc main_v26) = extractStridedSlice S1024x64 ![0, 2048] (m ((c : Thread nD τ).loc main_arg2) : FVec Ideal S1024x2120 .f32) slices_S1024x2120_S1024x64_0_2048 := by
    after_reads_simp
  have e27 : StableHlo.upto line (fun b => m (c, b)) 36 (Proc.devRef .tc main_v27) = extractStridedSlice S1024x64 ![0, 2048] (m ((c : Thread nD τ).loc main_arg2) : FVec Ideal S1024x2120 .f32) slices_S1024x2120_S1024x64_0_2048 := by
    after_reads_simp
  have e28 : StableHlo.upto line (fun b => m (c, b)) 36 (Proc.devRef .tc main_v28) = wPad (m ((c : Thread nD τ).loc main_arg2)) := by
    after_reads_simp
    rfl
  rw [V_line]
  after_reads_simp
  dsimp only [Matrix.cons_val_zero, Matrix.cons_val_one, Matrix.cons_val]
  rw [e25, e26, e27, e28]
  rfl

theorem cosTab_apply (C : FVec Ideal S4096x32 .f32) (p : Fin 4096) (l : Fin 128) : cosTab C (ix2 p l) = C (ix2 p (Fin.ofNat 32 l.val)) := by
  have hl := l.isLt
  pointwise [cosTab]
  split
  · exact congrArg (fun i => C (ix2 p i)) (Fin.ext (by show l.val = l.val % 32; omega))
  split
  · exact congrArg (fun i => C (ix2 p i)) (Fin.ext (by show l.val - 32 = l.val % 32; omega))
  split
  · exact congrArg (fun i => C (ix2 p i)) (Fin.ext (by show l.val - 32 - 32 = l.val % 32; omega))
  · exact congrArg (fun i => C (ix2 p i)) (Fin.ext (by show l.val - 32 - 32 - 32 = l.val % 32; omega))

theorem sinTab_apply (S : FVec Ideal S4096x32 .f32) (p : Fin 4096) (l : Fin 128) :
    sinTab S (ix2 p l) = if l.val % 64 < 32 then -S (ix2 p (Fin.ofNat 32 l.val)) else S (ix2 p (Fin.ofNat 32 l.val)) := by
  have hl := l.isLt
  pointwise [sinTab]
  split
  · refine Eq.trans ?_ (if_pos (show l.val % 64 < 32 by omega)).symm
    exact congrArg (fun i => -S (ix2 p i)) (Fin.ext (by show l.val = l.val % 32; omega))
  split
  · refine Eq.trans ?_ (if_neg (show ¬l.val % 64 < 32 by omega)).symm
    exact congrArg (fun i => S (ix2 p i)) (Fin.ext (by show l.val - 32 = l.val % 32; omega))
  split
  · refine Eq.trans ?_ (if_pos (show l.val % 64 < 32 by omega)).symm
    exact congrArg (fun i => -S (ix2 p i)) (Fin.ext (by show l.val - 32 - 32 = l.val % 32; omega))
  · refine Eq.trans ?_ (if_neg (show ¬l.val % 64 < 32 by omega)).symm
    exact congrArg (fun i => S (ix2 p i)) (Fin.ext (by show l.val - 32 - 32 - 32 = l.val % 32; omega))

theorem wTab_apply (w : FVec Ideal S1024x2120 .f32) (k : Fin 1024) (j : Fin 2304) (hj : j.val < 2184) :
    wTab w (ix2 k j) = w (ix2 k (Fin.ofNat 2120 (if j.val < 2048 then j.val else if j.val < 2176 then 2048 + (j.val - 2048) % 64 else j.val - 64))) := by
  generalize hq : (if j.val < 2048 then j.val else if j.val < 2176 then 2048 + (j.val - 2048) % 64 else j.val - 64) = q
  have hv : (j.val < 2048 → q = j.val) ∧ (2048 ≤ j.val → j.val < 2176 → q = 2048 + (j.val - 2048) % 64) ∧ (2176 ≤ j.val → q = j.val - 64) := by
    rw [← hq]
    refine ⟨fun _ => ?_, fun _ _ => ?_, fun _ => ?_⟩ <;> repeat' split
    all_goals omega
  clear hq
  pointwise [wTab, wPad]
  split
  · exact congrArg (fun i => w (ix2 k i)) (Fin.ext (by show j.val = q % 2120; omega))
  split
  · exact congrArg (fun i => w (ix2 k i)) (Fin.ext (by show 2048 + (j.val - 2048) = q % 2120; omega))
  split
  · exact congrArg (fun i => w (ix2 k i)) (Fin.ext (by show 2048 + (j.val - 2048 - 64) = q % 2120; omega))
  split
  · exact congrArg (fun i => w (ix2 k i)) (Fin.ext (by show 2112 + (j.val - 2048 - 64 - 64) = q % 2120; omega))
  · exfalso
    omega

/-- The position of a point's token. -/
def pos (t : Fin cfg0.N) (r : Fin 512) : Fin 4096 := Fin.ofNat 4096 (token t r).val

theorem coord_lt (t : Fin cfg0.N) : (grid0.coords t 0).val < 64 := (grid0.coords t 0).isLt

theorem token_val (t : Fin cfg0.N) (r : Fin 512) : (token t r).val = 512 * (grid0.coords t 0).val + r.val := by
  have := coord_lt t
  have := r.isLt
  exact Nat.mod_eq_of_lt (by omega)

theorem pos_val (t : Fin cfg0.N) (r : Fin 512) : (pos t r).val = (grid0.coords t 0).val % 8 * 512 + r.val := by
  have := r.isLt
  show (token t r).val % 4096 = _
  rw [token_val]
  omega

theorem blk_h (c : Dev nD) (t : Fin cfg0.N) (r : Fin 512) (k : Fin 1024) : iblk m c 0 t (ix2 r k) = aH m c (token t r) k := by
  blk_ext [iblk, V, idx t]
  show (grid0.coords t 0).val * 512 + r.val = _
  rw [token_val, Nat.mul_comm]

theorem blk_g (c : Dev nD) (t : Fin cfg0.N) (k : Fin 1024) : iblk m c 1 t (ix2 0 k) = aG m c k := by
  have e : (win0_1.blk t).view.emb (ix2 0 k) = ix2 0 k := by blk_ext [idx t]
  show (V m c main_v23 : FVec Ideal S1x1024 .f32) ((win0_1.blk t).view.emb (ix2 0 k)) = _
  rw [V23]
  erw [e]
  exact Cert.MlpValue.shapeCast_row _ _ _

theorem blk_w (c : Dev nD) (t : Fin cfg0.N) (k : Fin 1024) (j : Fin 2304) :
    iblk m c 2 t (ix2 k j) = wTab (m ((c : Thread nD τ).loc main_arg2)) (ix2 k j) := by
  have e : (win0_2.blk t).view.emb (ix2 k j) = ix2 k j := by blk_ext [idx t]
  show (V m c main_v30 : FVec Ideal S1024x2304 .bf16) ((win0_2.blk t).view.emb (ix2 k j)) = _
  rw [V30]
  erw [e]

theorem blk_cos (c : Dev nD) (t : Fin cfg0.N) (r : Fin 512) (l : Fin 128) :
    iblk m c 3 t (ix2 r l) = Host.cos angles (ix2 (pos t r) (Fin.ofNat 32 l.val)) := by
  have e : (win0_3.blk t).view.emb (ix2 r l) = ix2 (pos t r) l := by
    blk_ext [idx t]
    exact (pos_val t r).symm
  show (V m c main_v19 : FVec Ideal S4096x128 .f32) ((win0_3.blk t).view.emb (ix2 r l)) = _
  rw [V19]
  erw [e]
  exact cosTab_apply _ _ _

theorem blk_sin (c : Dev nD) (t : Fin cfg0.N) (r : Fin 512) (l : Fin 128) :
    iblk m c 4 t (ix2 r l) = if l.val % 64 < 32 then -Host.sin angles (ix2 (pos t r) (Fin.ofNat 32 l.val))
      else Host.sin angles (ix2 (pos t r) (Fin.ofNat 32 l.val)) := by
  have e : (win0_4.blk t).view.emb (ix2 r l) = ix2 (pos t r) l := by
    blk_ext [idx t]
    exact (pos_val t r).symm
  show (V m c main_v22 : FVec Ideal S4096x128 .f32) ((win0_4.blk t).view.emb (ix2 r l)) = _
  rw [V22]
  erw [e]
  exact sinTab_apply _ _ _

theorem blk_cosT (c : Dev nD) (t : Fin cfg0.N) (r : Fin 512) (l : Fin 128) :
    iblk m c 5 t (ix2 l r) = Host.cos angles (ix2 (pos t r) (Fin.ofNat 32 l.val)) := by
  have e : (win0_5.blk t).view.emb (ix2 l r) = ix2 l (pos t r) := by
    blk_ext [idx t]
    exact (pos_val t r).symm
  show (V m c main_v31 : FVec Ideal S128x4096 .f32) ((win0_5.blk t).view.emb (ix2 l r)) = _
  rw [V31]
  erw [e]
  exact (show transpose S128x4096 [1, 0] (cosTab (Host.cos angles)) transposes_S4096x128_S128x4096_1_0 (ix2 l (pos t r))
      = cosTab (Host.cos angles) (ix2 (pos t r) l) by pointwise []).trans (cosTab_apply _ (pos t r) l)

theorem blk_sinT (c : Dev nD) (t : Fin cfg0.N) (r : Fin 512) (l : Fin 128) :
    iblk m c 6 t (ix2 l r) = if l.val % 64 < 32 then -Host.sin angles (ix2 (pos t r) (Fin.ofNat 32 l.val))
      else Host.sin angles (ix2 (pos t r) (Fin.ofNat 32 l.val)) := by
  have e : (win0_6.blk t).view.emb (ix2 l r) = ix2 l (pos t r) := by
    blk_ext [idx t]
    exact (pos_val t r).symm
  show (V m c main_v32 : FVec Ideal S128x4096 .f32) ((win0_6.blk t).view.emb (ix2 l r)) = _
  rw [V32]
  erw [e]
  exact (show transpose S128x4096 [1, 0] (sinTab (Host.sin angles)) transposes_S4096x128_S128x4096_1_0 (ix2 l (pos t r))
      = sinTab (Host.sin angles) (ix2 (pos t r) l) by pointwise []).trans (sinTab_apply _ (pos t r) l)

/-- A column of a point's product is a column of the token's product with the input weight. -/
theorem prod_col (c : Dev nD) (t : Fin cfg0.N) (r : Fin 512) (j : ℕ) (hj : j < 2184) (q : ℕ)
    (hq : q = if j < 2048 then j else if j < 2176 then 2048 + (j - 2048) % 64 else j - 64) :
    prod (iblk m c 0 t) (iblk m c 1 t) (iblk m c 2 t) r j = col (aH m c (token t r)) (aG m c) (aW m c) q := by
  subst hq
  have ej : (Fin.ofNat 2304 j).val = j := Nat.mod_eq_of_lt (by omega)
  unfold prod col
  refine Finset.sum_congr rfl fun k _ => ?_
  have e0 : (fun k => iblk m c 0 t (ix2 r k)) = aH m c (token t r) := funext fun k => blk_h m c t r k
  have e1 : (fun k => iblk m c 1 t (ix2 0 k)) = aG m c := funext fun k => blk_g m c t k
  have e2 := (blk_w m c t k (Fin.ofNat 2304 j)).trans (wTab_apply _ k _ (by rw [ej]; exact hj))
  rw [ej] at e2
  exact congrArg₂ (· * ·) (congrArg₂ (fun a b => Cert.MlpValue.norm a b k) e0 e1) e2

/-- The rotation by the call's tables is the rotation by the token's position. -/
theorem turn_eq (C S : FVec Ideal S4096x32 .f32) (h g : Fin 1024 → EReal) (w : Fin 1024 → Fin 2120 → EReal) (p : Fin 4096) (j : ℕ)
    (x y : EReal) (hx : x = col h g w j) (hy : y = col h g w (if j % 64 < 32 then j + 32 else j - 32)) (d : Fin 32) (hd : d = Fin.ofNat 32 j) :
    x * C (ix2 p d) + y * (if j % 64 < 32 then -S (ix2 p d) else S (ix2 p d)) = rot C S h g w p j := by
  subst hx hy hd
  unfold rot
  by_cases hj : j % 64 < 32
  · simp only [if_pos hj]
    rw [mul_neg, sub_eq_add_neg]
  · simp only [if_neg hj]
    rw [add_comm]

theorem spin_rot (c : Dev nD) (t : Fin cfg0.N) (r : Fin 512) (o a : ℕ) (ho : o % 128 = 0) (ha : o + a < 2048) (hp : o + partner a < 2048) :
    spin (iblk m c 0 t) (iblk m c 1 t) (iblk m c 2 t) (iblk m c 5 t) (iblk m c 6 t) o a r
      = rot (Host.cos angles) (Host.sin angles) (aH m c (token t r)) (aG m c) (aW m c) (pos t r) (o + a) := by
  unfold spin
  have e5 := blk_cosT m c t r (Fin.ofNat 128 a)
  have e6 := blk_sinT m c t r (Fin.ofNat 128 a)
  have em : (Fin.ofNat 128 a).val % 64 = (o + a) % 64 := by show a % 128 % 64 = _; omega
  rw [em] at e6
  refine (congrArg₂ (· + ·) (congrArg (_ * ·) e5) (congrArg (_ * ·) e6)).trans ?_
  refine turn_eq _ _ _ _ _ _ _ _ _ (prod_col m c t r _ (by omega) _ (by rw [if_pos ha])) (prod_col m c t r _ (by omega) _ ?_) _ (Fin.ext ?_)
  · rw [if_pos hp]
    unfold partner
    split <;> split <;> omega
  · show a % 128 % 32 = (o + a) % 32
    omega

end Cert.ProjectValue

end
-- ==== Proof.ProjectQ.lean ====
/- The input projection of a sparse-attention layer: what a grid point leaves in its output blocks, queries. -/
module

public import proofs.«01_k».proof.Proof.ProjectBody

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

theorem pay10_eq (v0 : Vec Ideal S512x1024 .f32) (v1 : Vec Ideal S1x1024 .f32) (w : Vec Ideal S1024x512 .bf16) :
    k0_pay10 v0 v1 w = k0_pay18 (k0_pay4 v0 v1) w := rfl

set_option maxHeartbeats 1000000 in
/-- What a grid point leaves in its block of queries. -/
theorem q_eq (c : Dev nD) (t : Fin cfg0.N) (y : S1024x512.Idx) :
    (outsAt0 m c t).1 y = qB (iblk m c 0 t) (iblk m c 1 t) (iblk m c 2 t) (iblk m c 5 t) (iblk m c 6 t) y := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _)]
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (e := .bf16) (qB x0 x1 x2 x5 x6) _ ?_ y
    (cover0_A_7 c _ _ _ _ _ _ _ _ _ _ _ _ _ _ _ _ _ _ _ _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [View.readAt_eq_ld, Memref.IsWhole.read_unread]
  simp only [List.forall_mem_cons, List.not_mem_nil, false_implies, implies_true, and_true]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1
  have l5 : View.ld x5 (Rect.unit (s := S128x512) ![0, 0] ![128, 512] inb_S128x512_S128x512_0_0) = x5 := View.ld_unit_zero hz _ x5
  have l6 : View.ld x6 (Rect.unit (s := S128x512) ![0, 0] ![128, 512] inb_S128x512_S128x512_0_0) = x6 := View.ld_unit_zero hz _ x6
  dsimp only [k0_pay1, k0_pay5, k0_pay6, k0_pay7, k0_pay8, k0_pay11, k0_pay12, k0_pay13, k0_pay14, k0_pay15, k0_pay16, k0_pay17, k0_pay19, k0_pay20, k0_pay21, k0_pay22, k0_pay23, k0_pay25, k0_pay26, k0_pay27, k0_pay28, k0_pay29, k0_pay30, k0_pay31, k0_pay32, k0_pay33, k0_pay35, k0_pay36, k0_pay37, k0_pay39, k0_pay40, k0_pay42, k0_pay43, k0_pay45, k0_pay47, k0_pay48, k0_pay49, k0_pay51, k0_pay55, k0_pay56, k0_pay58, k0_pay62, k0_pay63, k0_pay64, k0_pay65, k0_pay66, k0_pay67, k0_pay68, k0_pay69]
  simp only [pay10_eq]
  refine ⟨?_, ?_, ?_, ?_, ?_, ?_, ?_, ?_⟩
  all_goals
    intro x
    exact q_piece x0 x1 x2 x5 x6 _ _ l5 l6 _ _ (by decide) _
      (fun l r => cols_512 x0 x1 x2 _ _ l0 l1 _ _ _ _ _ (by decide) (by decide) l r) x

end Cert.ProjectValue

end
-- ==== Proof.ProjectK.lean ====
/- The input projection of a sparse-attention layer: what a grid point leaves in its output blocks, keys. -/
module

public import proofs.«01_k».proof.Proof.ProjectBody

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

set_option maxHeartbeats 2000000 in
/-- What a grid point leaves in its block of keys. -/
theorem k_eq (c : Dev nD) (t : Fin cfg0.N) (y : S2x256x256.Idx) :
    (outsAt0 m c t).2.1 y = kB (iblk m c 0 t) (iblk m c 1 t) (iblk m c 2 t) (iblk m c 5 t) (iblk m c 6 t) y := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _)]
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (e := .bf16) (kB x0 x1 x2 x5 x6) _ ?_ y
    (cover0_A_8 c _ _ _ _ _ _ _ _ _ _ _ _ _ _ _ _ _ _ _ _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [View.readAt_eq_ld, Memref.IsWhole.read_unread]
  simp only [List.forall_mem_cons, List.not_mem_nil, false_implies, implies_true, and_true]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1
  have l5 : View.ld x5 (Rect.unit (s := S128x512) ![0, 0] ![128, 512] inb_S128x512_S128x512_0_0) = x5 := View.ld_unit_zero hz _ x5
  have l6 : View.ld x6 (Rect.unit (s := S128x512) ![0, 0] ![128, 512] inb_S128x512_S128x512_0_0) = x6 := View.ld_unit_zero hz _ x6
  dsimp only [k0_pay1, k0_pay5, k0_pay6, k0_pay7, k0_pay8, k0_pay11, k0_pay12, k0_pay13, k0_pay14, k0_pay15, k0_pay16, k0_pay17, k0_pay19, k0_pay20, k0_pay21, k0_pay22, k0_pay23, k0_pay25, k0_pay26, k0_pay27, k0_pay28, k0_pay29, k0_pay30, k0_pay31, k0_pay32, k0_pay33, k0_pay35, k0_pay36, k0_pay37, k0_pay39, k0_pay40, k0_pay42, k0_pay43, k0_pay45, k0_pay47, k0_pay48, k0_pay49, k0_pay51, k0_pay55, k0_pay56, k0_pay58, k0_pay62, k0_pay63, k0_pay64, k0_pay65, k0_pay66, k0_pay67, k0_pay68, k0_pay69]
  refine ⟨?_, ?_, ?_, ?_⟩
  all_goals
    intro x
    exact k_piece x0 x1 x2 x5 x6 _ _ l5 l6 _ _ _ _ (by decide) _ (by decide) _
      (fun l r => cols_256 x0 x1 x2 _ _ l0 l1 _ _ _ _ _ (by decide) (by decide) l r) x

end Cert.ProjectValue

end
-- ==== Proof.ProjectV.lean ====
/- The input projection of a sparse-attention layer: what a grid point leaves in its output blocks, values. -/
module

public import proofs.«01_k».proof.Proof.ProjectBody

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

theorem pay34_eq (v : FVec Ideal S512x1024 .bf16) (w : Vec Ideal S1024x256 .bf16) : k0_pay34 v w = k0_pay24 v w := rfl

set_option maxHeartbeats 2000000 in
/-- What a grid point leaves in its block of values. -/
theorem v_eq (c : Dev nD) (t : Fin cfg0.N) (y : S2x320x256.Idx) :
    (outsAt0 m c t).2.2.1 y = vB (iblk m c 0 t) (iblk m c 1 t) (iblk m c 2 t) y := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _)]
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (e := .bf16) (vB x0 x1 x2) _ ?_ y
    (cover0_A_9 c _ _ _ _ _ _ _ _ _ _ _ _ _ _ _ _ _ _ _ _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [View.readAt_eq_ld, Memref.IsWhole.read_unread]
  simp only [List.forall_mem_cons, List.not_mem_nil, false_implies, implies_true, and_true]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1
  dsimp only [k0_pay1, k0_pay5, k0_pay6, k0_pay7, k0_pay8, k0_pay11, k0_pay12, k0_pay13, k0_pay14, k0_pay15, k0_pay16, k0_pay17, k0_pay19, k0_pay20, k0_pay21, k0_pay22, k0_pay23, k0_pay25, k0_pay26, k0_pay27, k0_pay28, k0_pay29, k0_pay30, k0_pay31, k0_pay32, k0_pay33, k0_pay35, k0_pay36, k0_pay37, k0_pay39, k0_pay40, k0_pay42, k0_pay43, k0_pay45, k0_pay47, k0_pay48, k0_pay49, k0_pay51, k0_pay55, k0_pay56, k0_pay58, k0_pay62, k0_pay63, k0_pay64, k0_pay65, k0_pay66, k0_pay67, k0_pay68, k0_pay69]
  simp only [pay34_eq]
  have ho := ones_piece x0 x1 x2
  refine ⟨ho _ _ _ (by decide), ?_, ho _ _ _ (by decide), ?_, ho _ _ _ (by decide), ?_, ho _ _ _ (by decide), ?_,
    ho _ _ _ (by decide), ?_, ho _ _ _ (by decide), ?_, ho _ _ _ (by decide), ?_, ho _ _ _ (by decide), ?_⟩
  all_goals
    intro x
    exact v_piece x0 x1 x2 _ _ l0 l1 _ _ _ _ _ _ _ _ _ _ (by decide) (by decide) (by decide) (by decide) (by decide) x

end Cert.ProjectValue

end
-- ==== Proof.ProjectI.lean ====
/- The input projection of a sparse-attention layer: what a grid point leaves in its output blocks, indexer queries. -/
module

public import proofs.«01_k».proof.Proof.ProjectBody

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

theorem pay61_eq (v : FVec Ideal S512x1024 .bf16) (w : Vec Ideal S1024x512 .bf16) : k0_pay61 v w = k0_pay18 v w := rfl

set_option maxHeartbeats 2000000 in
/-- What a grid point leaves in its block of indexer queries. -/
theorem qi_eq (c : Dev nD) (t : Fin cfg0.N) (y : S512x512.Idx) :
    (outsAt0 m c t).2.2.2.1 y = qiB (iblk m c 0 t) (iblk m c 1 t) (iblk m c 2 t) (iblk m c 5 t) (iblk m c 6 t) y := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _)]
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (e := .bf16) (qiB x0 x1 x2 x5 x6) _ ?_ y
    (cover0_A_10 c _ _ _ _ _ _ _ _ _ _ _ _ _ _ _ _ _ _ _ _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [View.readAt_eq_ld, Memref.IsWhole.read_unread]
  simp only [List.forall_mem_cons, List.not_mem_nil, false_implies, implies_true, and_true]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1
  have l5 : View.ld x5 (Rect.unit (s := S128x512) ![0, 0] ![128, 512] inb_S128x512_S128x512_0_0) = x5 := View.ld_unit_zero hz _ x5
  have l6 : View.ld x6 (Rect.unit (s := S128x512) ![0, 0] ![128, 512] inb_S128x512_S128x512_0_0) = x6 := View.ld_unit_zero hz _ x6
  dsimp only [k0_pay1, k0_pay5, k0_pay6, k0_pay7, k0_pay8, k0_pay11, k0_pay12, k0_pay13, k0_pay14, k0_pay15, k0_pay16, k0_pay17, k0_pay19, k0_pay20, k0_pay21, k0_pay22, k0_pay23, k0_pay25, k0_pay26, k0_pay27, k0_pay28, k0_pay29, k0_pay30, k0_pay31, k0_pay32, k0_pay33, k0_pay35, k0_pay36, k0_pay37, k0_pay39, k0_pay40, k0_pay42, k0_pay43, k0_pay45, k0_pay47, k0_pay48, k0_pay49, k0_pay51, k0_pay55, k0_pay56, k0_pay58, k0_pay62, k0_pay63, k0_pay64, k0_pay65, k0_pay66, k0_pay67, k0_pay68, k0_pay69]
  simp only [pay61_eq]
  refine ⟨?_, ?_, ?_, ?_⟩
  all_goals
    intro x
    exact qi_piece x0 x1 x2 x5 x6 _ _ l5 l6 _ _ (by decide) _
      (fun l r => cols_512 x0 x1 x2 _ _ l0 l1 _ _ _ _ _ (by decide) (by decide) l r) x

end Cert.ProjectValue

end
-- ==== Proof.ProjectJ.lean ====
/- The input projection of a sparse-attention layer: what a grid point leaves in its output blocks, indexer keys. -/
module

public import proofs.«01_k».proof.Proof.ProjectBody

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

set_option maxHeartbeats 4000000 in
/-- What a grid point leaves in its block of indexer keys. -/
theorem ki_eq (c : Dev nD) (t : Fin cfg0.N) (y : S512x128.Idx) :
    (outsAt0 m c t).2.2.2.2.1 y = kiB (iblk m c 0 t) (iblk m c 1 t) (iblk m c 2 t) (iblk m c 3 t) (iblk m c 4 t) y := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _)]
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (e := .bf16) (kiB x0 x1 x2 x3 x4) _ ?_ y
    (cover0_A_11 c _ _ _ _ _ _ _ _ _ _ _ _ _ _ _ _ _ _ _ _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [View.readAt_eq_ld, Memref.IsWhole.read_unread]
  simp only [List.forall_mem_cons, List.not_mem_nil, false_implies, implies_true, and_true]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1
  have l3 : View.ld x3 (Rect.unit (s := S512x128) ![0, 0] ![512, 128] inb_S512x128_S512x128_0_0) = x3 := View.ld_unit_zero hz _ x3
  have l4 : View.ld x4 (Rect.unit (s := S512x128) ![0, 0] ![512, 128] inb_S512x128_S512x128_0_0) = x4 := View.ld_unit_zero hz _ x4
  dsimp only [k0_pay1, k0_pay5, k0_pay6, k0_pay7, k0_pay8, k0_pay11, k0_pay12, k0_pay13, k0_pay14, k0_pay15, k0_pay16, k0_pay17, k0_pay19, k0_pay20, k0_pay21, k0_pay22, k0_pay23, k0_pay25, k0_pay26, k0_pay27, k0_pay28, k0_pay29, k0_pay30, k0_pay31, k0_pay32, k0_pay33, k0_pay35, k0_pay36, k0_pay37, k0_pay39, k0_pay40, k0_pay42, k0_pay43, k0_pay45, k0_pay47, k0_pay48, k0_pay49, k0_pay51, k0_pay55, k0_pay56, k0_pay58, k0_pay62, k0_pay63, k0_pay64, k0_pay65, k0_pay66, k0_pay67, k0_pay68, k0_pay69]
  intro x
  exact ki_piece x0 x1 x2 x3 x4 _ _ _ _ l0 l1 l3 l4 _ _ x

end Cert.ProjectValue

end
-- ==== Proof.ProjectW.lean ====
/- The input projection of a sparse-attention layer: what a grid point leaves in its output blocks, index weights. -/
module

public import proofs.«01_k».proof.Proof.ProjectBody

@[expose] public section

set_option maxRecDepth 16384

noncomputable section

namespace Cert.ProjectValue

open Idealize.ShloMosaic Idealize.ShloMosaic.TcCoe Idealize.SL.Sem
open Cert.ProjectIdeal Cert.ProjectIdeal.Gen

variable (m : (ℓ : Loc nD τ sig) → Buf (Elt Ideal) ℓ)

set_option maxHeartbeats 20000000 in
/-- What a grid point leaves in its block of index weights. -/
theorem wi_eq (c : Dev nD) (t : Fin cfg0.N) (y : S8x512.Idx) :
    (outsAt0 m c t).2.2.2.2.2 y = wiB (iblk m c 0 t) (iblk m c 1 t) (iblk m c 2 t) y := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _)]
  generalize iblk m c 0 t = x0
  generalize iblk m c 1 t = x1
  generalize iblk m c 2 t = x2
  generalize iblk m c 3 t = x3
  generalize iblk m c 4 t = x4
  generalize iblk m c 5 t = x5
  generalize iblk m c 6 t = x6
  refine View.canon_apply_of_pieces (Val := Elt Ideal) (e := .f32) (wiB x0 x1 x2) _ ?_ y
    (cover0_A_12 c _ _ _ _ _ _ _ _ _ _ _ _ _ _ _ _ _ _ _ _ _ _ _ _ _ _ _ _ _ _ _ _ _ _ y)
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22]
  simp only [View.readAt_eq_ld, Memref.IsWhole.read_unread]
  simp only [List.forall_mem_cons, List.not_mem_nil, false_implies, implies_true, and_true]
  have hz : (![0, 0] : Fin 2 → ℕ) = fun _ => 0 := by decide
  have l0 : View.ld x0 (Rect.unit (s := S512x1024) ![0, 0] ![512, 1024] inb_S512x1024_S512x1024_0_0) = x0 := View.ld_unit_zero hz _ x0
  have l1 : View.ld x1 (Rect.unit (s := S1x1024) ![0, 0] ![1, 1024] inb_S1x1024_S1x1024_0_0) = x1 := View.ld_unit_zero hz _ x1

  intro x
  exact wi_piece x0 x1 x2 _ _ l0 l1 _ _ x

end Cert.ProjectValue

end
-- ==== Proof.ProjectValue.lean ====
/- The input projection of a sparse-attention layer: the six arrays of the call, assembled from its blocks, and the
   equality with the reference. -/
module

public import proofs.«01_k».proof.Proof.ProjectHost
public import proofs.«01_k».proof.Proof.ProjectQ
public import proofs.«01_k».proof.Proof.ProjectK
public import proofs.«01_k».proof.Proof.ProjectV
public import proofs.«01_k».proof.Proof.ProjectI
public import proofs.«01_k».proof.Proof.ProjectJ
public import proofs.«01_k».proof.Proof.ProjectW
public import proofs.«01_k».proof.Proof.Gen.ProjectIdeal.Value
public import proofs.«01_k».proof.Proof.Gen.ProjectReferenceIdeal.Run
public import Idealize.ShloMosaic.Lib.Quiescent
public import proofs.«01_k».proof.Defs

@[expose] public section

set_option maxRecDepth 16384

noncomputable section

namespace Cert.ProjectValue

open Idealize.ShloMosaic Idealize.ShloMosaic.TcCoe Idealize.SL.Sem

open Cert.ProjectIdeal Cert.ProjectIdeal.Gen

variable (m : (ℓ : Loc nD τ sig) → Buf (Elt Ideal) ℓ)

/-- A rotated column of a token. -/
def roped (c : Dev nD) (R : Fin 32768) (j : ℕ) : EReal :=
  rot (Host.cos angles) (Host.sin angles) (aH m c R) (aG m c) (aW m c) (Fin.ofNat 4096 R.val) j

/-- A column of a token as the product leaves it. -/
def plain (c : Dev nD) (R : Fin 32768) (j : ℕ) : EReal := col (aH m c R) (aG m c) (aW m c) j

def qRes (c : Dev nD) : FVec Ideal S1024x32768 .bf16 := fun i =>
  roped m c (i 1) (i 0).val * Ideal.ofBits .f32 0x3E38AA3B#32

def kRes (c : Dev nD) : FVec Ideal S128x256x256 .bf16 := fun i =>
  roped m c (Fin.ofNat 32768 (256 * (i 0).val + (i 2).val)) (1024 + (i 1).val)

def vRes (c : Dev nD) : FVec Ideal S128x320x256 .bf16 := fun i =>
  if (i 1).val % 80 < 64 then plain m c (Fin.ofNat 32768 (256 * (i 0).val + (i 2).val)) (1280 + (64 * ((i 1).val / 80) + (i 1).val % 80))
  else if (i 1).val % 80 = 64 then 1 else 0

def qiRes (c : Dev nD) : FVec Ideal S512x32768 .bf16 := fun i => roped m c (i 1) (1536 + (i 0).val)

def kiRes (c : Dev nD) : FVec Ideal S32768x128 .bf16 := fun i => roped m c (i 0) (2048 + (i 1).val % 64)

def wiRes (c : Dev nD) : FVec Ideal S8x32768 .f32 := fun i => plain m c (i 1) (2112 + (i 0).val) * Ideal.ofBits .f32 0x3D3504F3#32

theorem spin_roped (c : Dev nD) (t : Fin cfg0.N) (r : Fin 512) (o a : ℕ) (ho : o % 128 = 0) (ha : o + a < 2048) :
    spin (iblk m c 0 t) (iblk m c 1 t) (iblk m c 2 t) (iblk m c 5 t) (iblk m c 6 t) o a r = roped m c (token t r) (o + a) := by
  refine spin_rot m c t r o a ho ha ?_
  unfold partner
  split <;> omega

/-- The token a point's key block and slot name. -/
theorem token_block (t : Fin cfg0.N) (b : Fin 2) (j : Fin 256) (B : ℕ) (hB : B = (grid0.coords t 0).val * 2 + b.val) :
    token t (Fin.ofNat 512 (256 * b.val + j.val)) = Fin.ofNat 32768 (256 * B + j.val) := by
  have := coord_lt t
  have := b.isLt
  have := j.isLt
  refine Fin.ext ?_
  rw [token_val]
  show _ + (256 * b.val + j.val) % 512 = (256 * B + j.val) % 32768
  omega

theorem q_arr (c : Dev nD) : (dats m 0 c).arrAt 7 cfg0.N = qRes m c := by
  refine (dats m 0 c).arrAt_eq_of_covers 7 _ (by decide +kernel) fun t hf y => ?_
  blk_simp
  rw [after0_7]
  obtain ⟨a, r, rfl⟩ : ∃ (a : Fin 1024) (r : Fin 512), y = ix2 a r := ⟨y 0, y 1, eq_ix2 y⟩
  have e : ((cfg0.win 7).blk t).view.emb (ix2 a r) = ix2 a (token t r) := by
    blk_ext [idx t]
    show (grid0.coords t 0).val * 512 + r.val = _
    rw [token_val, Nat.mul_comm]
  refine (q_eq m c t (ix2 a r)).trans ?_
  refine Eq.trans ?_ (congrArg (qRes m c) e).symm
  have h := spin_roped m c t r 0 a.val (by rfl) (by omega)
  rw [Nat.zero_add] at h
  exact congrArg (· * Ideal.ofBits .f32 0x3E38AA3B#32) h

theorem k_arr (c : Dev nD) : (dats m 0 c).arrAt 8 cfg0.N = kRes m c := by
  refine (dats m 0 c).arrAt_eq_of_covers 8 _ (by decide +kernel) fun t hf y => ?_
  blk_simp
  rw [after0_8]
  obtain ⟨b, d, j, rfl⟩ : ∃ (b : Fin 2) (d : Fin 256) (j : Fin 256), y = ix3 b d j := ⟨y 0, y 1, y 2, eq_ix3 y⟩
  have hb : (grid0.coords t 0).val * 2 + b.val < 128 := by
    have := coord_lt t
    omega
  have e : ((cfg0.win 8).blk t).view.emb (ix3 b d j) = ix3 (⟨(grid0.coords t 0).val * 2 + b.val, hb⟩ : Fin 128) d j := by
    blk_ext [idx t]
  refine (k_eq m c t (ix3 b d j)).trans ?_
  refine Eq.trans ?_ (congrArg (kRes m c) e).symm
  refine (spin_roped m c t (Fin.ofNat 512 (256 * b.val + j.val)) 1024 d.val (by rfl) (by omega)).trans ?_
  exact congrArg (fun R => roped m c R (1024 + d.val)) (token_block t b j _ rfl)

theorem v_arr (c : Dev nD) : (dats m 0 c).arrAt 9 cfg0.N = vRes m c := by
  refine (dats m 0 c).arrAt_eq_of_covers 9 _ (by decide +kernel) fun t hf y => ?_
  blk_simp
  rw [after0_9]
  obtain ⟨b, d, j, rfl⟩ : ∃ (b : Fin 2) (d : Fin 320) (j : Fin 256), y = ix3 b d j := ⟨y 0, y 1, y 2, eq_ix3 y⟩
  have hb : (grid0.coords t 0).val * 2 + b.val < 128 := by
    have := coord_lt t
    omega
  have e : ((cfg0.win 9).blk t).view.emb (ix3 b d j) = ix3 (⟨(grid0.coords t 0).val * 2 + b.val, hb⟩ : Fin 128) d j := by
    blk_ext [idx t]
  refine (v_eq m c t (ix3 b d j)).trans ?_
  refine Eq.trans ?_ (congrArg (vRes m c) e).symm
  unfold vB vRes
  dsimp only
  show (if d.val % 80 < 64 then _ else _) = (if d.val % 80 < 64 then _ else _)
  split
  · have hd := d.isLt
    refine (prod_col m c t (Fin.ofNat 512 (256 * b.val + j.val)) (1280 + (64 * (d.val / 80) + d.val % 80)) (by omega) _ (by rw [if_pos (by omega)])).trans ?_
    exact congrArg (fun R => plain m c R (1280 + (64 * (d.val / 80) + d.val % 80))) (token_block t b j _ rfl)
  · rfl

theorem qi_arr (c : Dev nD) : (dats m 0 c).arrAt 10 cfg0.N = qiRes m c := by
  refine (dats m 0 c).arrAt_eq_of_covers 10 _ (by decide +kernel) fun t hf y => ?_
  blk_simp
  rw [after0_10]
  obtain ⟨a, r, rfl⟩ : ∃ (a : Fin 512) (r : Fin 512), y = ix2 a r := ⟨y 0, y 1, eq_ix2 y⟩
  have e : ((cfg0.win 10).blk t).view.emb (ix2 a r) = ix2 a (token t r) := by
    blk_ext [idx t]
    show (grid0.coords t 0).val * 512 + r.val = _
    rw [token_val, Nat.mul_comm]
  refine (qi_eq m c t (ix2 a r)).trans ?_
  refine Eq.trans ?_ (congrArg (qiRes m c) e).symm
  exact spin_roped m c t r 1536 a.val (by rfl) (by omega)

theorem ki_arr (c : Dev nD) : (dats m 0 c).arrAt 11 cfg0.N = kiRes m c := by
  refine (dats m 0 c).arrAt_eq_of_covers 11 _ (by decide +kernel) fun t hf y => ?_
  blk_simp
  rw [after0_11]
  obtain ⟨r, l, rfl⟩ : ∃ (r : Fin 512) (l : Fin 128), y = ix2 r l := ⟨y 0, y 1, eq_ix2 y⟩
  have e : ((cfg0.win 11).blk t).view.emb (ix2 r l) = ix2 (token t r) l := by
    blk_ext [idx t]
    show (grid0.coords t 0).val * 512 + r.val = _
    rw [token_val, Nat.mul_comm]
  refine (ki_eq m c t (ix2 r l)).trans ?_
  refine Eq.trans ?_ (congrArg (kiRes m c) e).symm
  have hl := l.isLt
  have e3 := blk_cos m c t r l
  have e4 := blk_sin m c t r l
  have em : l.val % 64 = (2048 + l.val % 64) % 64 := by omega
  rw [em] at e4
  refine (congrArg₂ (· + ·) (congrArg (_ * ·) e3) (congrArg (_ * ·) e4)).trans ?_
  refine turn_eq _ _ _ _ _ _ _ _ _ (prod_col m c t r _ ?_ _ ?_) (prod_col m c t r _ ?_ _ ?_) _ (Fin.ext ?_)
  · show 2048 + l.val < 2184
    omega
  · show _ = if 2048 + l.val < 2048 then 2048 + l.val else if 2048 + l.val < 2176 then 2048 + (2048 + l.val - 2048) % 64 else 2048 + l.val - 64
    rw [if_neg (by omega), if_pos (by omega)]
    omega
  · show 2048 + partner l.val < 2184
    unfold partner
    split <;> omega
  · have hp : partner l.val < 128 ∧ (if (2048 + l.val % 64) % 64 < 32 then 2048 + l.val % 64 + 32 else 2048 + l.val % 64 - 32) = 2048 + partner l.val % 64 := by
      unfold partner
      split <;> split <;> omega
    show _ = if 2048 + partner l.val < 2048 then 2048 + partner l.val else if 2048 + partner l.val < 2176 then 2048 + (2048 + partner l.val - 2048) % 64 else 2048 + partner l.val - 64
    rw [hp.2, if_neg (by omega), if_pos (by omega)]
    omega
  · show l.val % 32 = (2048 + l.val % 64) % 32
    omega

theorem wi_arr (c : Dev nD) : (dats m 0 c).arrAt 12 cfg0.N = wiRes m c := by
  refine (dats m 0 c).arrAt_eq_of_covers 12 _ (by decide +kernel) fun t hf y => ?_
  blk_simp
  rw [after0_12]
  obtain ⟨j, r, rfl⟩ : ∃ (j : Fin 8) (r : Fin 512), y = ix2 j r := ⟨y 0, y 1, eq_ix2 y⟩
  have e : ((cfg0.win 12).blk t).view.emb (ix2 j r) = ix2 j (token t r) := by
    blk_ext [idx t]
    show (grid0.coords t 0).val * 512 + r.val = _
    rw [token_val, Nat.mul_comm]
  refine (wi_eq m c t (ix2 j r)).trans ?_
  refine Eq.trans ?_ (congrArg (wiRes m c) e).symm
  refine congrArg (· * Ideal.ofBits .f32 0x3D3504F3#32) (prod_col m c t r _ ?_ _ ?_)
  · show 2176 + j.val < 2184
    omega
  · show 2112 + j.val = if 2176 + j.val < 2048 then 2176 + j.val else if 2176 + j.val < 2176 then 2048 + (2176 + j.val - 2048) % 64 else 2176 + j.val - 64
    rw [if_neg (by omega), if_neg (by omega)]
    omega

set_option maxHeartbeats 4000000 in
/-- Both programs, from memories that agree on the arguments, end with the same six results. -/
theorem algebraic : Cert.algebraic_ProjectIdeal_ProjectReferenceIdeal := by
  intro m g m' g' _ hm
  refine ⟨fun c => qRes m c, fun c => kRes m c, fun c => vRes m c, fun c => qiRes m c, fun c => kiRes m c, fun c => wiRes m c, ?_, ?_⟩
  · refine (θ_run _ _ _).mono (fun r h c => ?_) (Cert.ProjectIdeal.Value.run_blocks m g)
    obtain ⟨h0, h1, h2, h3, h4, h5, h6⟩ := h c
    exact ⟨h0.trans (q_arr m c), h1.trans (k_arr m c), h2.trans (v_arr m c), h3.trans (qi_arr m c), h4.trans (ki_arr m c),
      h5.trans (wi_arr m c), h6⟩
  · refine (θ_run _ _ _).mono (fun r h c => ?_) (Cert.ProjectReferenceIdeal.Value.run m' g')
    obtain ⟨h0, h1, h2, h3, h4, h5, h6⟩ := h c
    obtain ⟨e0, e1, e2⟩ := hm c
    have eH : ∀ R, argH (StableHlo.launchContents m' c) R = aH m c R := fun R => funext fun k => congrFun e0 (ix2 R k)
    have eG : argG (StableHlo.launchContents m' c) = aG m c := funext fun k => congrFun e1 (ix1 k)
    have eW : argW (StableHlo.launchContents m' c) = aW m c := funext fun k => funext fun j => congrFun e2 (ix2 k j)
    refine ⟨h0.trans ?_, h1.trans ?_, h2.trans ?_, h3.trans ?_, h4.trans ?_, h5.trans ?_, h6⟩
    all_goals funext i
    · obtain ⟨a, R, rfl⟩ : ∃ (a : Fin 1024) (R : Fin 32768), i = ix2 a R := ⟨i 0, i 1, eq_ix2 i⟩
      refine (q_ref (StableHlo.launchContents m' c) a R).trans ?_
      rw [eH, eG, eW]
      rfl
    · obtain ⟨b, d, j, rfl⟩ : ∃ (b : Fin 128) (d : Fin 256) (j : Fin 256), i = ix3 b d j := ⟨i 0, i 1, i 2, eq_ix3 i⟩
      refine (k_ref (StableHlo.launchContents m' c) b d j).trans ?_
      rw [eH, eG, eW]
      have hp : (Fin.ofNat 4096 (256 * b.val + j.val)) = (Fin.ofNat 4096 (Fin.ofNat 32768 (256 * b.val + j.val)).val : Fin 4096) :=
        Fin.ext (by show (256 * b.val + j.val) % 4096 = (256 * b.val + j.val) % 32768 % 4096; omega)
      rw [hp]
      rfl
    · obtain ⟨b, d, j, rfl⟩ : ∃ (b : Fin 128) (d : Fin 320) (j : Fin 256), i = ix3 b d j := ⟨i 0, i 1, i 2, eq_ix3 i⟩
      refine (v_ref (StableHlo.launchContents m' c) b d j).trans ?_
      rw [eH, eG, eW]
      rfl
    · obtain ⟨a, R, rfl⟩ : ∃ (a : Fin 512) (R : Fin 32768), i = ix2 a R := ⟨i 0, i 1, eq_ix2 i⟩
      refine (qi_ref (StableHlo.launchContents m' c) a R).trans ?_
      rw [eH, eG, eW]
      rfl
    · obtain ⟨R, l, rfl⟩ : ∃ (R : Fin 32768) (l : Fin 128), i = ix2 R l := ⟨i 0, i 1, eq_ix2 i⟩
      refine (ki_ref (StableHlo.launchContents m' c) R l).trans ?_
      rw [eH, eG, eW]
      rfl
    · obtain ⟨j, R, rfl⟩ : ∃ (j : Fin 8) (R : Fin 32768), i = ix2 j R := ⟨i 0, i 1, eq_ix2 i⟩
      refine (wi_ref (StableHlo.launchContents m' c) j R).trans ?_
      rw [eH, eG, eW]
      rfl

/-- The reference runs, changes no argument and holds no semaphore. -/
theorem quiescent_ref : Cert.quiescent_ProjectReferenceIdeal := by
  intro m g _
  refine (θ_run _ _ _).mono (fun r h => ⟨fun c => (h c).2.2.2.2.2.2, ?_⟩) (Cert.ProjectReferenceIdeal.Value.run m g)
  exact sem_eq_zero_of_no_sems rfl _

end Cert.ProjectValue

end
-- ==== Proof.FoxSteps.lean ====
/- The attention kernel's body as a short list of steps on its scratch buffers, over either printed program's signature. -/
module

public import proofs.«01_k».proof.Proof.Gen.KernelIdeal
public import Idealize.ShloMosaic.Lib.VecWindow
public import Idealize.ShloMosaic.Lib.Memref
public import Idealize.ShloMosaic.Lib.Scf
public import Idealize.ShloMosaic.Lib.Tactic
public import Idealize.ShloMosaic.Lib.Pipeline.Kit

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Facts₀ Cert.KernelIdeal.Facts

attribute [local instance] Cert.KernelIdeal.Gen.facts₀ Cert.KernelIdeal.Gen.facts

variable {nD : ℕ} {τ : Topo} {sg : RefSig} {Λ : Labels} {F : FTy → Type} [FloatOps F]

/-! ## The values one step writes -/

/-- A block of scores: keys times queries, masked where a limit on the key index is given. -/
def scoreOf (msk : F .f32) (lim : Option (IVec S1x256 32)) (kw : Vec F S1x80x256 .bf16) (qw : Vec F S1x80x256 .bf16) : FVec F S256x256 .f32 :=
  let s : FVec F S256x256 .f32 := matmul dot_S80x256_S80x256_S256x256_0_0_1_1_n_n none (shapeCast S80x256 kw shapeCasts_S1x80x256_S80x256)
    (shapeCast S80x256 qw shapeCasts_S1x80x256_S80x256) (constant S256x256 .f32 0x00000000#32)
  match lim with
  | none => s
  | some l => select (cmpi .sle (iota .tc S256x256 32 [0] iota_S256x256_d0_w32) (broadcastTo S256x256 l broadcasts_S1x256_S256x256)) s (broadcast S256x256 msk)

/-- The maxima of a block of scores over each of the eight residues of the key index. -/
def topsOf (s : FVec F S256x256 .f32) : FVec F S8x256 .f32 :=
  multiReduction .maximumf [0] S8x256 (shapeCast S32x8x256 s shapeCasts_S256x256_S32x8x256) 0xFF800000#32 reduces_S32x8x256_S8x256 (.inl rfl) rfl

/-- The running maximum after a block. -/
def maxOf (mw : Vec F S1x1x256 .f32) (xw : Vec F S1x8x256 .f32) : FVec F S1x256 .f32 :=
  maximumf (shapeCast S1x256 mw shapeCasts_S1x1x256_S1x256)
    (shapeCast S1x256 (multiReduction .maximumf [0] S256 (shapeCast S8x256 xw shapeCasts_S1x8x256_S8x256) 0xFF800000#32 reduces_S8x256_S256 (.inl rfl) rfl) shapeCasts_S256_S1x256)

/-- The running weighted sum after a block. -/
def sumOf (vw : Vec F S1x80x256 .bf16) (mw : Vec F S1x1x256 .f32) (mn : FVec F S1x256 .f32) (sw : Vec F S1x256x256 .f32)
    (aw : Vec F S1x80x256 .f32) : FVec F S80x256 .f32 :=
  addf (mulf (broadcastTo S80x256 (exp2 (subf (shapeCast S1x256 mw shapeCasts_S1x1x256_S1x256) mn)) broadcasts_S1x256_S80x256)
      (shapeCast S80x256 aw shapeCasts_S1x80x256_S80x256))
    (matmul dot_S80x256_S256x256_S80x256_1_0_0_1_n_n none (shapeCast S80x256 vw shapeCasts_S1x80x256_S80x256)
      (truncf .bf16 (exp2 (subf (shapeCast S256x256 sw shapeCasts_S1x256x256_S256x256) (broadcastTo S256x256 mn broadcasts_S1x256_S256x256))) bitsLt_bf16_f32)
      (constant S80x256 .f32 0x00000000#32))

/-- The output tile of one head and one half of the queries: weighted sum over total weight. -/
def outOf (aw : Vec F S1x80x256 .f32) : FVec F S64x256 .bf16 :=
  let x : FVec F S80x256 .f32 := shapeCast S80x256 aw shapeCasts_S1x80x256_S80x256
  truncf .bf16 (divf (extractStridedSlice S64x256 ![0, 0] x slices_S80x256_o0_0_S64x256)
    (broadcastTo S64x256 (extractStridedSlice S1x256 ![64, 0] x slices_S80x256_o64_0_S1x256) broadcasts_S1x256_S64x256)) bitsLt_bf16_f32

/-! ## Places -/

theorem inbR {A B : ℕ} {r : ℕ} (hr : r + 1 ≤ 16) (a : Fin 3) : (![r, 0, 0] : Fin 3 → ℕ) a + (⟨3, ![1, A, B]⟩ : Shape).size a ≤ (⟨3, ![16, A, B]⟩ : Shape).size a := by
  fin_cases a <;> simp [Shape.size] <;> omega

theorem inbK {c h : ℕ} (hc : c + 1 ≤ 16) (hh : h + 1 ≤ 8) (a : Fin 3) : (![c, 80 * h, 0] : Fin 3 → ℕ) a + S1x80x256.size a ≤ S16x640x256.size a := by
  fin_cases a <;> simp [Shape.size] <;> omega

theorem inbQ {s h : ℕ} (hs : s + 1 ≤ 2) (hh : h + 1 ≤ 8) (a : Fin 2) : (![80 * h, 256 * s] : Fin 2 → ℕ) a + S80x256.size a ≤ S640x512.size a := by
  fin_cases a <;> simp [Shape.size] <;> omega

theorem inbO {s h : ℕ} (hs : s + 1 ≤ 2) (hh : h + 1 ≤ 8) (a : Fin 2) : (![64 * h, 256 * s] : Fin 2 → ℕ) a + S64x256.size a ≤ S512x512.size a := by
  fin_cases a <;> simp [Shape.size] <;> omega

/-- The scratch row of half `s` of the queries and head `h`. -/
abbrev rowAt (s : Fin 2) (h : Fin 8) : ℕ := 8 * s.val + h.val

theorem rowAt_lt (s : Fin 2) (h : Fin 8) : rowAt s h + 1 ≤ 16 := by have := s.isLt; have := h.isLt; unfold rowAt; omega

/-! ## Steps -/

/-- One step of the body: a block of scores into the first or second score buffer, or the update of the running state from it. -/
inductive Step where
  | score (b : Bool) (lim : Option (IVec S1x256 32)) (s : Fin 2) (h : Fin 8) (c : ℕ) (hc : c + 1 ≤ 16)
  | update (b : Bool) (s : Fin 2) (h : Fin 8) (c : ℕ) (hc : c + 1 ≤ 16)

/-- The body's buffers. -/
structure Refs (sg : RefSig) where
  q : Memref sg .tc .vmem S640x512 .bf16
  k : Memref sg .tc .vmem S16x640x256 .bf16
  v : Memref sg .tc .vmem S16x640x256 .bf16
  o : Memref sg .tc .vmem S512x512 .bf16
  qw : Memref sg .tc .vmem S16x80x256 .bf16
  sa : Memref sg .tc .vmem S16x256x256 .f32
  sb : Memref sg .tc .vmem S16x256x256 .f32
  xa : Memref sg .tc .vmem S16x8x256 .f32
  xb : Memref sg .tc .vmem S16x8x256 .f32
  m : Memref sg .tc .vmem S16x1x256 .f32
  a : Memref sg .tc .vmem S16x80x256 .f32

namespace Refs
/-- The score buffer a step names. -/
def s (R : Refs sg) : Bool → Memref sg .tc .vmem S16x256x256 .f32 | false => R.sa | true => R.sb
/-- The buffer of block maxima a step names. -/
def x (R : Refs sg) : Bool → Memref sg .tc .vmem S16x8x256 .f32 | false => R.xa | true => R.xb
end Refs

variable (R : Refs sg)

theorem packedQ (s : Fin 2) (h : Fin 8) : (Rect.unit (s := S16x80x256) ![rowAt s h, 0, 0] S1x80x256.size (inbR (rowAt_lt s h))).PackedRows (EltTy.packing .bf16) := by
  revert s h; decide

theorem packedO (s : Fin 2) (h : Fin 8) : (Rect.unit (s := S512x512) ![64 * h.val, 256 * s.val] S64x256.size (inbO s.isLt h.isLt)).PackedRows (EltTy.packing .bf16) := by
  revert s h; decide

/-- The program of a step. -/
def stepProg (msk : F .f32) : Step → Prog (TpuEff nD τ sg (Elt F) Λ .tc) PUnit
  | .score b lim s h c hc => do
    let kw : Vec F S1x80x256 .bf16 ← Prog.lift (.load R.k (Rect.unit (s := S16x640x256) ![c, 80 * h.val, 0] S1x80x256.size (inbK hc h.isLt)).toLoadRect (View.loadsAt_vmem h_S1x80x256))
    let qw : Vec F S1x80x256 .bf16 ← Prog.lift (.load R.qw (Rect.unit (s := S16x80x256) ![rowAt s h, 0, 0] S1x80x256.size (inbR (rowAt_lt s h))).toLoadRect (View.loadsAt_vmem h_S1x80x256))
    let _ : Vec F S1x256x256 .f32 ← Prog.lift (.load (R.s b) (Rect.unit (s := S16x256x256) ![rowAt s h, 0, 0] S1x256x256.size (inbR (rowAt_lt s h))).toLoadRect (View.loadsAt_vmem h_S1x256x256))
    Prog.lift (.store (R.s b) (Rect.unit (s := S16x256x256) ![rowAt s h, 0, 0] S1x256x256.size (inbR (rowAt_lt s h)))
      (shapeCast S1x256x256 (scoreOf msk lim kw qw) shapeCasts_S256x256_S1x256x256) Finset.univ (View.stores_vmem_bits_univ h_S1x256x256 rfl) (.inl rfl))
    let _ : Vec F S1x8x256 .f32 ← Prog.lift (.load (R.x b) (Rect.unit (s := S16x8x256) ![rowAt s h, 0, 0] S1x8x256.size (inbR (rowAt_lt s h))).toLoadRect (View.loadsAt_vmem h_S1x8x256))
    Prog.lift (.store (R.x b) (Rect.unit (s := S16x8x256) ![rowAt s h, 0, 0] S1x8x256.size (inbR (rowAt_lt s h)))
      (shapeCast S1x8x256 (topsOf (scoreOf msk lim kw qw)) shapeCasts_S8x256_S1x8x256) Finset.univ (View.stores_vmem_bits_univ h_S1x8x256 rfl) (.inl rfl))
  | .update b s h c hc => do
    let vw : Vec F S1x80x256 .bf16 ← Prog.lift (.load R.v (Rect.unit (s := S16x640x256) ![c, 80 * h.val, 0] S1x80x256.size (inbK hc h.isLt)).toLoadRect (View.loadsAt_vmem h_S1x80x256))
    let mw : Vec F S1x1x256 .f32 ← Prog.lift (.load R.m (Rect.unit (s := S16x1x256) ![rowAt s h, 0, 0] S1x1x256.size (inbR (rowAt_lt s h))).toLoadRect (View.loadsAt_vmem h_S1x1x256))
    let xw : Vec F S1x8x256 .f32 ← Prog.lift (.load (R.x b) (Rect.unit (s := S16x8x256) ![rowAt s h, 0, 0] S1x8x256.size (inbR (rowAt_lt s h))).toLoadRect (View.loadsAt_vmem h_S1x8x256))
    let sw : Vec F S1x256x256 .f32 ← Prog.lift (.load (R.s b) (Rect.unit (s := S16x256x256) ![rowAt s h, 0, 0] S1x256x256.size (inbR (rowAt_lt s h))).toLoadRect (View.loadsAt_vmem h_S1x256x256))
    let aw : Vec F S1x80x256 .f32 ← Prog.lift (.load R.a (Rect.unit (s := S16x80x256) ![rowAt s h, 0, 0] S1x80x256.size (inbR (rowAt_lt s h))).toLoadRect (View.loadsAt_vmem h_S1x80x256))
    let _ : Vec F S1x80x256 .f32 ← Prog.lift (.load R.a (Rect.unit (s := S16x80x256) ![rowAt s h, 0, 0] S1x80x256.size (inbR (rowAt_lt s h))).toLoadRect (View.loadsAt_vmem h_S1x80x256))
    Prog.lift (.store R.a (Rect.unit (s := S16x80x256) ![rowAt s h, 0, 0] S1x80x256.size (inbR (rowAt_lt s h)))
      (shapeCast S1x80x256 (sumOf vw mw (maxOf mw xw) sw aw) shapeCasts_S80x256_S1x80x256) Finset.univ (View.stores_vmem_bits_univ h_S1x80x256 rfl) (.inl rfl))
    let _ : Vec F S1x1x256 .f32 ← Prog.lift (.load R.m (Rect.unit (s := S16x1x256) ![rowAt s h, 0, 0] S1x1x256.size (inbR (rowAt_lt s h))).toLoadRect (View.loadsAt_vmem h_S1x1x256))
    Prog.lift (.store R.m (Rect.unit (s := S16x1x256) ![rowAt s h, 0, 0] S1x1x256.size (inbR (rowAt_lt s h)))
      (shapeCast S1x1x256 (maxOf mw xw) shapeCasts_S1x256_S1x1x256) Finset.univ (View.stores_vmem_bits_univ h_S1x1x256 rfl) (.inl rfl))

/-- The program of one query window's copy into the scratch. -/
def qwProg (hqw : R.qw.IsWhole) (sh : Fin 2 × Fin 8) : Prog (TpuEff nD τ sg (Elt F) Λ .tc) PUnit := do
  let x : Vec F S80x256 .bf16 ← Prog.lift (.load R.q (Rect.unit (s := S640x512) ![80 * sh.2.val, 256 * sh.1.val] S80x256.size (inbQ sh.1.isLt sh.2.isLt)).toLoadRect (View.loadsAt_vmem h_S80x256))
  let _ : Vec F S1x80x256 .bf16 ← Prog.lift (.load R.qw (Rect.unit (s := S16x80x256) ![rowAt sh.1 sh.2, 0, 0] S1x80x256.size (inbR (rowAt_lt sh.1 sh.2))).toLoadRect (View.loadsAt_vmem h_S1x80x256))
  Prog.lift (.store R.qw (Rect.unit (s := S16x80x256) ![rowAt sh.1 sh.2, 0, 0] S1x80x256.size (inbR (rowAt_lt sh.1 sh.2)))
    (shapeCast S1x80x256 (shapeCast S80x256 x shapeCasts_S80x256_S80x256) shapeCasts_S80x256_S1x80x256) Finset.univ
    (View.stores_vmem h_S1x80x256 (hqw.storeExact_slice rfl _ (packedQ sh.1 sh.2)) (fun _ => rfl)) (.inl rfl))

/-- The program of one output tile. -/
def outProg (ho : R.o.IsWhole) (sh : Fin 2 × Fin 8) : Prog (TpuEff nD τ sg (Elt F) Λ .tc) PUnit := do
  let aw : Vec F S1x80x256 .f32 ← Prog.lift (.load R.a (Rect.unit (s := S16x80x256) ![rowAt sh.1 sh.2, 0, 0] S1x80x256.size (inbR (rowAt_lt sh.1 sh.2))).toLoadRect (View.loadsAt_vmem h_S1x80x256))
  let _ : Vec F S64x256 .bf16 ← Prog.lift (.load R.o (Rect.unit (s := S512x512) ![64 * sh.2.val, 256 * sh.1.val] S64x256.size (inbO sh.1.isLt sh.2.isLt)).toLoadRect (View.loadsAt_vmem h_S64x256))
  Prog.lift (.store R.o (Rect.unit (s := S512x512) ![64 * sh.2.val, 256 * sh.1.val] S64x256.size (inbO sh.1.isLt sh.2.isLt)) (outOf aw) Finset.univ
    (View.stores_vmem h_S64x256 (ho.storeExact_slice rfl _ (packedO sh.1 sh.2)) (fun _ => rfl)) (.inl rfl))

/-- The program that fills the running maxima and sums. -/
def fillProg (msk : F .f32) : Prog (TpuEff nD τ sg (Elt F) Λ .tc) PUnit := do
  let _ : Vec F S16x1x256 .f32 ← Prog.lift (.load R.m (Rect.unit (s := S16x1x256) ![0, 0, 0] S16x1x256.size inb_S16x1x256_S16x1x256_0_0_0).toLoadRect (View.loadsAt_vmem h_S16x1x256))
  Prog.lift (.store R.m (Rect.unit (s := S16x1x256) ![0, 0, 0] S16x1x256.size inb_S16x1x256_S16x1x256_0_0_0)
    (shapeCast S16x1x256 (broadcast S16x1x256 msk : FVec F S16x1x256 .f32) shapeCasts_S16x1x256_S16x1x256) Finset.univ (View.stores_vmem_bits_univ h_S16x1x256 rfl) (.inl rfl))
  let _ : Vec F S16x80x256 .f32 ← Prog.lift (.load R.a (Rect.unit (s := S16x80x256) ![0, 0, 0] S16x80x256.size inb_S16x80x256_S16x80x256_0_0_0).toLoadRect (View.loadsAt_vmem h_S16x80x256))
  Prog.lift (.store R.a (Rect.unit (s := S16x80x256) ![0, 0, 0] S16x80x256.size inb_S16x80x256_S16x80x256_0_0_0)
    (shapeCast S16x80x256 (broadcast S16x80x256 (Scalar.ofBits .f32 0x00000000#32) : FVec F S16x80x256 .f32) shapeCasts_S16x80x256_S16x80x256) Finset.univ (View.stores_vmem_bits_univ h_S16x80x256 rfl) (.inl rfl))

/-- A program per element of a list, in order. -/
def runAll {α : Type} (p : α → Prog (TpuEff nD τ sg (Elt F) Λ .tc) PUnit) : List α → Prog (TpuEff nD τ sg (Elt F) Λ .tc) PUnit
  | [] => pure ⟨⟩
  | x :: xs => p x >>= fun _ => runAll p xs

/-- The halves and heads in the order of the copies. -/
def rowList : List (Fin 2 × Fin 8) :=
  [(0, 0), (0, 1), (0, 2), (0, 3), (0, 4), (0, 5), (0, 6), (0, 7), (1, 0), (1, 1), (1, 2), (1, 3), (1, 4), (1, 5), (1, 6), (1, 7)]

/-- The heads in order. -/
def heads : List (Fin 8) := [0, 1, 2, 3, 4, 5, 6, 7]

/-- The limit on the key index within a block: the query index, moved by a whole half when the block is not on the diagonal. -/
def limAt (diag : BitVec 1) : IVec S1x256 32 :=
  addi (iota .tc S1x256 32 [1] iota_S1x256_d1_w32) (broadcast S1x256 (Scalar.select diag 0#32 256#32))

/-- The steps before the loop: the first block's scores for both halves. -/
def firstSteps (diag : BitVec 1) : List Step :=
  heads.flatMap fun h => [.score false (some (limAt diag)) 0 h 0 (by decide), .score false none 1 h 0 (by decide)]

/-- The steps of one trip: a block of scores ahead of the update, twice. -/
def tripSteps (c0 c1 c2 : ℕ) (h0 : c0 + 1 ≤ 16) (h1 : c1 + 1 ≤ 16) (h2 : c2 + 1 ≤ 16) (diag : BitVec 1) : List Step :=
  (heads.flatMap fun h => [.score true none 0 h c1 h1, .score true none 1 h c1 h1, .update false 0 h c0 h0, .update false 1 h c0 h0]) ++
  (heads.flatMap fun h => [.score false (some (limAt diag)) 0 h c2 h2, .score false none 1 h c2 h2, .update true 0 h c1 h1, .update true 1 h c1 h1])

/-- The steps after the loop: the diagonal block. -/
def lastSteps (c0 c1 : ℕ) (h0 : c0 + 1 ≤ 16) (h1 : c1 + 1 ≤ 16) : List Step :=
  (heads.flatMap fun h => [.score true (some (iota .tc S1x256 32 [1] iota_S1x256_d1_w32)) 1 h c1 h1, .update false 0 h c0 h0, .update false 1 h c0 h0]) ++
  (heads.map fun h => .update true 1 h c1 h1)

end Cert.Fox
-- ==== Proof.FoxWp.lean ====
/- What a step of the attention kernel's body does to its buffers, as a rule for the step's program. -/
module

public import proofs.«01_k».proof.Proof.FoxSteps
public import Idealize.ShloMosaic.Lib.Exec
public import Idealize.ShloMosaic.Rules

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Facts₀ Cert.KernelIdeal.Facts

attribute [local instance] Cert.KernelIdeal.Gen.facts₀ Cert.KernelIdeal.Gen.facts

section Access

variable {nD : ℕ} {τ : Topo} {sg : RefSig} {Λ : Labels} {Val : EltTy → Type}
variable {Ix : Type} [DecidableEq Ix] {Name : Type} [DecidableEq Name] {U : Type} [RA.URA U] {Lvl : Type} [Preorder Lvl]

local notation "𝕄" => MT nD τ sg Ix Val Name U Lvl

variable (defs : Defs nD τ sg Val Λ) (𝒱 : Variants) (c : Thread nD τ) (bd : Option 𝒱.V) (E : Set Name)

/-- A load of a window reads the window and keeps the buffer. -/
theorem wp_ld {sp : CoreSpace} {s : Shape} {e : EltTy} {M : Memref sg c.2.kind sp s e} {X : s.Idx → Val e} {q : PosShare TreeShare}
    {off size : Fin s.rank → ℕ} {inb : ∀ a, off a + size a ≤ s.size a} {hl : M.view.LoadsAt (Rect.unit off size inb).toLoadRect}
    {Q : ((Rect.unit off size inb).shape.Idx → Val e) → sProp 𝕄} :
    owns c M q X ⊢ iprop((owns c M q X -∗ Q (window X off size inb))
      -∗ wp frame (wpE defs 𝒱 c bd) E (Prog.lift (.load M (Rect.unit off size inb).toLoadRect hl)) Q) := by
  unfold owns
  iintro ⟨%f, %hf, H⟩ HK
  iapply (wp_load 𝒱 c bd E (m := M) (S := M.view.set) (M.view.setOn_subset_set _)) $$ H
  iintro H
  iapply (le_wp_ret _ _ _ _ Q)
  rw [View.readAt_unit M.view f inb rfl inb, hf]
  iapply HK
  iexists f
  isplitr
  · ipureintro; exact hf
  iexact H

/-- A store of a window puts it and keeps the rest. -/
theorem wp_st {sp : CoreSpace} {s : Shape} {e : EltTy} {M : Memref sg c.2.kind sp s e} {X : s.Idx → Val e}
    {off size : Fin s.rank → ℕ} {inb : ∀ a, off a + size a ≤ s.size a} {w : (Rect.unit off size inb).shape.Idx → Val e}
    {hx : (M.access (Rect.unit off size inb)).Stores Finset.univ} {hm : (Finset.univ : Finset (Rect.unit off size inb).shape.Idx) = Finset.univ ∨ ∀ a, (Rect.unit off size inb).stride a = 1}
    {Q : PUnit → sProp 𝕄} :
    owns c M fullShare X ⊢ iprop((owns c M fullShare (put X off size w) -∗ Q ⟨⟩)
      -∗ wp frame (wpE defs 𝒱 c bd) E (Prog.lift (.store M (Rect.unit off size inb) w Finset.univ hx hm)) Q) := by
  unfold owns
  iintro ⟨%f, %hf, H⟩ HK
  iapply (wp_store 𝒱 c bd E (m := M) (r := Rect.unit off size inb) (S := M.view.set) (View.set_slice_subset M.view _)) $$ H
  iintro H
  iapply (le_wp_ret _ _ _ _ Q)
  iapply HK
  iexists ((M.access (Rect.unit off size inb)).write Val f w Finset.univ)
  isplitr
  · ipureintro
    have h := View.read_writes_cons_put (Val := Val) M.view f inb w [] rfl
    rw [View.writes_nil, hf] at h
    exact h
  iexact H

end Access

/-! ## The state the steps run on -/

/-- The contents of the scratch buffers. -/
structure Mem (F : FTy → Type) where
  qw : Vec F S16x80x256 .bf16
  sa : Vec F S16x256x256 .f32
  sb : Vec F S16x256x256 .f32
  xa : Vec F S16x8x256 .f32
  xb : Vec F S16x8x256 .f32
  m : Vec F S16x1x256 .f32
  a : Vec F S16x80x256 .f32

section Exec

variable {F : FTy → Type} [FloatOps F]

namespace Mem
/-- The score buffer a step names. -/
def s (x : Mem F) : Bool → Vec F S16x256x256 .f32 | false => x.sa | true => x.sb
/-- The buffer of block maxima a step names. -/
def x (x : Mem F) : Bool → Vec F S16x8x256 .f32 | false => x.xa | true => x.xb
/-- Scores written. -/
def setS (x : Mem F) (b : Bool) (s : Vec F S16x256x256 .f32) (t : Vec F S16x8x256 .f32) : Mem F :=
  match b with
  | false => { x with sa := s, xa := t }
  | true => { x with sb := s, xb := t }
end Mem

/-- Row `r` of a scratch buffer. -/
def getR {e : EltTy} {A B : ℕ} (X : Vec F ⟨3, ![16, A, B]⟩ e) (s : Fin 2) (h : Fin 8) : Vec F ⟨3, ![1, A, B]⟩ e :=
  window X ![rowAt s h, 0, 0] (⟨3, ![1, A, B]⟩ : Shape).size (inbR (rowAt_lt s h))

/-- A scratch buffer with row `r` replaced. -/
def putR {e : EltTy} {A B : ℕ} (X : Vec F ⟨3, ![16, A, B]⟩ e) (s : Fin 2) (h : Fin 8) (w : Vec F ⟨3, ![1, A, B]⟩ e) : Vec F ⟨3, ![16, A, B]⟩ e :=
  put X ![rowAt s h, 0, 0] (⟨3, ![1, A, B]⟩ : Shape).size w

/-- The part of the keys or values of one block and one head. -/
def getK (X : Vec F S16x640x256 .bf16) (c : ℕ) (hc : c + 1 ≤ 16) (h : Fin 8) : Vec F S1x80x256 .bf16 :=
  window X ![c, 80 * h.val, 0] S1x80x256.size (inbK hc h.isLt)

/-- The state after a step. -/
def exec (msk : F .f32) (K V : Vec F S16x640x256 .bf16) (x : Mem F) : Step → Mem F
  | .score b lim s h c hc =>
    x.setS b (putR (x.s b) s h (shapeCast S1x256x256 (scoreOf msk lim (getK K c hc h) (getR x.qw s h)) shapeCasts_S256x256_S1x256x256))
      (putR (x.x b) s h (shapeCast S1x8x256 (topsOf (scoreOf msk lim (getK K c hc h) (getR x.qw s h))) shapeCasts_S8x256_S1x8x256))
  | .update b s h c hc =>
    { x with
      a := putR x.a s h (shapeCast S1x80x256 (sumOf (getK V c hc h) (getR x.m s h) (maxOf (getR x.m s h) (getR (x.x b) s h)) (getR (x.s b) s h) (getR x.a s h)) shapeCasts_S80x256_S1x80x256)
      m := putR x.m s h (shapeCast S1x1x256 (maxOf (getR x.m s h) (getR (x.x b) s h)) shapeCasts_S1x256_S1x1x256) }

/-- The state after a query window's copy. -/
def execQ (q : Vec F S640x512 .bf16) (x : Mem F) (sh : Fin 2 × Fin 8) : Mem F :=
  { x with qw := putR x.qw sh.1 sh.2 (shapeCast S1x80x256 (shapeCast S80x256
      (window q ![80 * sh.2.val, 256 * sh.1.val] S80x256.size (inbQ sh.1.isLt sh.2.isLt)) shapeCasts_S80x256_S80x256) shapeCasts_S80x256_S1x80x256) }

/-- The state after the fills. -/
def execFill (msk : F .f32) (x : Mem F) : Mem F :=
  { x with
    m := put x.m ![0, 0, 0] S16x1x256.size (shapeCast S16x1x256 (broadcast S16x1x256 msk : FVec F S16x1x256 .f32) shapeCasts_S16x1x256_S16x1x256)
    a := put x.a ![0, 0, 0] S16x80x256.size (shapeCast S16x80x256 (broadcast S16x80x256 (Scalar.ofBits .f32 0x00000000#32) : FVec F S16x80x256 .f32) shapeCasts_S16x80x256_S16x80x256) }

/-- The output buffer after one tile. -/
def execO (x : Mem F) (o : Vec F S512x512 .bf16) (sh : Fin 2 × Fin 8) : Vec F S512x512 .bf16 :=
  put o ![64 * sh.2.val, 256 * sh.1.val] S64x256.size (outOf (getR x.a sh.1 sh.2))

end Exec

section Rules

variable {nD : ℕ} {τ : Topo} {sg : RefSig} {Λ : Labels} {F : FTy → Type} [FloatOps F]
variable {Ix : Type} [DecidableEq Ix] {Name : Type} [DecidableEq Name] {U : Type} [RA.URA U] {Lvl : Type} [Preorder Lvl]

local notation "𝕄" => MT nD τ sg Ix (Elt F) Name U Lvl

/-- The body's buffers at their contents. -/
def hold (c : Dev nD) (R : Refs sg) (q : Vec F S640x512 .bf16) (K V : Vec F S16x640x256 .bf16) (x : Mem F) (o : Vec F S512x512 .bf16) : sProp 𝕄 :=
  iprop(owns (c : Thread nD τ) R.q fullShare q ∗ owns (c : Thread nD τ) R.k fullShare K ∗ owns (c : Thread nD τ) R.v fullShare V ∗ owns (c : Thread nD τ) R.o fullShare o
    ∗ owns (c : Thread nD τ) R.qw fullShare x.qw ∗ owns (c : Thread nD τ) R.sa fullShare x.sa ∗ owns (c : Thread nD τ) R.sb fullShare x.sb
    ∗ owns (c : Thread nD τ) R.xa fullShare x.xa ∗ owns (c : Thread nD τ) R.xb fullShare x.xb ∗ owns (c : Thread nD τ) R.m fullShare x.m ∗ owns (c : Thread nD τ) R.a fullShare x.a)

variable (defs : Defs nD τ sg (Elt F) Λ) (𝒱 : Variants) (c : Dev nD) (bd : Option 𝒱.V) (E : Set Name) (R : Refs sg)
variable {q : Vec F S640x512 .bf16} {K V : Vec F S16x640x256 .bf16}

/-- A step of the body. -/
theorem wp_step (msk : F .f32) (x : Mem F) (o : Vec F S512x512 .bf16) (st : Step) {Q : PUnit → sProp 𝕄} :
    hold c R q K V x o ⊢ iprop((hold c R q K V (exec msk K V x st) o -∗ Q ⟨⟩) -∗ wp frame (wpE defs 𝒱 (c : Thread nD τ) bd) E (stepProg R msk st) Q) := by
  unfold hold
  cases st with
  | score b lim s h cc hc =>
    cases b
    all_goals
      simp only [stepProg, wp_bind, Refs.s, Refs.x, exec, Mem.setS, Mem.s, Mem.x, getK, getR, putR]
      iintro ⟨Hq, HK, HV, Ho, Hqw, Hsa, Hsb, Hxa, Hxb, Hm, Ha⟩ HQ
      iapply (wp_ld defs 𝒱 (c : Thread nD τ) bd E) $$ HK
      iintro HK
      iapply (wp_ld defs 𝒱 (c : Thread nD τ) bd E) $$ Hqw
      iintro Hqw
    · iapply (wp_ld defs 𝒱 (c : Thread nD τ) bd E) $$ Hsa
      iintro Hsa
      iapply (wp_st defs 𝒱 (c : Thread nD τ) bd E) $$ Hsa
      iintro Hsa
      iapply (wp_ld defs 𝒱 (c : Thread nD τ) bd E) $$ Hxa
      iintro Hxa
      iapply (wp_st defs 𝒱 (c : Thread nD τ) bd E) $$ Hxa
      iintro Hxa
      iapply HQ
      iframe
    · iapply (wp_ld defs 𝒱 (c : Thread nD τ) bd E) $$ Hsb
      iintro Hsb
      iapply (wp_st defs 𝒱 (c : Thread nD τ) bd E) $$ Hsb
      iintro Hsb
      iapply (wp_ld defs 𝒱 (c : Thread nD τ) bd E) $$ Hxb
      iintro Hxb
      iapply (wp_st defs 𝒱 (c : Thread nD τ) bd E) $$ Hxb
      iintro Hxb
      iapply HQ
      iframe
  | update b s h cc hc =>
    cases b
    all_goals
      simp only [stepProg, wp_bind, Refs.s, Refs.x, exec, Mem.setS, Mem.s, Mem.x, getK, getR, putR]
      iintro ⟨Hq, HK, HV, Ho, Hqw, Hsa, Hsb, Hxa, Hxb, Hm, Ha⟩ HQ
      iapply (wp_ld defs 𝒱 (c : Thread nD τ) bd E) $$ HV
      iintro HV
      iapply (wp_ld defs 𝒱 (c : Thread nD τ) bd E) $$ Hm
      iintro Hm
    · iapply (wp_ld defs 𝒱 (c : Thread nD τ) bd E) $$ Hxa
      iintro Hxa
      iapply (wp_ld defs 𝒱 (c : Thread nD τ) bd E) $$ Hsa
      iintro Hsa
      iapply (wp_ld defs 𝒱 (c : Thread nD τ) bd E) $$ Ha
      iintro Ha
      iapply (wp_ld defs 𝒱 (c : Thread nD τ) bd E) $$ Ha
      iintro Ha
      iapply (wp_st defs 𝒱 (c : Thread nD τ) bd E) $$ Ha
      iintro Ha
      iapply (wp_ld defs 𝒱 (c : Thread nD τ) bd E) $$ Hm
      iintro Hm
      iapply (wp_st defs 𝒱 (c : Thread nD τ) bd E) $$ Hm
      iintro Hm
      iapply HQ
      iframe
    · iapply (wp_ld defs 𝒱 (c : Thread nD τ) bd E) $$ Hxb
      iintro Hxb
      iapply (wp_ld defs 𝒱 (c : Thread nD τ) bd E) $$ Hsb
      iintro Hsb
      iapply (wp_ld defs 𝒱 (c : Thread nD τ) bd E) $$ Ha
      iintro Ha
      iapply (wp_ld defs 𝒱 (c : Thread nD τ) bd E) $$ Ha
      iintro Ha
      iapply (wp_st defs 𝒱 (c : Thread nD τ) bd E) $$ Ha
      iintro Ha
      iapply (wp_ld defs 𝒱 (c : Thread nD τ) bd E) $$ Hm
      iintro Hm
      iapply (wp_st defs 𝒱 (c : Thread nD τ) bd E) $$ Hm
      iintro Hm
      iapply HQ
      iframe

/-- A query window's copy. -/
theorem wp_q (hqw : R.qw.IsWhole) (x : Mem F) (o : Vec F S512x512 .bf16) (sh : Fin 2 × Fin 8) {Q : PUnit → sProp 𝕄} :
    hold c R q K V x o ⊢ iprop((hold c R q K V (execQ q x sh) o -∗ Q ⟨⟩) -∗ wp frame (wpE defs 𝒱 (c : Thread nD τ) bd) E (qwProg R hqw sh) Q) := by
  unfold hold
  simp only [qwProg, wp_bind, execQ, getR, putR]
  iintro ⟨Hq, HK, HV, Ho, Hqw, Hsa, Hsb, Hxa, Hxb, Hm, Ha⟩ HQ
  iapply (wp_ld defs 𝒱 (c : Thread nD τ) bd E) $$ Hq
  iintro Hq
  iapply (wp_ld defs 𝒱 (c : Thread nD τ) bd E) $$ Hqw
  iintro Hqw
  iapply (wp_st defs 𝒱 (c : Thread nD τ) bd E) $$ Hqw
  iintro Hqw
  iapply HQ
  iframe

/-- The fills. -/
theorem wp_fill (msk : F .f32) (x : Mem F) (o : Vec F S512x512 .bf16) {Q : PUnit → sProp 𝕄} :
    hold c R q K V x o ⊢ iprop((hold c R q K V (execFill msk x) o -∗ Q ⟨⟩) -∗ wp frame (wpE defs 𝒱 (c : Thread nD τ) bd) E (fillProg R msk) Q) := by
  unfold hold
  simp only [fillProg, wp_bind, execFill]
  iintro ⟨Hq, HK, HV, Ho, Hqw, Hsa, Hsb, Hxa, Hxb, Hm, Ha⟩ HQ
  iapply (wp_ld defs 𝒱 (c : Thread nD τ) bd E) $$ Hm
  iintro Hm
  iapply (wp_st defs 𝒱 (c : Thread nD τ) bd E) $$ Hm
  iintro Hm
  iapply (wp_ld defs 𝒱 (c : Thread nD τ) bd E) $$ Ha
  iintro Ha
  iapply (wp_st defs 𝒱 (c : Thread nD τ) bd E) $$ Ha
  iintro Ha
  iapply HQ
  iframe

/-- An output tile. -/
theorem wp_o (ho : R.o.IsWhole) (x : Mem F) (o : Vec F S512x512 .bf16) (sh : Fin 2 × Fin 8) {Q : PUnit → sProp 𝕄} :
    hold c R q K V x o ⊢ iprop((hold c R q K V x (execO x o sh) -∗ Q ⟨⟩) -∗ wp frame (wpE defs 𝒱 (c : Thread nD τ) bd) E (outProg R ho sh) Q) := by
  unfold hold
  simp only [outProg, wp_bind, execO, getR, putR]
  iintro ⟨Hq, HK, HV, Ho, Hqw, Hsa, Hsb, Hxa, Hxb, Hm, Ha⟩ HQ
  iapply (wp_ld defs 𝒱 (c : Thread nD τ) bd E) $$ Ha
  iintro Ha
  iapply (wp_ld defs 𝒱 (c : Thread nD τ) bd E) $$ Ho
  iintro Ho
  iapply (wp_st defs 𝒱 (c : Thread nD τ) bd E) $$ Ho
  iintro Ho
  iapply HQ
  iframe

/-- A list of programs, each of which moves a state: by the fold of the moves. -/
theorem wp_runAll {α : Type} {σ : Type} (p : α → Prog (TpuEff nD τ sg (Elt F) Λ .tc) PUnit) (H : σ → sProp 𝕄) (f : σ → α → σ)
    (hp : ∀ (x : σ) (y : α) {Q : PUnit → sProp 𝕄}, H x ⊢ iprop((H (f x y) -∗ Q ⟨⟩) -∗ wp frame (wpE defs 𝒱 (c : Thread nD τ) bd) E (p y) Q))
    (l : List α) (x : σ) {Q : PUnit → sProp 𝕄} :
    H x ⊢ iprop((H (l.foldl f x) -∗ Q ⟨⟩) -∗ wp frame (wpE defs 𝒱 (c : Thread nD τ) bd) E (runAll p l) Q) := by
  induction l generalizing x with
  | nil =>
    rw [List.foldl_nil]
    iintro H HQ
    iapply (le_wp_ret _ _ _ _ Q)
    iapply HQ
    iexact H
  | cons y ys ih =>
    rw [runAll, wp_bind]
    iintro H HQ
    iapply (hp x y) $$ H
    iintro H
    iapply (ih (f x y)) $$ H
    iexact HQ

end Rules

end Cert.Fox
-- ==== Proof.FoxRow.lean ====
/- The attention kernel's steps seen by one row of the scratch: one head and one half of the queries. -/
module

public import proofs.«01_k».proof.Proof.FoxWp
public import Idealize.ShloMosaic.Lib.Pointwise

@[expose] public section

noncomputable section

namespace Cert.Fox

open Idealize.ShloMosaic Idealize.ShloMosaic.TcCoe Idealize.ShloMosaic.Tactic
open Idealize.ShloMosaic.VecWindow (window put window_put_same window_put_of_disjoint)
open Cert.KernelIdeal Cert.KernelIdeal.Facts₀ Cert.KernelIdeal.Facts
open Idealize.ShloMosaic.Pointwise

attribute [local instance] Cert.KernelIdeal.Gen.facts₀ Cert.KernelIdeal.Gen.facts

variable {F : FTy → Type} [FloatOps F]

/-- One row of each scratch buffer. -/
structure Row (F : FTy → Type) where
  qw : Vec F S1x80x256 .bf16
  sa : Vec F S1x256x256 .f32
  sb : Vec F S1x256x256 .f32
  xa : Vec F S1x8x256 .f32
  xb : Vec F S1x8x256 .f32
  m : Vec F S1x1x256 .f32
  a : Vec F S1x80x256 .f32

/-- The row of a state. -/
def rowOf (x : Mem F) (s : Fin 2) (h : Fin 8) : Row F :=
  ⟨getR x.qw s h, getR x.sa s h, getR x.sb s h, getR x.xa s h, getR x.xb s h, getR x.m s h, getR x.a s h⟩

/-- The row a step works on. -/
def Step.key : Step → Fin 2 × Fin 8
  | .score _ _ s h _ _ => (s, h)
  | .update _ s h _ _ => (s, h)

/-- A step on its own row. -/
def rexec (msk : F .f32) (K V : Vec F S16x640x256 .bf16) (x : Row F) : Step → Row F
  | .score false lim s h c hc =>
    { x with sa := shapeCast S1x256x256 (scoreOf msk lim (getK K c hc h) x.qw) shapeCasts_S256x256_S1x256x256
             xa := shapeCast S1x8x256 (topsOf (scoreOf msk lim (getK K c hc h) x.qw)) shapeCasts_S8x256_S1x8x256 }
  | .score true lim s h c hc =>
    { x with sb := shapeCast S1x256x256 (scoreOf msk lim (getK K c hc h) x.qw) shapeCasts_S256x256_S1x256x256
             xb := shapeCast S1x8x256 (topsOf (scoreOf msk lim (getK K c hc h) x.qw)) shapeCasts_S8x256_S1x8x256 }
  | .update false s h c hc =>
    { x with a := shapeCast S1x80x256 (sumOf (getK V c hc h) x.m (maxOf x.m x.xa) x.sa x.a) shapeCasts_S80x256_S1x80x256
             m := shapeCast S1x1x256 (maxOf x.m x.xa) shapeCasts_S1x256_S1x1x256 }
  | .update true s h c hc =>
    { x with a := shapeCast S1x80x256 (sumOf (getK V c hc h) x.m (maxOf x.m x.xb) x.sb x.a) shapeCasts_S80x256_S1x80x256
             m := shapeCast S1x1x256 (maxOf x.m x.xb) shapeCasts_S1x256_S1x1x256 }

theorem getR_putR_same {e : EltTy} {A B : ℕ} (X : Vec F ⟨3, ![16, A, B]⟩ e) (s : Fin 2) (h : Fin 8) (w : Vec F ⟨3, ![1, A, B]⟩ e) :
    getR (putR X s h w) s h = w := window_put_same _ _ _ _ _

theorem getR_putR_ne {e : EltTy} {A B : ℕ} (X : Vec F ⟨3, ![16, A, B]⟩ e) (s s' : Fin 2) (h h' : Fin 8) (w : Vec F ⟨3, ![1, A, B]⟩ e) (hne : (s', h') ≠ (s, h)) :
    getR (putR X s' h' w) s h = getR X s h := by
  refine window_put_of_disjoint _ _ _ _ _ _ _ 0 ?_
  have : rowAt s' h' ≠ rowAt s h := fun e => hne (by
    have := s.isLt; have := s'.isLt; have := h.isLt; have := h'.isLt
    unfold rowAt at e
    exact Prod.ext (Fin.ext (show s'.val = s.val by omega)) (Fin.ext (show h'.val = h.val by omega)))
  show rowAt s h + 1 ≤ rowAt s' h' ∨ rowAt s' h' + 1 ≤ rowAt s h
  omega

theorem rowOf_exec (msk : F .f32) (K V : Vec F S16x640x256 .bf16) (x : Mem F) (st : Step) (s : Fin 2) (h : Fin 8) :
    rowOf (exec msk K V x st) s h = if st.key = (s, h) then rexec msk K V (rowOf x s h) st else rowOf x s h := by
  cases st with
  | score b lim s' h' c hc =>
    by_cases e : (s', h') = (s, h)
    · refine Eq.trans ?_ (if_pos e).symm
      obtain ⟨rfl, rfl⟩ := Prod.mk.inj e
      cases b <;> simp only [exec, rexec, rowOf, Mem.setS, Mem.s, Mem.x, getR_putR_same]
    · refine Eq.trans ?_ (if_neg e).symm
      cases b <;> simp only [exec, rowOf, Mem.setS, Mem.s, Mem.x, getR_putR_ne _ _ _ _ _ _ e]
  | update b s' h' c hc =>
    by_cases e : (s', h') = (s, h)
    · refine Eq.trans ?_ (if_pos e).symm
      obtain ⟨rfl, rfl⟩ := Prod.mk.inj e
      cases b <;> simp only [exec, rexec, rowOf, Mem.setS, Mem.s, Mem.x, getR_putR_same]
    · refine Eq.trans ?_ (if_neg e).symm
      cases b <;> simp only [exec, rowOf, Mem.setS, Mem.s, Mem.x, getR_putR_ne _ _ _ _ _ _ e]

theorem rowOf_run (msk : F .f32) (K V : Vec F S16x640x256 .bf16) (s : Fin 2) (h : Fin 8) (l : List Step) (x : Mem F) :
    rowOf (l.foldl (exec msk K V) x) s h = (l.filter fun st => st.key = (s, h)).foldl (rexec msk K V) (rowOf x s h) := by
  induction l generalizing x with
  | nil => rfl
  | cons st l ih =>
    rw [List.foldl_cons, ih, rowOf_exec]
    by_cases e : st.key = (s, h)
    · rw [List.filter_cons_of_pos (by simpa using e), List.foldl_cons, if_pos e]
    · rw [List.filter_cons_of_neg (by simpa using e), if_neg e]

/-- The limit on a block of the first half in an even place. -/
def limOf (s : Fin 2) (d : BitVec 1) : Option (IVec S1x256 32) := if s = 0 then some (limAt d) else none

theorem first_filter (d : BitVec 1) (s : Fin 2) (h : Fin 8) :
    (firstSteps d).filter (fun st => st.key = (s, h)) = [.score false (limOf s d) s h 0 (by decide)] := by
  fin_cases s <;> fin_cases h <;> rfl

theorem trip_filter (c0 c1 c2 : ℕ) (h0 : c0 + 1 ≤ 16) (h1 : c1 + 1 ≤ 16) (h2 : c2 + 1 ≤ 16) (d : BitVec 1) (s : Fin 2) (h : Fin 8) :
    (tripSteps c0 c1 c2 h0 h1 h2 d).filter (fun st => st.key = (s, h))
      = [.score true none s h c1 h1, .update false s h c0 h0, .score false (limOf s d) s h c2 h2, .update true s h c1 h1] := by
  fin_cases s <;> fin_cases h <;> rfl

theorem last_filter (c0 c1 : ℕ) (h0 : c0 + 1 ≤ 16) (h1 : c1 + 1 ≤ 16) (s : Fin 2) (h : Fin 8) :
    (lastSteps c0 c1 h0 h1).filter (fun st => st.key = (s, h))
      = if s = 0 then [.update false s h c0 h0]
        else [.score true (some (iota .tc S1x256 32 [1] iota_S1x256_d1_w32)) s h c1 h1, .update false s h c0 h0, .update true s h c1 h1] := by
  fin_cases s <;> fin_cases h <;> rfl

/-! ## What a row holds -/

/-- The part of the keys or values of block `n` and head `h`. -/
def kwin (X : Vec F S16x640x256 .bf16) (n : ℕ) (h : Fin 8) : Vec F S1x80x256 .bf16 :=
  fun y => X (ix3 ⟨n % 16, Nat.mod_lt _ (by decide)⟩ ⟨80 * h.val + (y 1).val, by have h1 : (y 1).val < 80 := (y 1).isLt; have := h.isLt; omega⟩ (y 2))

theorem getK_eq (X : Vec F S16x640x256 .bf16) (n : ℕ) (hn : n + 1 ≤ 16) (h : Fin 8) : getK X n hn h = kwin X n h := by
  funext y
  show X _ = X _
  congr 1
  have h0 : (y 0).val < 1 := (y 0).isLt
  funext a
  refine Fin.ext ?_
  fin_cases a
  · show n + 1 * (y 0).val = n % 16
    omega
  · show 80 * h.val + 1 * (y 1).val = 80 * h.val + (y 1).val
    omega
  · show 0 + 1 * (y 2).val = (y 2).val
    omega

/-- The query window of one half and one head. -/
def qwin (q : Vec F S640x512 .bf16) (s : Fin 2) (h : Fin 8) : Vec F S1x80x256 .bf16 :=
  shapeCast S1x80x256 (shapeCast S80x256 (window q ![80 * h.val, 256 * s.val] S80x256.size (inbQ s.isLt h.isLt)) shapeCasts_S80x256_S80x256) shapeCasts_S80x256_S1x80x256

/-- The limit on the key index in block `n` of half `s`, the query block being `jj`. -/
def limB (jj : ℕ) (s : Fin 2) (n : ℕ) : Option (IVec S1x256 32) :=
  if s = 0 then (if n % 2 = 0 then some (limAt (if n = 2 * jj then 1#1 else 0#1)) else none)
  else (if n = 2 * jj + 1 then some (iota .tc S1x256 32 [1] iota_S1x256_d1_w32) else none)

section Spec

variable (msk : F .f32) (q : Vec F S640x512 .bf16) (K V : Vec F S16x640x256 .bf16) (jj : ℕ) (s : Fin 2) (h : Fin 8)

/-- The scores of block `n`. -/
def sB (n : ℕ) : FVec F S256x256 .f32 := scoreOf msk (limB jj s n) (kwin K n h) (qwin q s h)

/-- The running maximum and weighted sum after `n` blocks. -/
def stB : ℕ → Vec F S1x1x256 .f32 × Vec F S1x80x256 .f32
  | 0 => (fun _ => msk, fun _ => Scalar.ofBits .f32 0x00000000#32)
  | n + 1 =>
    let x := stB n
    let S := shapeCast S1x256x256 (sB msk q K jj s h n) shapeCasts_S256x256_S1x256x256
    let T := shapeCast S1x8x256 (topsOf (sB msk q K jj s h n)) shapeCasts_S8x256_S1x8x256
    (shapeCast S1x1x256 (maxOf x.1 T) shapeCasts_S1x256_S1x1x256,
      shapeCast S1x80x256 (sumOf (kwin V n h) x.1 (maxOf x.1 T) S x.2) shapeCasts_S80x256_S1x80x256)

/-- What a row holds before the update from block `n`, its scores being in the first buffer. -/
def RowOk (n : ℕ) (r : Row F) : Prop :=
  r.qw = qwin q s h ∧ r.m = (stB msk q K V jj s h n).1 ∧ r.a = (stB msk q K V jj s h n).2
    ∧ r.sa = shapeCast S1x256x256 (sB msk q K jj s h n) shapeCasts_S256x256_S1x256x256
    ∧ r.xa = shapeCast S1x8x256 (topsOf (sB msk q K jj s h n)) shapeCasts_S8x256_S1x8x256

end Spec

/-- Every row holds what it should before trip `k`. -/
def Ok (msk : F .f32) (q : Vec F S640x512 .bf16) (K V : Vec F S16x640x256 .bf16) (jj k : ℕ) (x : Mem F) : Prop :=
  ∀ s h, RowOk msk q K V jj s h (2 * k) (rowOf x s h)

theorem trip_ok (msk : F .f32) (q : Vec F S640x512 .bf16) (K V : Vec F S16x640x256 .bf16) (jj k : ℕ) (hk : k < jj) (x : Mem F)
    (h0 : 2 * k + 1 ≤ 16) (h1 : 2 * k + 1 + 1 ≤ 16) (h2 : 2 * k + 2 + 1 ≤ 16) (hx : Ok msk q K V jj k x) :
    Ok msk q K V jj (k + 1) ((tripSteps (2 * k) (2 * k + 1) (2 * k + 2) h0 h1 h2 (if k + 1 = jj then 1#1 else 0#1)).foldl (exec msk K V) x) := by
  intro s h
  rw [rowOf_run, trip_filter]
  obtain ⟨e1, e2, e3, e4, e5⟩ := hx s h
  have l1 : limB jj s (2 * k + 1) = none := by
    unfold limB
    split <;> rw [if_neg (by omega)]
  have l2 : limB jj s (2 * k + 2) = limOf s (if k + 1 = jj then 1#1 else 0#1) := by
    unfold limB limOf
    split
    · rw [if_pos (by omega)]
      simp only [show (2 * k + 2 = 2 * jj) = (k + 1 = jj) from propext (by omega)]
    · rw [if_neg (by omega)]
  simp only [List.foldl_cons, List.foldl_nil, rexec, getK_eq, e1, e2, e3, e4, e5]
  refine ⟨rfl, ?_, ?_, ?_, ?_⟩
  · show _ = (stB msk q K V jj s h (2 * k + 1 + 1)).1
    simp only [stB, sB, l1]
  · show _ = (stB msk q K V jj s h (2 * k + 1 + 1)).2
    simp only [stB, sB, l1]
  · show _ = shapeCast S1x256x256 (sB msk q K jj s h (2 * k + 2)) _
    simp only [sB, l2]
  · show _ = shapeCast S1x8x256 (topsOf (sB msk q K jj s h (2 * k + 2))) _
    simp only [sB, l2]

/-- The number of blocks that half `s` sees. -/
abbrev seen (jj : ℕ) (s : Fin 2) : ℕ := 2 * jj + 1 + s.val

theorem last_ok (msk : F .f32) (q : Vec F S640x512 .bf16) (K V : Vec F S16x640x256 .bf16) (jj : ℕ) (x : Mem F)
    (h0 : 2 * jj + 1 ≤ 16) (h1 : 2 * jj + 1 + 1 ≤ 16) (hx : Ok msk q K V jj jj x) (s : Fin 2) (h : Fin 8) :
    getR ((lastSteps (2 * jj) (2 * jj + 1) h0 h1).foldl (exec msk K V) x).a s h = (stB msk q K V jj s h (seen jj s)).2 := by
  have e := congrArg Row.a (rowOf_run msk K V s h (lastSteps (2 * jj) (2 * jj + 1) h0 h1) x)
  refine Eq.trans e ?_
  rw [last_filter]
  obtain ⟨e1, e2, e3, e4, e5⟩ := hx s h
  by_cases hs : s = 0
  · subst hs
    rw [if_pos rfl]
    simp only [List.foldl_cons, List.foldl_nil, rexec, getK_eq, e1, e2, e3, e4, e5]
    rfl
  · rw [if_neg hs]
    have hs1 : seen jj s = 2 * jj + 1 + 1 := by
      have : s.val ≠ 0 := fun e => hs (Fin.ext e)
      have := s.isLt
      unfold seen
      omega
    have l1 : limB jj s (2 * jj + 1) = some (iota .tc S1x256 32 [1] iota_S1x256_d1_w32) := by
      unfold limB
      rw [if_neg hs, if_pos rfl]
    simp only [List.foldl_cons, List.foldl_nil, rexec, getK_eq, e1, e2, e3, e4, e5, hs1]
    simp only [stB, sB, l1]

/-! ## Before the loop -/

theorem rowOf_execQ (q : Vec F S640x512 .bf16) (l : List (Fin 2 × Fin 8)) (x : Mem F) (s : Fin 2) (h : Fin 8) :
    rowOf (l.foldl (execQ q) x) s h = { rowOf x s h with qw := if (s, h) ∈ l then qwin q s h else (rowOf x s h).qw } := by
  induction l generalizing x with
  | nil => rfl
  | cons sh l ih =>
    rw [List.foldl_cons, ih]
    obtain ⟨s', h'⟩ := sh
    by_cases e : (s', h') = (s, h)
    · obtain ⟨rfl, rfl⟩ := Prod.mk.inj e
      have : (rowOf (execQ q x (s', h')) s' h').qw = qwin q s' h' := getR_putR_same _ _ _ _
      simp only [this, ite_self, List.mem_cons, true_or, if_true]
      rfl
    · have : (rowOf (execQ q x (s', h')) s h).qw = (rowOf x s h).qw := getR_putR_ne _ _ _ _ _ _ e
      simp only [this, List.mem_cons, show ((s, h) = (s', h')) = False from eq_false fun e' => e e'.symm, false_or]
      rfl

/-- A put over the whole shape is the payload. -/
theorem getR_fill {e : EltTy} {A B : ℕ} (X w : Vec F ⟨3, ![16, A, B]⟩ e) (v : Elt F e) (hw : ∀ y, w y = v) (s : Fin 2) (h : Fin 8) :
    getR (put X ![0, 0, 0] (⟨3, ![16, A, B]⟩ : Shape).size w) s h = fun _ => v := by
  funext y
  unfold getR window put
  rw [dif_pos (fun a => ?_)]
  · exact hw _
  · refine ⟨?_, ?_⟩
    · fin_cases a <;> exact Nat.zero_le _
    · refine lt_of_lt_of_eq (Fin.isLt _) ?_
      fin_cases a <;> exact (Nat.zero_add _).symm

theorem first_ok (msk : F .f32) (q : Vec F S640x512 .bf16) (K V : Vec F S16x640x256 .bf16) (jj : ℕ) (x : Mem F) :
    Ok msk q K V jj 0 ((firstSteps (if 0 = jj then 1#1 else 0#1)).foldl (exec msk K V) (rowList.foldl (execQ q) (execFill msk x))) := by
  intro s h
  rw [rowOf_run, first_filter, rowOf_execQ, if_pos (by fin_cases s <;> fin_cases h <;> decide)]
  have l0 : limB jj s (2 * 0) = limOf s (if 0 = jj then 1#1 else 0#1) := by
    unfold limB limOf
    split
    · rw [if_pos (by decide)]
      simp only [show (2 * 0 = 2 * jj) = (0 = jj) from propext (by omega)]
    · rw [if_neg (by omega)]
  simp only [List.foldl_cons, List.foldl_nil, rexec, getK_eq]
  refine ⟨rfl, ?_, ?_, ?_, ?_⟩
  · exact getR_fill _ _ _ (fun _ => rfl) s h
  · exact getR_fill _ _ _ (fun _ => rfl) s h
  · simp only [sB, l0]
  · simp only [sB, l0]

/-! ## The output -/

/-- The output block. -/
def outB (msk : F .f32) (q : Vec F S640x512 .bf16) (K V : Vec F S16x640x256 .bf16) (jj : ℕ) : Vec F S512x512 .bf16 := fun y =>
  outOf (stB msk q K V jj ⟨(y 1).val / 256, by have h : (y 1).val < 512 := (y 1).isLt; omega⟩ ⟨(y 0).val / 64, by have h : (y 0).val < 512 := (y 0).isLt; omega⟩
      (seen jj ⟨(y 1).val / 256, by have h : (y 1).val < 512 := (y 1).isLt; omega⟩)).2
    (ix2 ⟨(y 0).val % 64, Nat.mod_lt _ (by decide)⟩ ⟨(y 1).val % 256, Nat.mod_lt _ (by decide)⟩)

theorem execO_at (x : Mem F) (l : List (Fin 2 × Fin 8)) (o : Vec F S512x512 .bf16) (y : S512x512.Idx) (s : Fin 2) (h : Fin 8)
    (hs : s.val = (y 1).val / 256) (hh : h.val = (y 0).val / 64) :
    l.foldl (execO x) o y = if (s, h) ∈ l then outOf (getR x.a s h) (ix2 ⟨(y 0).val % 64, Nat.mod_lt _ (by decide)⟩ ⟨(y 1).val % 256, Nat.mod_lt _ (by decide)⟩) else o y := by
  induction l generalizing o with
  | nil => rfl
  | cons sh l ih =>
    rw [List.foldl_cons, ih]
    by_cases hl : (s, h) ∈ l
    · rw [if_pos hl, if_pos (List.mem_cons_of_mem _ hl)]
    · rw [if_neg hl]
      obtain ⟨s', h'⟩ := sh
      unfold execO put
      by_cases e : (s, h) = (s', h')
      · obtain ⟨rfl, rfl⟩ := Prod.mk.inj e
        rw [if_pos (List.mem_cons_self ..), dif_pos (fun a => ?_)]
        · congr 1
          funext a
          refine Fin.ext ?_
          fin_cases a
          · show (y 0).val - 64 * h.val = (y 0).val % 64
            omega
          · show (y 1).val - 256 * s.val = (y 1).val % 256
            omega
        · fin_cases a
          · show 64 * h.val ≤ (y 0).val ∧ (y 0).val < 64 * h.val + 64
            omega
          · show 256 * s.val ≤ (y 1).val ∧ (y 1).val < 256 * s.val + 256
            omega
      · rw [if_neg (by rw [List.mem_cons]; exact not_or.mpr ⟨e, hl⟩), dif_neg fun hin => e ?_]
        have h0 : 64 * h'.val ≤ (y 0).val ∧ (y 0).val < 64 * h'.val + 64 := hin 0
        have h1 : 256 * s'.val ≤ (y 1).val ∧ (y 1).val < 256 * s'.val + 256 := hin 1
        exact Prod.ext (Fin.ext (show s.val = s'.val by omega)) (Fin.ext (show h.val = h'.val by omega))

theorem out_ok (msk : F .f32) (q : Vec F S640x512 .bf16) (K V : Vec F S16x640x256 .bf16) (jj : ℕ) (x : Mem F) (o : Vec F S512x512 .bf16)
    (hx : ∀ s h, getR x.a s h = (stB msk q K V jj s h (seen jj s)).2) : rowList.foldl (execO x) o = outB msk q K V jj := by
  funext y
  have h0 : (y 0).val < 512 := (y 0).isLt
  have h1 : (y 1).val < 512 := (y 1).isLt
  rw [execO_at x rowList o y ⟨(y 1).val / 256, by omega⟩ ⟨(y 0).val / 64, by omega⟩ rfl rfl, if_pos, hx]
  · rfl
  · generalize (⟨(y 1).val / 256, _⟩ : Fin 2) = s
    generalize (⟨(y 0).val / 64, _⟩ : Fin 8) = h
    fin_cases s <;> fin_cases h <;> decide

end Cert.Fox
-- ==== Proof.FoxBody.lean ====
/- The attention kernel's body as a whole: from any scratch contents to the output block. -/
module

public import proofs.«01_k».proof.Proof.FoxRow

@[expose] public section

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Cert.KernelIdeal Cert.KernelIdeal.Facts₀ Cert.KernelIdeal.Facts

attribute [local instance] Cert.KernelIdeal.Gen.facts₀ Cert.KernelIdeal.Gen.facts

/-! ## Words -/

/-- The word of trip `t`. -/
abbrev tw (t : ℕ) : BitVec 32 := Scf.iv 0#32 1#32 t
/-- Twice the trip. -/
abbrev wA (t : ℕ) : BitVec 32 := Scalar.muli 2#32 (tw t)
/-- The block after. -/
abbrev wB (t : ℕ) : BitVec 32 := Scalar.addi (wA t) 1#32
/-- The block after that. -/
abbrev wC (t : ℕ) : BitVec 32 := Scalar.addi (wB t) 1#32

theorem wA_eq : ∀ t : Fin 8, (Scalar.indexCast (wA t.val)).toNat = 2 * t.val := by decide
theorem wB_eq : ∀ t : Fin 8, (Scalar.indexCast (wB t.val)).toNat = 2 * t.val + 1 := by decide
theorem wC_eq : ∀ t : Fin 8, (Scalar.indexCast (wC t.val)).toNat = 2 * t.val + 2 := by decide
theorem uA_eq : ∀ j : Fin 8, (Scalar.indexCast (Scalar.muli 2#32 (BitVec.ofNat 32 j.val))).toNat = 2 * j.val := by decide
theorem uB_eq : ∀ j : Fin 8, (Scalar.indexCast (Scalar.addi (Scalar.muli 2#32 (BitVec.ofNat 32 j.val)) 1#32)).toNat = 2 * j.val + 1 := by decide
theorem d0_eq : ∀ j : Fin 8, Scalar.cmpi .eq (BitVec.ofNat 32 j.val) 0#32 = if 0 = j.val then 1#1 else 0#1 := by decide
theorem dt_eq : ∀ j t : Fin 8, Scalar.cmpi .eq (tw t.val) (Scalar.subi (BitVec.ofNat 32 j.val) 1#32) = if t.val + 1 = j.val then 1#1 else 0#1 := by decide
theorem trips1_eq : ∀ j : Fin 8, Scf.trips 0#32 (Scalar.addi 0#32 (Scalar.muli (Scalar.divsi (Scalar.subi (BitVec.ofNat 32 j.val) 0#32) 1#32) 1#32)) 1#32 = j.val := by decide
theorem trips2_eq : ∀ j : Fin 8, Scf.trips (Scalar.addi 0#32 (Scalar.muli (Scalar.divsi (Scalar.subi (BitVec.ofNat 32 j.val) 0#32) 1#32) 1#32))
    (Scalar.addi 0#32 (Scalar.subi (BitVec.ofNat 32 j.val) 0#32)) 1#32 = 0 := by decide

/-! ## The body -/

variable {nD : ℕ} {τ : Topo} {sg : RefSig} {Λ : Labels} {F : FTy → Type} [FloatOps F]
variable {Ix : Type} [DecidableEq Ix] {Name : Type} [DecidableEq Name] {U : Type} [RA.URA U] {Lvl : Type} [Preorder Lvl]

local notation "𝕄" => MT nD τ sg Ix (Elt F) Name U Lvl

variable (defs : Defs nD τ sg (Elt F) Λ) (𝒱 : Variants) (c : Dev nD) (bd : Option 𝒱.V) (E : Set Name) (R : Refs sg)

/-- The body, as steps, at query block `j`: whatever the scratch and the output hold, the output ends as `outB`. -/
theorem wp_body (hqw : R.qw.IsWhole) (ho : R.o.IsWhole) (msk : F .f32) (j : Fin 8) (q : Vec F S640x512 .bf16) (K V : Vec F S16x640x256 .bf16)
    (L1 L2 : Scf.Loop 32) (ok1 : L1.OK) (ok2 : L2.OK) (ht1 : L1.trips = j.val) (ht2 : L2.trips = 0)
    (hA : ∀ t : Fin L1.trips, (Scalar.indexCast (wA t.val)).toNat + 1 ≤ 16) (hB : ∀ t : Fin L1.trips, (Scalar.indexCast (wB t.val)).toNat + 1 ≤ 16)
    (hC : ∀ t : Fin L1.trips, (Scalar.indexCast (wC t.val)).toNat + 1 ≤ 16)
    (hU : (Scalar.indexCast (Scalar.muli 2#32 (BitVec.ofNat 32 j.val))).toNat + 1 ≤ 16)
    (hW : (Scalar.indexCast (Scalar.addi (Scalar.muli 2#32 (BitVec.ofNat 32 j.val)) 1#32)).toNat + 1 ≤ 16)
    (body2 : Fin L2.trips → Unit → Prog (TpuEff nD τ sg (Elt F) Λ .tc) Unit)
    (x : Mem F) (o : Vec F S512x512 .bf16) {Q : PUnit → sProp 𝕄} :
    hold c R q K V x o ⊢ iprop((∀ y, hold c R q K V y (outB msk q K V j.val) -∗ Q ⟨⟩) -∗ wp frame (wpE defs 𝒱 (c : Thread nD τ) bd) E (do
      fillProg R msk
      runAll (qwProg R hqw) rowList
      runAll (stepProg R msk) (firstSteps (Scalar.cmpi .eq (BitVec.ofNat 32 j.val) 0#32))
      Scf.Loop.for L1 ok1 () (fun t _ => runAll (stepProg R msk)
        (tripSteps (Scalar.indexCast (wA t.val)).toNat (Scalar.indexCast (wB t.val)).toNat (Scalar.indexCast (wC t.val)).toNat (hA t) (hB t) (hC t)
          (Scalar.cmpi .eq (tw t.val) (Scalar.subi (BitVec.ofNat 32 j.val) 1#32))))
      Scf.Loop.for L2 ok2 () body2
      runAll (stepProg R msk) (lastSteps (Scalar.indexCast (Scalar.muli 2#32 (BitVec.ofNat 32 j.val))).toNat
        (Scalar.indexCast (Scalar.addi (Scalar.muli 2#32 (BitVec.ofNat 32 j.val)) 1#32)).toNat hU hW)
      runAll (outProg R ho) rowList) Q) := by
  have key : ∀ y : Mem F, Ok msk q K V j.val L1.trips y →
      rowList.foldl (execO ((lastSteps (Scalar.indexCast (Scalar.muli 2#32 (BitVec.ofNat 32 j.val))).toNat
        (Scalar.indexCast (Scalar.addi (Scalar.muli 2#32 (BitVec.ofNat 32 j.val)) 1#32)).toNat hU hW).foldl (exec msk K V) y)) o = outB msk q K V j.val := by
    intro y hy
    refine out_ok msk q K V j.val _ o fun s h => ?_
    revert hU hW
    rw [uA_eq j, uB_eq j]
    intro hU hW
    exact last_ok msk q K V j.val y hU hW (ht1 ▸ hy) s h
  have hfirst : Ok msk q K V j.val 0 ((firstSteps (Scalar.cmpi .eq (BitVec.ofNat 32 j.val) 0#32)).foldl (exec msk K V) (rowList.foldl (execQ q) (execFill msk x))) := by
    rw [d0_eq j]
    exact first_ok msk q K V j.val x
  have htrip : ∀ (t : Fin L1.trips) (y : Mem F), Ok msk q K V j.val t.val y →
      Ok msk q K V j.val (t.val + 1) ((tripSteps (Scalar.indexCast (wA t.val)).toNat (Scalar.indexCast (wB t.val)).toNat (Scalar.indexCast (wC t.val)).toNat (hA t) (hB t) (hC t)
          (Scalar.cmpi .eq (tw t.val) (Scalar.subi (BitVec.ofNat 32 j.val) 1#32))).foldl (exec msk K V) y) := by
    intro t y hy
    have htj : t.val < j.val := lt_of_lt_of_eq t.isLt ht1
    have h8 : t.val < 8 := htj.trans j.isLt
    have a := wA_eq ⟨t.val, h8⟩
    have b := wB_eq ⟨t.val, h8⟩
    have e := wC_eq ⟨t.val, h8⟩
    have d := dt_eq j ⟨t.val, h8⟩
    dsimp only at a b e d
    generalize hA t = p1
    generalize hB t = p2
    generalize hC t = p3
    revert p1 p2 p3
    rw [a, b, e, d]
    intro p1 p2 p3
    exact trip_ok msk q K V j.val t.val htj y p1 p2 p3 hy
  iintro H HQ
  rw [wp_bind]
  iapply (wp_fill defs 𝒱 c bd E R msk x o) $$ H
  iintro H
  rw [wp_bind]
  iapply (wp_runAll defs 𝒱 c bd E (qwProg R hqw) (fun x => hold c R q K V x o) (execQ q) (fun x y => wp_q defs 𝒱 c bd E R hqw x o y) rowList (execFill msk x)) $$ H
  iintro H
  rw [wp_bind]
  iapply (wp_runAll defs 𝒱 c bd E (stepProg R msk) (fun x => hold c R q K V x o) (exec msk K V) (fun x y => wp_step defs 𝒱 c bd E R msk x o y) _ _) $$ H
  iintro H
  iapply (Scf.wp_for_bind frame (wpE defs 𝒱 (c : Thread nD τ) bd) E L1.lb L1.ub L1.st ok1 () _
    (fun k _ => iprop(∃ y, ⌜Ok msk q K V j.val k y⌝ ∗ hold c R q K V y o)) ?_) $$ [H]
  · iintro %t %acc ⟨%y, %hy, H⟩
    iapply (wp_runAll defs 𝒱 c bd E (stepProg R msk) (fun x => hold c R q K V x o) (exec msk K V) (fun x y => wp_step defs 𝒱 c bd E R msk x o y) _ _) $$ H
    iintro H
    iexists _
    isplitr
    · ipureintro
      exact htrip t y hy
    · iexact H
  · iexists _
    isplitr
    · ipureintro
      exact hfirst
    · iexact H
  · iintro %acc ⟨%y, %hy, H⟩
    iapply (Scf.wp_for_bind frame (wpE defs 𝒱 (c : Thread nD τ) bd) E L2.lb L2.ub L2.st ok2 () body2
      (fun k _ => hold c R q K V y o) (fun k => absurd k.isLt (by have : Scf.trips L2.lb L2.ub L2.st = 0 := ht2; omega))) $$ H
    iintro %acc2 H
    rw [wp_bind]
    iapply (wp_runAll defs 𝒱 c bd E (stepProg R msk) (fun x => hold c R q K V x o) (exec msk K V) (fun x y => wp_step defs 𝒱 c bd E R msk x o y) _ _) $$ H
    iintro H
    iapply (wp_runAll defs 𝒱 c bd E (outProg R ho) (fun o => hold c R q K V _ o) (execO _) (fun o sh => wp_o defs 𝒱 c bd E R ho _ o sh) _ _) $$ H
    iintro H
    rw [key y hy]
    iapply HQ
    iexact H

end Cert.Fox
-- ==== Proof.FoxIdeal.lean ====
/- The attention call, its mask named: its body as steps, what each point leaves, the run and the frame. -/
module

public import proofs.«01_k».proof.Proof.FoxBody
public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.FoxIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Fox (Refs Mem hold outB runAll stepProg qwProg outProg fillProg rowList firstSteps tripSteps lastSteps tw wA wB wC)

variable {F : FTy → Type} [FloatOps F] [Named F]

local notation "𝕄" => MT nD τ sig Unit (Elt F) ℕ (UR sig nD τ) ℕ

/-- The value that masks a score. -/
abbrev msk : F .f32 := Named.named κ "mask" 0xF149F2CA#32

/-- The body at a point is the list of steps. -/
theorem root_eq (i : grid0.Coords) (arg3 : Memref sig .tc .vmem S640x512 .bf16) (harg3 : arg3.IsWhole) (arg4 : Memref sig .tc .vmem S16x640x256 .bf16) (harg4 : arg4.IsWhole)
    (arg5 : Memref sig .tc .vmem S16x640x256 .bf16) (harg5 : arg5.IsWhole) (arg6 : Memref sig .tc .vmem S512x512 .bf16) (harg6 : arg6.IsWhole)
    (arg7 : Memref sig .tc .vmem S16x80x256 .bf16) (harg7 : arg7.IsWhole) (arg8 : Memref sig .tc .vmem S16x256x256 .f32) (harg8 : arg8.IsWhole)
    (arg9 : Memref sig .tc .vmem S16x256x256 .f32) (harg9 : arg9.IsWhole) (arg10 : Memref sig .tc .vmem S16x8x256 .f32) (harg10 : arg10.IsWhole)
    (arg11 : Memref sig .tc .vmem S16x8x256 .f32) (harg11 : arg11.IsWhole) (arg12 : Memref sig .tc .vmem S16x1x256 .f32) (harg12 : arg12.IsWhole)
    (arg13 : Memref sig .tc .vmem S16x80x256 .f32) (harg13 : arg13.IsWhole) (R : Refs sig)
    (hR : R = ⟨arg3, arg4, arg5, arg6, arg7, arg8, arg9, arg10, arg11, arg12, arg13⟩) (hqw : R.qw.IsWhole) (ho : R.o.IsWhole) :
    cc0_fox_attention (F := F) i arg3 harg3 arg4 harg4 arg5 harg5 arg6 harg6 arg7 harg7 arg8 harg8 arg9 harg9 arg10 harg10 arg11 harg11 arg12 harg12 arg13 harg13 = (do
      fillProg R msk
      runAll (qwProg R hqw) rowList
      runAll (stepProg R msk) (firstSteps (Scalar.cmpi .eq (BitVec.ofNat 32 (i 2).val) 0#32))
      Scf.Loop.for (k0_t1_loop i) (k0_t1_ok i) () (fun t _ => runAll (stepProg R msk)
        (tripSteps (Scalar.indexCast (wA t.val)).toNat (Scalar.indexCast (wB t.val)).toNat (Scalar.indexCast (wC t.val)).toNat
          (k0_off2_inb i t 0) (k0_off1_inb i t 0) (k0_off17_inb i t 0)
          (Scalar.cmpi .eq (tw t.val) (Scalar.subi (BitVec.ofNat 32 (i 2).val) 1#32))))
      Scf.Loop.for (k0_t2_loop i) (k0_t2_ok i) () (k0_t2_body (F := F) i arg3 harg3 arg4 harg4 arg5 harg5 arg6 harg6 arg7 harg7 arg8 harg8 arg9 harg9 arg10 harg10 arg11 harg11 arg12 harg12 arg13 harg13 (BitVec.ofNat 32 (i 2).val) (iota .tc S256x256 32 [0] iota_S256x256_d0_w32) (iota .tc S1x256 32 [1] iota_S1x256_d1_w32) (k0_t1_loop i).ub)
      runAll (stepProg R msk) (lastSteps (Scalar.indexCast (Scalar.muli 2#32 (BitVec.ofNat 32 (i 2).val))).toNat
        (Scalar.indexCast (Scalar.addi (Scalar.muli 2#32 (BitVec.ofNat 32 (i 2).val)) 1#32)).toNat (k0_off50_inb i 0) (k0_off49_inb i 0))
      runAll (outProg R ho) rowList) := by
  subst hR
  rw [cc0_fox_attention_eq_skeleton]
  unfold cc0_fox_attention_skel
  simp only [k0_part104_eq_skeleton, k0_part105_eq_skeleton]
  unfold k0_part104_skel k0_part105_skel
  simp only [bind_assoc, pure_bind]
  sl_kernel_rfl

/-- The body's triple: from any contents of the scratch and the output, the output ends as `outB` of the other three. -/
theorem sound_kernel (c : Dev nD) (i : grid0.Coords) (arg3 : Memref sig .tc .vmem S640x512 .bf16) (harg3 : arg3.IsWhole) (arg4 : Memref sig .tc .vmem S16x640x256 .bf16) (harg4 : arg4.IsWhole)
    (arg5 : Memref sig .tc .vmem S16x640x256 .bf16) (harg5 : arg5.IsWhole) (arg6 : Memref sig .tc .vmem S512x512 .bf16) (harg6 : arg6.IsWhole)
    (arg7 : Memref sig .tc .vmem S16x80x256 .bf16) (harg7 : arg7.IsWhole) (arg8 : Memref sig .tc .vmem S16x256x256 .f32) (harg8 : arg8.IsWhole)
    (arg9 : Memref sig .tc .vmem S16x256x256 .f32) (harg9 : arg9.IsWhole) (arg10 : Memref sig .tc .vmem S16x8x256 .f32) (harg10 : arg10.IsWhole)
    (arg11 : Memref sig .tc .vmem S16x8x256 .f32) (harg11 : arg11.IsWhole) (arg12 : Memref sig .tc .vmem S16x1x256 .f32) (harg12 : arg12.IsWhole)
    (arg13 : Memref sig .tc .vmem S16x80x256 .f32) (harg13 : arg13.IsWhole)
    (q : Vec F S640x512 .bf16) (K V : Vec F S16x640x256 .bf16) (x : Mem F) (o : Vec F S512x512 .bf16) {Q : PUnit → sProp 𝕄} :
    hold c ⟨arg3, arg4, arg5, arg6, arg7, arg8, arg9, arg10, arg11, arg12, arg13⟩ q K V x o
      ⊢ iprop((∀ y, hold c ⟨arg3, arg4, arg5, arg6, arg7, arg8, arg9, arg10, arg11, arg12, arg13⟩ q K V y (outB msk q K V (i 2).val) -∗ Q ⟨⟩)
        -∗ wp frame (wpE (defs₀ (F := F)) Variants.none (c : Thread nD τ) none) Set.univ
          (cc0_fox_attention (F := F) i arg3 harg3 arg4 harg4 arg5 harg5 arg6 harg6 arg7 harg7 arg8 harg8 arg9 harg9 arg10 harg10 arg11 harg11 arg12 harg12 arg13 harg13) Q) := by
  rw [root_eq i arg3 harg3 arg4 harg4 arg5 harg5 arg6 harg6 arg7 harg7 arg8 harg8 arg9 harg9 arg10 harg10 arg11 harg11 arg12 harg12 arg13 harg13 _ rfl harg7 harg6]
  exact Cert.Fox.wp_body (defs₀ (F := F)) Variants.none c none Set.univ _ harg7 harg6 msk (i 2) q K V (k0_t1_loop i) (k0_t2_loop i) (k0_t1_ok i) (k0_t2_ok i)
    (Cert.Fox.trips1_eq (i 2)) (Cert.Fox.trips2_eq (i 2)) (fun t => k0_off2_inb i t 0) (fun t => k0_off1_inb i t 0) (fun t => k0_off17_inb i t 0)
    (k0_off50_inb i 0) (k0_off49_inb i 0) _ x o

variable (m : (ℓ : Loc nD τ sig) → Buf (Elt F) ℓ) (ρ : Dev nD → PrngReg)

/-- The proof data: the inputs keep their blocks, the output holds `outB` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB msk (iblk m c 0 t) (iblk m c 1 t) (iblk m c 2 t) (grid0.coords t 2).val
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outB msk (iblk m c 0 t) (iblk m c 1 t) (iblk m c 2 t) (grid0.coords t 2).val := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch at some contents and the generator register at some state. -/
theorem phi_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f)
      ∗ (∃ f, owns (c : Thread nD τ) (Memref.whole cc0_scratch2) fullShare f) ∗ (∃ f, owns (c : Thread nD τ) (Memref.whole cc0_scratch3) fullShare f)
      ∗ (∃ f, owns (c : Thread nD τ) (Memref.whole cc0_scratch4) fullShare f) ∗ (∃ f, owns (c : Thread nD τ) (Memref.whole cc0_scratch5) fullShare f)
      ∗ (∃ f, owns (c : Thread nD τ) (Memref.whole cc0_scratch6) fullShare f)) ∗ (∃ r, prngReg c r)) := by
  unfold Pipeline.ΦA
  rw [scopedRest0_eq]
  simp only [owns_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, after0_3, phi_eq]
  iintro ⟨⟨⟨⟨%f0, S0⟩, ⟨%f1, S1⟩, ⟨%f2, S2⟩, ⟨%f3, S3⟩, ⟨%f4, S4⟩, ⟨%f5, S5⟩, ⟨%f6, S6⟩⟩, Hr⟩, Ho, ⟨%d0, H0⟩, ⟨%d1, H1⟩, ⟨%d2, H2⟩, ⟨%d3, H3⟩⟩
  iapply (sound_kernel c (grid0.coords t) _ _ _ _ _ _ _ _ _ _ _ _ _ _ _ _ _ _ _ _ _ _ (iblk m c 0 t) (iblk m c 1 t) (iblk m c 2 t)
    ⟨f0, f1, f2, f3, f4, f5, f6⟩ ((dats m 0 c).before 3 t d3)) $$ [H0 H1 H2 H3 S0 S1 S2 S3 S4 S5 S6]
  · unfold hold
    iframe
  iintro %y H
  unfold hold
  icases H with ⟨H0, H1, H2, H3, S0, S1, S2, S3, S4, S5, S6⟩
  iframe
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  iexists _; iexact S6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends at what the proof data say, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.FoxIdeal
-- ==== Proof.FoxOnline.lean ====
/- Masked softmax over the extended reals: a running maximum and a running weighted sum give the same quotient as the
   whole row at once, whatever real number stands for the maximum. -/
module

public import Idealize.ShloMosaic.PureOps.Ideal
public import Mathlib.Analysis.SpecialFunctions.Pow.Real

@[expose] public section

noncomputable section

namespace Cert.Fox

open Idealize.ShloMosaic

theorem real_of {x : EReal} (hb : x ≠ ⊥) (ht : x ≠ ⊤) : ∃ r : ℝ, x = (r : EReal) := ⟨x.toReal, (EReal.coe_toReal ht hb).symm⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem fold_ne_top {ι : Type} (s : Finset ι) (f : ι → EReal) (hf : ∀ i ∈ s, f i ≠ ⊤) : s.fold max ⊥ f ≠ ⊤ :=
  ((Finset.fold_max_lt ⊤).mpr ⟨bot_lt_top, fun i hi => lt_top_iff_ne_top.mpr (hf i hi)⟩).ne

theorem fold_ne_bot {ι : Type} (s : Finset ι) (f : ι → EReal) (i : ι) (hi : i ∈ s) (hf : f i ≠ ⊥) : s.fold max ⊥ f ≠ ⊥ :=
  ((Finset.lt_fold_max ⊥).mpr (.inr ⟨i, hi, bot_lt_iff_ne_bot.mpr hf⟩)).ne'

theorem max_ne_top {x y : EReal} (hx : x ≠ ⊤) (hy : y ≠ ⊤) : max x y ≠ ⊤ := by
  rcases max_choice x y with h | h <;> rw [h] <;> assumption

theorem max_ne_bot_left {x y : EReal} (hx : x ≠ ⊥) : max x y ≠ ⊥ :=
  ((bot_lt_iff_ne_bot.mpr hx).trans_le (le_max_left x y)).ne'

theorem max_ne_bot_right {x y : EReal} (hy : y ≠ ⊥) : max x y ≠ ⊥ :=
  ((bot_lt_iff_ne_bot.mpr hy).trans_le (le_max_right x y)).ne'

/-- The weight of a score in base two, zero where masked. -/
def wt (p : Prop) [Decidable p] (σ : ℝ) : ℝ := if p then (2 : ℝ) ^ σ else 0

/-- A masked score. -/
def msc (p : Prop) [Decidable p] (σ : ℝ) : EReal := if p then (σ : EReal) else ⊥

theorem msc_ne_top (p : Prop) [Decidable p] (σ : ℝ) : msc p σ ≠ ⊤ := by
  unfold msc
  split
  · exact EReal.coe_ne_top _
  · exact bot_ne_top

theorem exp2_msc (p : Prop) [Decidable p] (σ μ : ℝ) : Ideal.exp2 (msc p σ - (μ : EReal)) = ((wt p σ * (2 : ℝ) ^ (-μ) : ℝ) : EReal) := by
  unfold msc wt
  split
  · rw [← EReal.coe_sub, Ideal.exp2_coe, ← Real.rpow_add two_pos]
    rfl
  · rw [EReal.bot_sub, Ideal.exp2_bot, zero_mul, EReal.coe_zero]

theorem add_mul_coe (x y : EReal) {r : ℝ} (hr : 0 ≤ r) : (x + y) * (r : EReal) = x * (r : EReal) + y * (r : EReal) :=
  EReal.right_distrib_of_nonneg_of_ne_top (EReal.coe_nonneg.mpr hr) (EReal.coe_ne_top r) x y

theorem sum_mul_coe {ι : Type} (s : Finset ι) (f : ι → EReal) {r : ℝ} (hr : 0 ≤ r) : (∑ i ∈ s, f i) * (r : EReal) = ∑ i ∈ s, f i * (r : EReal) := by
  induction s using Finset.cons_induction with
  | empty => simp
  | cons a s ha ih => rw [Finset.sum_cons, Finset.sum_cons, add_mul_coe _ _ hr, ih]

/-- One update of a running weighted sum: `m` the maximum before, `μ'` after. -/
theorem update_eq {n : ℕ} (p : Fin n → Prop) [DecidablePred p] (σ : Fin n → ℝ) (v : Fin n → EReal) (m a A : EReal) (μ' : ℝ)
    (hm : (m = ⊥ ∧ a = 0 ∧ A = 0) ∨ ∃ μ : ℝ, m = (μ : EReal) ∧ a = A * (((2 : ℝ) ^ (-μ) : ℝ) : EReal)) :
    Ideal.exp2 (m - (μ' : EReal)) * a + ∑ i, v i * Ideal.exp2 (msc (p i) (σ i) - (μ' : EReal))
      = (A + ∑ i, v i * (wt (p i) (σ i) : EReal)) * (((2 : ℝ) ^ (-μ') : ℝ) : EReal) := by
  have hp : (0 : ℝ) ≤ (2 : ℝ) ^ (-μ') := (Real.rpow_pos_of_pos two_pos _).le
  have h1 : Ideal.exp2 (m - (μ' : EReal)) * a = A * (((2 : ℝ) ^ (-μ') : ℝ) : EReal) := by
    rcases hm with ⟨rfl, rfl, rfl⟩ | ⟨μ, rfl, rfl⟩
    · rw [mul_zero, zero_mul]
    · rw [← EReal.coe_sub, Ideal.exp2_coe]
      have : Real.rpow 2 (μ - μ') * (2 : ℝ) ^ (-μ) = (2 : ℝ) ^ (-μ') := by
        change (2 : ℝ) ^ (μ - μ') * (2 : ℝ) ^ (-μ) = _
        rw [← Real.rpow_add two_pos]
        congr 1
        ring
      rw [mul_left_comm, ← EReal.coe_mul, this]
  rw [h1, add_mul_coe _ _ hp, sum_mul_coe _ _ hp]
  congr 1
  refine Finset.sum_congr rfl fun i _ => ?_
  rw [exp2_msc, EReal.coe_mul, mul_assoc]

/-- The quotient of a weighted sum by the total weight, both scaled alike. -/
theorem quot_eq (N : EReal) (D μ : ℝ) (hD : D ≠ 0) :
    Ideal.div (N * (((2 : ℝ) ^ (-μ) : ℝ) : EReal)) ((D : EReal) * (((2 : ℝ) ^ (-μ) : ℝ) : EReal)) = N * ((1 / D : ℝ) : EReal) := by
  have hp : (2 : ℝ) ^ (-μ) ≠ 0 := (Real.rpow_pos_of_pos two_pos _).ne'
  rw [← EReal.coe_mul, Ideal.div_coe (mul_ne_zero hD hp), mul_assoc, ← EReal.coe_mul]
  congr 2
  field_simp

theorem exp_msc (p : Prop) [Decidable p] (σ μ : ℝ) :
    Ideal.exp (msc p (σ * Real.log 2) - (μ : EReal)) = ((wt p σ * Real.exp (-μ) : ℝ) : EReal) := by
  unfold msc wt
  split
  · rw [← EReal.coe_sub, Ideal.exp_coe, Real.rpow_def_of_pos two_pos, ← Real.exp_add, mul_comm (Real.log 2)]
    rfl
  · rw [EReal.bot_sub, Ideal.exp_bot, zero_mul, EReal.coe_zero]

theorem wt_nonneg (p : Prop) [Decidable p] (σ : ℝ) : 0 ≤ wt p σ := by
  unfold wt
  split
  · exact (Real.rpow_pos_of_pos two_pos _).le
  · exact le_rfl

theorem wt_sum_ne {n : ℕ} (p : Fin n → Prop) [DecidablePred p] (σ : Fin n → ℝ) (i : Fin n) (hi : p i) : ∑ j, wt (p j) (σ j) ≠ 0 := by
  refine (Finset.sum_pos' (fun j _ => wt_nonneg _ _) ⟨i, Finset.mem_univ i, ?_⟩).ne'
  unfold wt
  rw [if_pos hi]
  exact Real.rpow_pos_of_pos two_pos _

/-- The softmax of a masked row in base e, weighted: the quotient of the same weights in base two. -/
theorem softmax_eq {n : ℕ} (p : Fin n → Prop) [DecidablePred p] (σ : Fin n → ℝ) (v : Fin n → EReal) (μ : ℝ) (hD : ∑ i, wt (p i) (σ i) ≠ 0) :
    (∑ i, v i * Ideal.div (Ideal.exp (msc (p i) (σ i * Real.log 2) - (μ : EReal)))
        (∑ j, Ideal.exp (msc (p j) (σ j * Real.log 2) - (μ : EReal))))
      = (∑ i, v i * (wt (p i) (σ i) : EReal)) * ((1 / ∑ i, wt (p i) (σ i) : ℝ) : EReal) := by
  simp only [exp_msc]
  rw [← coe_sum, ← Finset.sum_mul, sum_mul_coe _ _ (one_div_nonneg.mpr (Finset.sum_nonneg fun i _ => wt_nonneg _ _))]
  refine Finset.sum_congr rfl fun i _ => ?_
  have hp : Real.exp (-μ) ≠ 0 := (Real.exp_pos _).ne'
  rw [Ideal.div_coe (mul_ne_zero hD hp), ← EReal.coe_mul, mul_assoc (v i), ← EReal.coe_mul]
  congr 2
  field_simp

/-! ## One output of the attention -/

/-- The score of key `k` for query `Q` in base two: the scaled inner product plus the decay. -/
def scr (qf kf : Fin 8 → Fin 4096 → Fin 16 → Fin 64 → ℝ) (gf : Fin 8 → Fin 16 → Fin 4096 → ℝ) (b : Fin 8) (H : Fin 16) (Q k : Fin 4096) : ℝ :=
  ((∑ d, qf b Q H d * kf b k H d) * 0.125 + (gf b H Q - gf b H k)) / Real.log 2

/-- The values averaged over the keys up to the query, by their weights. -/
def attn (qf kf : Fin 8 → Fin 4096 → Fin 16 → Fin 64 → ℝ) (vf : Fin 8 → Fin 4096 → Fin 16 → Fin 64 → EReal) (gf : Fin 8 → Fin 16 → Fin 4096 → ℝ)
    (b : Fin 8) (H : Fin 16) (Q : Fin 4096) (d : Fin 64) : EReal :=
  (∑ k : Fin 4096, vf b k H d * (wt (k.val ≤ Q.val) (scr qf kf gf b H Q k) : EReal)) * ((1 / ∑ k : Fin 4096, wt (k.val ≤ Q.val) (scr qf kf gf b H Q k) : ℝ) : EReal)

end Cert.Fox
-- ==== Proof.FoxReads.lean ====
/- What the attention kernel's step values are at the extended reals, at one index. -/
module

public import proofs.«01_k».proof.Proof.FoxRow
public import proofs.«01_k».proof.Proof.FoxOnline
public import Idealize.ShloMosaic.Lib.Pointwise

@[expose] public section

set_option maxRecDepth 16384

noncomputable section

namespace Cert.Fox

open Idealize.ShloMosaic Idealize.ShloMosaic.TcCoe
open Idealize.ShloMosaic.VecWindow (window put)
open Cert.KernelIdeal Cert.KernelIdeal.Facts₀ Cert.KernelIdeal.Facts

attribute [local instance] Cert.KernelIdeal.Gen.facts₀ Cert.KernelIdeal.Gen.facts

theorem ofBits_ninf : Ideal.ofBits .f32 0xFF800000#32 = ⊥ := by
  simp [Ideal.ofBits, Ideal.ieee]

theorem score_none (msk : Ideal .f32) (kw qw : Vec Ideal S1x80x256 .bf16) (κ j : Fin 256) :
    scoreOf msk none kw qw (ix2 κ j) = ∑ r : Fin 80, kw (ix3 0 r κ) * qw (ix3 0 r j) := by
  pointwise [scoreOf]

theorem score_some (msk : Ideal .f32) (l : IVec S1x256 32) (kw qw : Vec Ideal S1x80x256 .bf16) (κ j : Fin 256) :
    scoreOf msk (some l) kw qw (ix2 κ j)
      = if (BitVec.ofNat 32 κ.val).sle (l (ix2 0 j)) then ∑ r : Fin 80, kw (ix3 0 r κ) * qw (ix3 0 r j) else msk := by
  pointwise [scoreOf]
  unfold Scalar.select IntOp.cmpi
  cases (BitVec.ofNat 32 κ.val).sle (l (ix2 0 j)) <;> rfl

theorem tops_apply (s : FVec Ideal S256x256 .f32) (e : Fin 8) (j : Fin 256) :
    topsOf s (ix2 e j) = Finset.univ.fold max ⊥ fun i : Fin 32 => s (ix2 ⟨i.val * 8 + e.val, by omega⟩ j) := by
  pointwise [topsOf]
  rw [ofBits_ninf]

theorem max_apply (mw : Vec Ideal S1x1x256 .f32) (xw : Vec Ideal S1x8x256 .f32) (j : Fin 256) :
    maxOf mw xw (ix2 0 j) = max (mw (ix3 0 0 j)) (Finset.univ.fold max ⊥ fun e : Fin 8 => xw (ix3 0 e j)) := by
  pointwise [maxOf]
  rw [ofBits_ninf]

theorem sum_apply (vw : Vec Ideal S1x80x256 .bf16) (mw : Vec Ideal S1x1x256 .f32) (mn : FVec Ideal S1x256 .f32) (sw : Vec Ideal S1x256x256 .f32)
    (aw : Vec Ideal S1x80x256 .f32) (r : Fin 80) (j : Fin 256) :
    sumOf vw mw mn sw aw (ix2 r j) = Ideal.exp2 (mw (ix3 0 0 j) - mn (ix2 0 j)) * aw (ix3 0 r j)
      + ∑ κ : Fin 256, vw (ix3 0 r κ) * Ideal.exp2 (sw (ix3 0 κ j) - mn (ix2 0 j)) := by
  pointwise [sumOf]
  rfl

theorem out_apply (aw : Vec Ideal S1x80x256 .f32) (d : Fin 64) (j : Fin 256) :
    outOf aw (ix2 d j) = Ideal.div (aw (ix3 0 ⟨d.val, by omega⟩ j)) (aw (ix3 0 64 j)) := by
  pointwise [outOf]

theorem kwin_apply (X : Vec Ideal S16x640x256 .bf16) (n : ℕ) (h : Fin 8) (r : Fin 80) (κ : Fin 256) :
    kwin X n h (ix3 0 r κ) = X (ix3 ⟨n % 16, by omega⟩ ⟨80 * h.val + r.val, by omega⟩ κ) := by
  rfl

theorem qwin_apply (q : Vec Ideal S640x512 .bf16) (s : Fin 2) (h : Fin 8) (r : Fin 80) (j : Fin 256) :
    qwin q s h (ix3 0 r j) = q (ix2 ⟨80 * h.val + r.val, by omega⟩ ⟨256 * s.val + j.val, by omega⟩) := by
  unfold qwin
  have e : ∀ w : Vec Ideal S80x256 .bf16, shapeCast S1x80x256 (shapeCast S80x256 w shapeCasts_S80x256_S80x256) shapeCasts_S80x256_S1x80x256 (ix3 0 r j) = w (ix2 r j) :=
    fun w => by pointwise
  rw [e]
  show q _ = q _
  congr 1
  funext a
  refine Fin.ext ?_
  fin_cases a
  · show 80 * h.val + 1 * r.val = 80 * h.val + r.val
    omega
  · show 256 * s.val + 1 * j.val = 256 * s.val + j.val
    omega

/-! ## The limits -/

theorem sle_ofNat {a b : ℕ} (ha : a < 1024) (hb : b < 1024) : (BitVec.ofNat 32 a).sle (BitVec.ofNat 32 b) = decide (a ≤ b) := by
  rw [BitVec.sle_eq_decide, BitVec.toInt_eq_toNat_of_lt (by simp; omega), BitVec.toInt_eq_toNat_of_lt (by simp; omega), BitVec.toNat_ofNat, BitVec.toNat_ofNat,
    Nat.mod_eq_of_lt (by omega), Nat.mod_eq_of_lt (by omega)]
  simp

theorem limAt_one (j : Fin 256) : limAt 1#1 (ix2 0 j) = BitVec.ofNat 32 j.val := by
  have : limAt 1#1 (ix2 0 j) = BitVec.ofNat 32 j.val + 0#32 := by pointwise [limAt]; rfl
  rw [this, BitVec.add_zero]

theorem limAt_zero (j : Fin 256) : limAt 0#1 (ix2 0 j) = BitVec.ofNat 32 (j.val + 256) := by
  have : limAt 0#1 (ix2 0 j) = BitVec.ofNat 32 j.val + 256#32 := by pointwise [limAt]; rfl
  rw [this, BitVec.ofNat_add]

theorem iota_at (j : Fin 256) : iota .tc S1x256 32 [1] iota_S1x256_d1_w32 (ix2 0 j) = BitVec.ofNat 32 j.val := by
  pointwise

/-- A block's scores, masked where the key comes after the query. -/
theorem sB_apply (q : Vec Ideal S640x512 .bf16) (K : Vec Ideal S16x640x256 .bf16) (jj : ℕ) (s : Fin 2) (h : Fin 8) (n : ℕ) (hn : n < seen jj s)
    (κ j : Fin 256) (σ : ℝ) (hσ : ∑ r : Fin 80, kwin K n h (ix3 0 r κ) * qwin q s h (ix3 0 r j) = (σ : EReal)) :
    sB (F := Ideal) ⊥ q K jj s h n (ix2 κ j) = msc (256 * n + κ.val ≤ 512 * jj + 256 * s.val + j.val) σ := by
  have hκ := κ.isLt
  have hj := j.isLt
  unfold seen at hn
  unfold sB limB msc
  obtain rfl | rfl : s = 0 ∨ s = 1 := by omega
  · rw [if_pos rfl]
    by_cases h2 : n % 2 = 0
    · rw [if_pos h2, score_some, hσ]
      by_cases hd : n = 2 * jj
      · rw [if_pos hd, limAt_one, sle_ofNat (by omega) (by omega)]
        refine if_congr ?_ rfl rfl
        simp
        omega
      · rw [if_neg hd, limAt_zero, sle_ofNat (by omega) (by omega), if_pos (by simp; omega), if_pos (by simp at hn ⊢; omega)]
    · rw [if_neg h2, score_none, hσ, if_pos (by simp at hn ⊢; omega)]
  · rw [if_neg (by decide)]
    by_cases hd : n = 2 * jj + 1
    · rw [if_pos hd, score_some, hσ, iota_at, sle_ofNat (by omega) (by omega)]
      refine if_congr ?_ rfl rfl
      simp
      omega
    · rw [if_neg hd, score_none, hσ, if_pos (by simp at hn ⊢; omega)]

/-! ## The running state -/

section State

variable (q : Vec Ideal S640x512 .bf16) (K V : Vec Ideal S16x640x256 .bf16) (jj : ℕ) (s : Fin 2) (h : Fin 8)

theorem st_max (msk : Ideal .f32) (n : ℕ) (j : Fin 256) : (stB msk q K V jj s h (n + 1)).1 (ix3 0 0 j)
    = max ((stB msk q K V jj s h n).1 (ix3 0 0 j))
      (Finset.univ.fold max ⊥ fun e : Fin 8 => Finset.univ.fold max ⊥ fun i : Fin 32 => sB msk q K jj s h n (ix2 ⟨i.val * 8 + e.val, by omega⟩ j)) := by
  have e1 : ∀ w : FVec Ideal S1x256 .f32, shapeCast S1x1x256 w shapeCasts_S1x256_S1x1x256 (ix3 0 0 j) = w (ix2 0 j) := fun w => by pointwise
  have e2 : ∀ (w : FVec Ideal S8x256 .f32) (e : Fin 8), shapeCast S1x8x256 w shapeCasts_S8x256_S1x8x256 (ix3 0 e j) = w (ix2 e j) := fun w e => by pointwise
  simp only [stB]
  rw [e1, max_apply]
  simp only [e2, tops_apply]

theorem st_sum (msk : Ideal .f32) (n : ℕ) (r : Fin 80) (j : Fin 256) : (stB msk q K V jj s h (n + 1)).2 (ix3 0 r j)
    = Ideal.exp2 ((stB msk q K V jj s h n).1 (ix3 0 0 j) - (stB msk q K V jj s h (n + 1)).1 (ix3 0 0 j)) * (stB msk q K V jj s h n).2 (ix3 0 r j)
      + ∑ κ : Fin 256, kwin V n h (ix3 0 r κ) * Ideal.exp2 (sB msk q K jj s h n (ix2 κ j) - (stB msk q K V jj s h (n + 1)).1 (ix3 0 0 j)) := by
  have e1 : ∀ w : FVec Ideal S1x256 .f32, shapeCast S1x1x256 w shapeCasts_S1x256_S1x1x256 (ix3 0 0 j) = w (ix2 0 j) := fun w => by pointwise
  have e2 : ∀ (w : FVec Ideal S80x256 .f32) (r : Fin 80), shapeCast S1x80x256 w shapeCasts_S80x256_S1x80x256 (ix3 0 r j) = w (ix2 r j) := fun w e => by pointwise
  have e3 : ∀ (w : FVec Ideal S256x256 .f32) (κ : Fin 256), shapeCast S1x256x256 w shapeCasts_S256x256_S1x256x256 (ix3 0 κ j) = w (ix2 κ j) := fun w e => by pointwise
  simp only [stB]
  rw [e1, e2, sum_apply]
  simp only [e3]

variable (j : Fin 256) (kr : Fin 80 → ℕ → ℝ) (vr : Fin 80 → ℕ → EReal) (qr : Fin 80 → ℝ)

/-- The score of key `k`. -/
def score (k : ℕ) : ℝ := ∑ r : Fin 80, kr r k * qr r

/-- The weighted sum over the first `n` blocks, row `r` of the values, for query `Q`. -/
def acc (Q n : ℕ) (r : Fin 80) : EReal :=
  ∑ i ∈ Finset.range n, ∑ κ : Fin 256, vr r (256 * i + κ.val) * (wt (256 * i + κ.val ≤ Q) (score kr qr (256 * i + κ.val)) : EReal)

/-- After `n` blocks the state is the weighted sum over them, scaled by the running maximum. -/
theorem state (hj : jj < 8) (hK : ∀ n < 16, ∀ r κ, kwin K n h (ix3 0 r κ) = ((kr r (256 * n + κ.val) : ℝ) : EReal))
    (hV : ∀ n < 16, ∀ r κ, kwin V n h (ix3 0 r κ) = vr r (256 * n + κ.val))
    (hQ : ∀ r, qwin q s h (ix3 0 r j) = ((qr r : ℝ) : EReal)) (n : ℕ) (hn : n ≤ seen jj s) :
    (n = 0 ∧ (stB (F := Ideal) ⊥ q K V jj s h n).1 (ix3 0 0 j) = ⊥ ∧ ∀ r, (stB (F := Ideal) ⊥ q K V jj s h n).2 (ix3 0 r j) = 0)
    ∨ ∃ μ : ℝ, (stB (F := Ideal) ⊥ q K V jj s h n).1 (ix3 0 0 j) = (μ : EReal)
      ∧ ∀ r, (stB (F := Ideal) ⊥ q K V jj s h n).2 (ix3 0 r j) = acc kr vr qr (512 * jj + 256 * s.val + j.val) n r * (((2 : ℝ) ^ (-μ) : ℝ) : EReal) := by
  induction n with
  | zero =>
    refine .inl ⟨rfl, rfl, fun r => ?_⟩
    show Ideal.ofBits .f32 0x00000000#32 = 0
    simp [Ideal.ofBits, Ideal.ieee]
  | succ n ih =>
    have ih := ih (by omega)
    have hs := s.isLt
    have hn16 : n < 16 := by unfold seen at hn; omega
    have hS : ∀ κ : Fin 256, sB (F := Ideal) ⊥ q K jj s h n (ix2 κ j)
        = msc (256 * n + κ.val ≤ 512 * jj + 256 * s.val + j.val) (score kr qr (256 * n + κ.val)) := fun κ =>
      sB_apply q K jj s h n (by omega) κ j _ (by
        unfold score
        rw [coe_sum]
        refine Finset.sum_congr rfl fun r _ => ?_
        rw [hK n hn16, hQ, EReal.coe_mul])
    have hm : ∃ μ : ℝ, (stB (F := Ideal) ⊥ q K V jj s h (n + 1)).1 (ix3 0 0 j) = (μ : EReal) := by
      rw [st_max]
      simp only [hS]
      refine real_of ?_ (max_ne_top ?_ (fold_ne_top _ _ fun e _ => fold_ne_top _ _ fun i _ => msc_ne_top _ _))
      · rcases ih with ⟨rfl, -, -⟩ | ⟨μ, hμ, -⟩
        · refine max_ne_bot_right (fold_ne_bot _ _ 0 (Finset.mem_univ _) (fold_ne_bot _ _ 0 (Finset.mem_univ _) ?_))
          unfold msc
          rw [if_pos (by simp)]
          exact EReal.coe_ne_bot _
        · rw [hμ]
          exact max_ne_bot_left (EReal.coe_ne_bot _)
      · rcases ih with ⟨-, hμ, -⟩ | ⟨μ, hμ, -⟩ <;> rw [hμ]
        · exact bot_ne_top
        · exact EReal.coe_ne_top _
    obtain ⟨μ', hμ'⟩ := hm
    refine .inr ⟨μ', hμ', fun r => ?_⟩
    rw [st_sum, hμ']
    simp only [hS, hV n hn16]
    rw [update_eq (fun κ : Fin 256 => 256 * n + κ.val ≤ 512 * jj + 256 * s.val + j.val) (fun κ => score kr qr (256 * n + κ.val)) (fun κ => vr r (256 * n + κ.val))
      _ _ (acc kr vr qr (512 * jj + 256 * s.val + j.val) n r)]
    · unfold acc
      rw [Finset.sum_range_succ]
    · rcases ih with ⟨rfl, h1, h2⟩ | ⟨μ, h1, h2⟩
      · exact .inl ⟨h1, h2 r, rfl⟩
      · exact .inr ⟨μ, h1, h2 r⟩

/-- Sixteen blocks of 256 are the 4096 keys, and those not seen weigh nothing. -/
theorem acc_all (hj : jj < 8) (r : Fin 80) : acc kr vr qr (512 * jj + 256 * s.val + j.val) (seen jj s) r
    = ∑ k : Fin 4096, vr r k.val * (wt (k.val ≤ 512 * jj + 256 * s.val + j.val) (score kr qr k.val) : EReal) := by
  have hb : ∀ (f : ℕ → EReal) (n : ℕ), ∑ k ∈ Finset.range (256 * n), f k = ∑ i ∈ Finset.range n, ∑ κ : Fin 256, f (256 * i + κ.val) := by
    intro f n
    induction n with
    | zero => rfl
    | succ n ih =>
      rw [Nat.mul_succ, Finset.sum_range_add, ih, Finset.sum_range_succ (fun i => ∑ κ : Fin 256, f (256 * i + κ.val)) n]
      congr 1
  rw [Fin.sum_univ_eq_sum_range (fun k => vr r k * (wt (k ≤ 512 * jj + 256 * s.val + j.val) (score kr qr k) : EReal)) 4096, show 4096 = 256 * 16 from rfl, hb]
  unfold acc
  have hs := s.isLt
  have hjl := j.isLt
  refine Finset.sum_subset (Finset.range_subset_range.mpr (by unfold seen; omega)) fun i _ hi => ?_
  rw [Finset.mem_range] at hi
  unfold seen at hi
  refine Finset.sum_eq_zero fun κ _ => ?_
  unfold wt
  rw [if_neg (by omega), EReal.coe_zero, mul_zero]

/-- An output entry: the softmax-weighted sum of the values over the keys up to the query. -/
theorem head_eq (hj : jj < 8) (hK : ∀ n < 16, ∀ r κ, kwin K n h (ix3 0 r κ) = ((kr r (256 * n + κ.val) : ℝ) : EReal))
    (hV : ∀ n < 16, ∀ r κ, kwin V n h (ix3 0 r κ) = vr r (256 * n + κ.val))
    (hQ : ∀ r, qwin q s h (ix3 0 r j) = ((qr r : ℝ) : EReal)) (h1 : ∀ k, vr 64 k = 1) (d : Fin 64) :
    outOf (stB (F := Ideal) ⊥ q K V jj s h (seen jj s)).2 (ix2 d j)
      = (∑ k : Fin 4096, vr ⟨d.val, by omega⟩ k.val * (wt (k.val ≤ 512 * jj + 256 * s.val + j.val) (score kr qr k.val) : EReal))
        * ((1 / ∑ k : Fin 4096, wt (k.val ≤ 512 * jj + 256 * s.val + j.val) (score kr qr k.val) : ℝ) : EReal) := by
  rw [out_apply]
  rcases state q K V jj s h j kr vr qr hj hK hV hQ (seen jj s) le_rfl with ⟨h0, -, -⟩ | ⟨μ, -, h2⟩
  · unfold seen at h0; omega
  · have e64 : acc kr vr qr (512 * jj + 256 * s.val + j.val) (seen jj s) 64
        = ((∑ k : Fin 4096, wt (k.val ≤ 512 * jj + 256 * s.val + j.val) (score kr qr k.val) : ℝ) : EReal) := by
      rw [acc_all jj s j kr vr qr hj]
      simp only [h1, one_mul]
      rw [coe_sum]
    rw [h2, h2, e64, quot_eq _ _ _ (wt_sum_ne _ _ 0 (by simp)), acc_all jj s j kr vr qr hj]

end State

end Cert.Fox
-- ==== Proof.FoxHost.lean ====
/- What the attention call's host line leaves in the three arrays the call reads: the augmented rows of the queries,
   the keys and the values, head by head, as reals when the arguments are. -/
module

public import proofs.«01_k».proof.Proof.FoxIdeal
public import proofs.«01_k».proof.Proof.FoxReads
public import Idealize.ShloMosaic.Lib.Pointwise
public import Idealize.ShloMosaic.Lib.StableHlo.RunRead
public import Idealize.ShloMosaic.Lib.Pipeline.ValueKit

@[expose] public section

set_option maxRecDepth 16384

noncomputable section

namespace Cert.FoxValue

open Idealize.ShloMosaic Idealize.ShloMosaic.TcCoe Idealize.SL.Sem
open Cert.KernelIdeal Cert.KernelIdeal.Gen

/-! ## The host line's terms -/

/-- The natural logarithm of two. -/
def ln2 : FVec Ideal S_ .f32 := Host.log (constant S_ .f32 0x40000000#32)

/-- The gates' running sums in base two. -/
def gT (g : FVec Ideal S8x16x4096 .f32) : FVec Ideal S8x16x4096 .f32 := Host.divf g (broadcastInDim S8x16x4096 ![] bcast_S_S8x16x4096 ln2)

/-- Their first piece. -/
def hiT (g : FVec Ideal S8x16x4096 .f32) : FVec Ideal S8x16x4096 .bf16 := truncf .bf16 (gT g) bitsLt_bf16_f32

/-- What the first piece leaves. -/
def r1T (g : FVec Ideal S8x16x4096 .f32) : FVec Ideal S8x16x4096 .f32 := subf (gT g) (extf .f32 (hiT g) bitsLt_bf16_f32)

/-- The second piece. -/
def midT (g : FVec Ideal S8x16x4096 .f32) : FVec Ideal S8x16x4096 .bf16 := truncf .bf16 (r1T g) bitsLt_bf16_f32

/-- The third piece. -/
def lowT (g : FVec Ideal S8x16x4096 .f32) : FVec Ideal S8x16x4096 .bf16 := truncf .bf16 (subf (r1T g) (extf .f32 (midT g) bitsLt_bf16_f32)) bitsLt_bf16_f32

/-- The three pieces, stacked. -/
def pcs (g : FVec Ideal S8x16x4096 .f32) : FVec Ideal S8x16x3x4096 .bf16 :=
  concatenate S8x16x3x4096 2 [⟨S8x16x1x4096, broadcastInDim S8x16x1x4096 ![0, 1, 3] bcast_S8x16x4096_S8x16x1x4096_0_1_3 (hiT g)⟩,
    ⟨S8x16x1x4096, broadcastInDim S8x16x1x4096 ![0, 1, 3] bcast_S8x16x4096_S8x16x1x4096_0_1_3 (midT g)⟩,
    ⟨S8x16x1x4096, broadcastInDim S8x16x1x4096 ![0, 1, 3] bcast_S8x16x4096_S8x16x1x4096_0_1_3 (lowT g)⟩] concatenates_S8x16x1x4096_S8x16x1x4096_S8x16x1x4096_S8x16x3x4096_d2

/-- Three rows of ones. -/
def ones3 : FVec Ideal S8x16x3x4096 .bf16 := broadcastInDim S8x16x3x4096 ![] bcast_S_S8x16x3x4096 (constant S_ .bf16 0x3F80#16)

/-- Ten rows of zeros. -/
def zeros10 : FVec Ideal S8x16x10x4096 .bf16 := broadcastInDim S8x16x10x4096 ![] bcast_S_S8x16x10x4096 (constant S_ .bf16 0x0000#16)

/-- A projection's rows, rounded. -/
def rowsT (x : FVec Ideal S8x4096x16x64 .f32) : FVec Ideal S8x16x64x4096 .bf16 :=
  transpose S8x16x64x4096 [0, 2, 3, 1] (truncf .bf16 x bitsLt_bf16_f32) transposes_S8x4096x16x64_S8x16x64x4096_0_2_3_1

/-- The queries, scaled, in base two. -/
def qS (q : FVec Ideal S8x4096x16x64 .f32) : FVec Ideal S8x4096x16x64 .f32 :=
  Host.divf (mulf q (broadcastInDim S8x4096x16x64 ![] bcast_S_S8x4096x16x64 (constant S_ .f32 0x3E000000#32))) (broadcastInDim S8x4096x16x64 ![] bcast_S_S8x4096x16x64 ln2)

/-- The augmented queries. -/
def qAug (q : FVec Ideal S8x4096x16x64 .f32) (g : FVec Ideal S8x16x4096 .f32) : FVec Ideal S8x16x80x4096 .bf16 :=
  concatenate S8x16x80x4096 2 [⟨S8x16x64x4096, rowsT (qS q)⟩, ⟨S8x16x3x4096, ones3⟩, ⟨S8x16x3x4096, pcs g⟩, ⟨S8x16x10x4096, zeros10⟩]
    concatenates_S8x16x64x4096_S8x16x3x4096_S8x16x3x4096_S8x16x10x4096_S8x16x80x4096_d2

/-- The augmented keys. -/
def kAug (k : FVec Ideal S8x4096x16x64 .f32) (g : FVec Ideal S8x16x4096 .f32) : FVec Ideal S8x16x80x4096 .bf16 :=
  concatenate S8x16x80x4096 2 [⟨S8x16x64x4096, rowsT k⟩, ⟨S8x16x3x4096, Host.negf (pcs g)⟩, ⟨S8x16x3x4096, ones3⟩, ⟨S8x16x10x4096, zeros10⟩]
    concatenates_S8x16x64x4096_S8x16x3x4096_S8x16x3x4096_S8x16x10x4096_S8x16x80x4096_d2

/-- The augmented values. -/
def vAug (v : FVec Ideal S8x4096x16x64 .f32) : FVec Ideal S8x16x80x4096 .bf16 :=
  concatenate S8x16x80x4096 2 [⟨S8x16x64x4096, rowsT v⟩, ⟨S8x16x1x4096, broadcastInDim S8x16x1x4096 ![] bcast_S_S8x16x1x4096 (constant S_ .bf16 0x3F80#16)⟩,
    ⟨S8x16x15x4096, broadcastInDim S8x16x15x4096 ![] bcast_S_S8x16x15x4096 (constant S_ .bf16 0x0000#16)⟩]
    concatenates_S8x16x64x4096_S8x16x1x4096_S8x16x15x4096_S8x16x80x4096_d2

section Reads

variable (m : (ℓ : Loc nD τ sig) → Buf (Elt Ideal) ℓ) (c : Dev nD)

/-- The arguments as launched. -/
abbrev argQ : FVec Ideal S8x4096x16x64 .f32 := m ((c : Thread nD τ).loc main_arg0)
abbrev argK : FVec Ideal S8x4096x16x64 .f32 := m ((c : Thread nD τ).loc main_arg1)
abbrev argV : FVec Ideal S8x4096x16x64 .f32 := m ((c : Thread nD τ).loc main_arg2)
abbrev argG : FVec Ideal S8x16x4096 .f32 := m ((c : Thread nD τ).loc main_arg3)

theorem pcs_read : concatenate S8x16x3x4096 2
    [⟨S8x16x1x4096, (StableHlo.upto hostOps0 (fun b => m (c, b)) 14 (Proc.devRef .tc main_v10) : FVec Ideal S8x16x1x4096 .bf16)⟩,
      ⟨S8x16x1x4096, (StableHlo.upto hostOps0 (fun b => m (c, b)) 14 (Proc.devRef .tc main_v11) : FVec Ideal S8x16x1x4096 .bf16)⟩,
      ⟨S8x16x1x4096, (StableHlo.upto hostOps0 (fun b => m (c, b)) 14 (Proc.devRef .tc main_v12) : FVec Ideal S8x16x1x4096 .bf16)⟩]
    concatenates_S8x16x1x4096_S8x16x1x4096_S8x16x1x4096_S8x16x3x4096_d2 = pcs (argG m c) := by
  have e10 : StableHlo.upto hostOps0 (fun b => m (c, b)) 14 (Proc.devRef .tc main_v10) = broadcastInDim S8x16x1x4096 ![0, 1, 3] bcast_S8x16x4096_S8x16x1x4096_0_1_3 (hiT (argG m c)) := by
    after_reads_simp
    rfl
  have e11 : StableHlo.upto hostOps0 (fun b => m (c, b)) 14 (Proc.devRef .tc main_v11) = broadcastInDim S8x16x1x4096 ![0, 1, 3] bcast_S8x16x4096_S8x16x1x4096_0_1_3 (midT (argG m c)) := by
    after_reads_simp
    rfl
  have e12 : StableHlo.upto hostOps0 (fun b => m (c, b)) 14 (Proc.devRef .tc main_v12) = broadcastInDim S8x16x1x4096 ![0, 1, 3] bcast_S8x16x4096_S8x16x1x4096_0_1_3 (lowT (argG m c)) := by
    after_reads_simp
    rfl
  rw [e10, e11, e12]
  rfl

theorem V36 : (V m c main_v36 : FVec Ideal S1280x32768 .bf16)
    = shapeCast S1280x32768 (transpose S1280x8x4096 [1, 0, 2] (shapeCast S8x1280x4096 (qAug (argQ m c) (argG m c)) shapeCasts_S8x16x80x4096_S8x1280x4096)
      transposes_S8x1280x4096_S1280x8x4096_1_0_2) shapeCasts_S1280x8x4096_S1280x32768 := by
  have e21 : StableHlo.upto hostOps0 (fun b => m (c, b)) 30 (Proc.devRef .tc main_v21) = rowsT (qS (argQ m c)) := by
    after_reads_simp
    rfl
  have e14 : StableHlo.upto hostOps0 (fun b => m (c, b)) 30 (Proc.devRef .tc main_v14) = ones3 := by
    after_reads_simp
    rfl
  have e13 : StableHlo.upto hostOps0 (fun b => m (c, b)) 30 (Proc.devRef .tc main_v13) = pcs (argG m c) := by
    after_reads_simp
    exact pcs_read m c
  have e15 : StableHlo.upto hostOps0 (fun b => m (c, b)) 30 (Proc.devRef .tc main_v15) = zeros10 := by
    after_reads_simp
    rfl
  after_reads_simp
  dsimp only [Matrix.cons_val_zero, Matrix.cons_val_one, Matrix.cons_val]
  rw [e21, e14, e13, e15]
  rfl

theorem V38 : (V m c main_v38 : FVec Ideal S128x1280x256 .bf16)
    = shapeCast S128x1280x256 (transpose S8x16x1280x256 [0, 2, 1, 3] (shapeCast S8x1280x16x256 (kAug (argK m c) (argG m c)) shapeCasts_S8x16x80x4096_S8x1280x16x256)
      transposes_S8x1280x16x256_S8x16x1280x256_0_2_1_3) shapeCasts_S8x16x1280x256_S128x1280x256 := by
  have e23 : StableHlo.upto hostOps0 (fun b => m (c, b)) 33 (Proc.devRef .tc main_v23) = rowsT (argK m c) := by
    after_reads_simp
    rfl
  have e28 : StableHlo.upto hostOps0 (fun b => m (c, b)) 33 (Proc.devRef .tc main_v28) = Host.negf (pcs (argG m c)) := by
    rw [← pcs_read m c]
    after_reads_simp
    rfl
  have e14 : StableHlo.upto hostOps0 (fun b => m (c, b)) 33 (Proc.devRef .tc main_v14) = ones3 := by
    after_reads_simp
    rfl
  have e15 : StableHlo.upto hostOps0 (fun b => m (c, b)) 33 (Proc.devRef .tc main_v15) = zeros10 := by
    after_reads_simp
    rfl
  after_reads_simp
  dsimp only [Matrix.cons_val_zero, Matrix.cons_val_one, Matrix.cons_val]
  rw [e23, e28, e14, e15]
  rfl

theorem V40 : (V m c main_v40 : FVec Ideal S128x1280x256 .bf16)
    = shapeCast S128x1280x256 (transpose S8x16x1280x256 [0, 2, 1, 3] (shapeCast S8x1280x16x256 (vAug (argV m c)) shapeCasts_S8x16x80x4096_S8x1280x16x256)
      transposes_S8x1280x16x256_S8x16x1280x256_0_2_1_3) shapeCasts_S8x16x1280x256_S128x1280x256 := by
  have e25 : StableHlo.upto hostOps0 (fun b => m (c, b)) 39 (Proc.devRef .tc main_v25) = rowsT (argV m c) := by
    after_reads_simp
    rfl
  have e31 : StableHlo.upto hostOps0 (fun b => m (c, b)) 39 (Proc.devRef .tc main_v31) = broadcastInDim S8x16x1x4096 ![] bcast_S_S8x16x1x4096 (constant (F := Ideal) S_ .bf16 0x3F80#16) := by
    after_reads_simp
  have e32 : StableHlo.upto hostOps0 (fun b => m (c, b)) 39 (Proc.devRef .tc main_v32) = broadcastInDim S8x16x15x4096 ![] bcast_S_S8x16x15x4096 (constant (F := Ideal) S_ .bf16 0x0000#16) := by
    after_reads_simp
  after_reads_simp
  dsimp only [Matrix.cons_val_zero, Matrix.cons_val_one, Matrix.cons_val]
  rw [e25, e31, e32]
  rfl

end Reads

/-! ## The layout -/

theorem lay1 (X : FVec Ideal S8x16x80x4096 .bf16) (h1 : S8x16x80x4096.ShapeCasts S8x1280x4096) (h2 : S8x1280x4096.Transposes [1, 0, 2] S1280x8x4096)
    (h3 : S1280x8x4096.ShapeCasts S1280x32768) (a : Fin 1280) (T : Fin 32768) :
    shapeCast S1280x32768 (transpose S1280x8x4096 [1, 0, 2] (shapeCast S8x1280x4096 X h1) h2) h3 (ix2 a T)
      = X (ix4 ⟨T.val / 4096, by omega⟩ ⟨a.val / 80, by omega⟩ ⟨a.val % 80, by omega⟩ ⟨T.val % 4096, by omega⟩) := by
  pointwise

theorem lay2 (X : FVec Ideal S8x16x80x4096 .bf16) (h1 : S8x16x80x4096.ShapeCasts S8x1280x16x256) (h2 : S8x1280x16x256.Transposes [0, 2, 1, 3] S8x16x1280x256)
    (h3 : S8x16x1280x256.ShapeCasts S128x1280x256) (n : Fin 128) (a : Fin 1280) (κ : Fin 256) :
    shapeCast S128x1280x256 (transpose S8x16x1280x256 [0, 2, 1, 3] (shapeCast S8x1280x16x256 X h1) h2) h3 (ix3 n a κ)
      = X (ix4 ⟨n.val / 16, by omega⟩ ⟨a.val / 80, by omega⟩ ⟨a.val % 80, by omega⟩ ⟨n.val % 16 * 256 + κ.val, by omega⟩) := by
  pointwise

/-! ## The rows as reals -/

theorem ofBits_two : Ideal.ofBits .f32 0x40000000#32 = ((2 : ℝ) : EReal) := by
  simp [Ideal.ofBits, Ideal.ieee]
  rw [← EReal.coe_mul]
  congr 1
  norm_num

theorem ofBits_eighth : Ideal.ofBits .f32 0x3E000000#32 = ((0.125 : ℝ) : EReal) := by
  simp [Ideal.ofBits, Ideal.ieee]
  rw [← EReal.coe_mul]
  congr 1
  norm_num

theorem ofBits_one : Ideal.ofBits .bf16 0x3F80#16 = ((1 : ℝ) : EReal) := by
  simp [Ideal.ofBits, Ideal.ieee]
  rw [← EReal.coe_mul, ← EReal.coe_one]
  congr 1
  norm_num

theorem ofBits_zero : Ideal.ofBits .bf16 0x0000#16 = ((0 : ℝ) : EReal) := by
  simp [Ideal.ofBits, Ideal.ieee]

theorem ln2_apply : ln2 ix0 = ((Real.log 2 : ℝ) : EReal) := by
  have : ln2 ix0 = Ideal.log (Ideal.ofBits .f32 0x40000000#32) := by pointwise [ln2]
  rw [this, ofBits_two, Ideal.log_coe, if_neg (by norm_num)]

theorem log2_ne : Real.log 2 ≠ 0 := (Real.log_pos one_lt_two).ne'

theorem gT_apply (g : FVec Ideal S8x16x4096 .f32) (b : Fin 8) (H : Fin 16) (x : Fin 4096) (γ : ℝ) (hg : g (ix3 b H x) = (γ : EReal)) :
    gT g (ix3 b H x) = ((γ / Real.log 2 : ℝ) : EReal) := by
  have : gT g (ix3 b H x) = Ideal.div (g (ix3 b H x)) (ln2 ix0) := by pointwise [gT]
  rw [this, hg, ln2_apply, Ideal.div_coe log2_ne, ← EReal.coe_mul, mul_one_div]

theorem qS_apply (q : FVec Ideal S8x4096x16x64 .f32) (b : Fin 8) (x : Fin 4096) (H : Fin 16) (d : Fin 64) (r : ℝ) (hq : q (ix4 b x H d) = (r : EReal)) :
    qS q (ix4 b x H d) = ((r * 0.125 / Real.log 2 : ℝ) : EReal) := by
  have : qS q (ix4 b x H d) = Ideal.div (q (ix4 b x H d) * Ideal.ofBits .f32 0x3E000000#32) (ln2 ix0) := by pointwise [qS]
  rw [this, hq, ln2_apply, ofBits_eighth, ← EReal.coe_mul, Ideal.div_coe log2_ne, ← EReal.coe_mul, mul_one_div]

theorem rowsT_apply (q : FVec Ideal S8x4096x16x64 .f32) (b : Fin 8) (x : Fin 4096) (H : Fin 16) (d : Fin 64) :
    rowsT q (ix4 b H d x) = q (ix4 b x H d) := by
  pointwise [rowsT]

theorem r1T_apply (g : FVec Ideal S8x16x4096 .f32) (b : Fin 8) (H : Fin 16) (x : Fin 4096) (γ : ℝ) (hg : g (ix3 b H x) = (γ : EReal)) :
    r1T g (ix3 b H x) = ((0 : ℝ) : EReal) := by
  have : r1T g (ix3 b H x) = gT g (ix3 b H x) - gT g (ix3 b H x) := by pointwise [r1T, hiT]
  rw [this, gT_apply g b H x γ hg, ← EReal.coe_sub, sub_self]

theorem lowT_apply (g : FVec Ideal S8x16x4096 .f32) (b : Fin 8) (H : Fin 16) (x : Fin 4096) (γ : ℝ) (hg : g (ix3 b H x) = (γ : EReal)) :
    lowT g (ix3 b H x) = ((0 : ℝ) : EReal) := by
  have : lowT g (ix3 b H x) = r1T g (ix3 b H x) - r1T g (ix3 b H x) := by pointwise [lowT, midT]
  rw [this, r1T_apply g b H x γ hg, ← EReal.coe_sub, sub_self]

theorem pcs_apply (g : FVec Ideal S8x16x4096 .f32) (b : Fin 8) (H : Fin 16) (r : Fin 3) (x : Fin 4096) (γ : ℝ) (hg : g (ix3 b H x) = (γ : EReal)) :
    pcs g (ix4 b H r x) = (((if r = 0 then γ / Real.log 2 else 0) : ℝ) : EReal) := by
  have e : pcs g (ix4 b H r x) = if r.val < 1 then hiT g (ix3 b H x) else if r.val - 1 < 1 then midT g (ix3 b H x) else lowT g (ix3 b H x) := by
    pointwise [pcs]
    rfl
  have e1 : hiT g (ix3 b H x) = gT g (ix3 b H x) := by pointwise [hiT]
  have e2 : midT g (ix3 b H x) = r1T g (ix3 b H x) := by pointwise [midT]
  rw [e, e1, e2, lowT_apply g b H x γ hg, r1T_apply g b H x γ hg, gT_apply g b H x γ hg]
  fin_cases r <;> simp

theorem ones3_apply (b : Fin 8) (H : Fin 16) (r : Fin 3) (x : Fin 4096) : ones3 (ix4 b H r x) = ((1 : ℝ) : EReal) := by
  have : ones3 (ix4 b H r x) = Ideal.ofBits .bf16 0x3F80#16 := by pointwise [ones3]
  rw [this, ofBits_one]

theorem zeros10_apply (b : Fin 8) (H : Fin 16) (r : Fin 10) (x : Fin 4096) : zeros10 (ix4 b H r x) = ((0 : ℝ) : EReal) := by
  have : zeros10 (ix4 b H r x) = Ideal.ofBits .bf16 0x0000#16 := by pointwise [zeros10]
  rw [this, ofBits_zero]

/-- The augmented query's rows. -/
def qR (qr : Fin 64 → ℝ) (γ : ℝ) (r : Fin 80) : ℝ :=
  if h : r.val < 64 then qr ⟨r.val, h⟩ * 0.125 / Real.log 2 else if r.val < 67 then 1 else if r.val = 67 then γ / Real.log 2 else 0

/-- The augmented key's rows. -/
def kR (kr : Fin 64 → ℝ) (γ : ℝ) (r : Fin 80) : ℝ :=
  if h : r.val < 64 then kr ⟨r.val, h⟩ else if r.val = 64 then -(γ / Real.log 2) else if r.val < 67 then 0 else if r.val < 70 then 1 else 0

/-- The augmented value's rows. -/
def vR (vr : Fin 64 → EReal) (r : Fin 80) : EReal :=
  if h : r.val < 64 then vr ⟨r.val, h⟩ else if r.val = 64 then 1 else 0

theorem qAug_apply (q : FVec Ideal S8x4096x16x64 .f32) (g : FVec Ideal S8x16x4096 .f32) (b : Fin 8) (H : Fin 16) (r : Fin 80) (x : Fin 4096)
    (qr : Fin 64 → ℝ) (γ : ℝ) (hq : ∀ d, q (ix4 b x H d) = ((qr d : ℝ) : EReal)) (hg : g (ix3 b H x) = (γ : EReal)) :
    qAug q g (ix4 b H r x) = ((qR qr γ r : ℝ) : EReal) := by
  have e : qAug q g (ix4 b H r x) = if h1 : r.val < 64 then rowsT (qS q) (ix4 b H ⟨r.val, h1⟩ x)
      else if h2 : r.val - 64 < 3 then ones3 (ix4 b H ⟨r.val - 64, h2⟩ x)
      else if h3 : r.val - 64 - 3 < 3 then pcs g (ix4 b H ⟨r.val - 64 - 3, h3⟩ x) else zeros10 (ix4 b H ⟨r.val - 64 - 3 - 3, by omega⟩ x) := by
    pointwise [qAug]
  rw [e]
  unfold qR
  by_cases h1 : r.val < 64
  · rw [dif_pos h1, dif_pos h1, rowsT_apply, qS_apply _ _ _ _ _ _ (hq _)]
  · rw [dif_neg h1, dif_neg h1]
    by_cases h2 : r.val - 64 < 3
    · rw [dif_pos h2, if_pos (by omega), ones3_apply]
    · rw [dif_neg h2, if_neg (by omega)]
      by_cases h3 : r.val - 64 - 3 < 3
      · rw [dif_pos h3, pcs_apply _ _ _ _ _ γ hg]
        congr 1
        exact if_congr (by rw [Fin.ext_iff]; simp; omega) rfl rfl
      · rw [dif_neg h3, if_neg (by omega), zeros10_apply]

theorem kAug_apply (k : FVec Ideal S8x4096x16x64 .f32) (g : FVec Ideal S8x16x4096 .f32) (b : Fin 8) (H : Fin 16) (r : Fin 80) (x : Fin 4096)
    (kr : Fin 64 → ℝ) (γ : ℝ) (hk : ∀ d, k (ix4 b x H d) = ((kr d : ℝ) : EReal)) (hg : g (ix3 b H x) = (γ : EReal)) :
    kAug k g (ix4 b H r x) = ((kR kr γ r : ℝ) : EReal) := by
  have e : kAug k g (ix4 b H r x) = if h1 : r.val < 64 then rowsT k (ix4 b H ⟨r.val, h1⟩ x)
      else if h2 : r.val - 64 < 3 then -(pcs g (ix4 b H ⟨r.val - 64, h2⟩ x))
      else if h3 : r.val - 64 - 3 < 3 then ones3 (ix4 b H ⟨r.val - 64 - 3, h3⟩ x) else zeros10 (ix4 b H ⟨r.val - 64 - 3 - 3, by omega⟩ x) := by
    pointwise [kAug]
  rw [e]
  unfold kR
  by_cases h1 : r.val < 64
  · rw [dif_pos h1, dif_pos h1, rowsT_apply, hk]
  · rw [dif_neg h1, dif_neg h1]
    by_cases h2 : r.val - 64 < 3
    · rw [dif_pos h2, pcs_apply _ _ _ _ _ γ hg, ← EReal.coe_neg]
      congr 1
      by_cases h4 : r.val = 64
      · rw [if_pos h4, if_pos (by rw [Fin.ext_iff]; simp; omega)]
      · rw [if_neg (show ¬(⟨r.val - 64, h2⟩ : Fin 3) = 0 from fun h => by rw [Fin.ext_iff] at h; change r.val - 64 = 0 at h; omega), neg_zero, if_neg h4,
        if_pos (show r.val < 67 by omega)]
    · rw [dif_neg h2, if_neg (by omega), if_neg (by omega)]
      by_cases h3 : r.val - 64 - 3 < 3
      · rw [dif_pos h3, if_pos (by omega), ones3_apply]
      · rw [dif_neg h3, if_neg (by omega), zeros10_apply]

theorem vAug_apply (v : FVec Ideal S8x4096x16x64 .f32) (b : Fin 8) (H : Fin 16) (r : Fin 80) (x : Fin 4096) :
    vAug v (ix4 b H r x) = vR (fun d => v (ix4 b x H d)) r := by
  have e : vAug v (ix4 b H r x) = if h1 : r.val < 64 then rowsT v (ix4 b H ⟨r.val, h1⟩ x)
      else if h2 : r.val - 64 < 1 then Ideal.ofBits .bf16 0x3F80#16 else Ideal.ofBits .bf16 0x0000#16 := by
    pointwise [vAug]
  rw [e]
  unfold vR
  by_cases h1 : r.val < 64
  · rw [dif_pos h1, dif_pos h1, rowsT_apply]
  · rw [dif_neg h1, dif_neg h1]
    by_cases h2 : r.val - 64 < 1
    · rw [dif_pos h2, if_pos (by omega), ofBits_one, EReal.coe_one]
    · rw [dif_neg h2, if_neg (by omega), ofBits_zero, EReal.coe_zero]

/-- The augmented rows' inner product is the scaled score plus the decay, in base two. -/
theorem aug_dot (qr kr : Fin 64 → ℝ) (γq γk : ℝ) :
    ∑ r : Fin 80, kR kr γk r * qR qr γq r = ((∑ d, qr d * kr d) * 0.125 + (γq - γk)) / Real.log 2 := by
  have h := Fin.sum_univ_add fun r : Fin (64 + 16) => kR kr γk r * qR qr γq r
  refine h.trans ?_
  have h1 : ∑ i : Fin 64, kR kr γk (Fin.castAdd 16 i) * qR qr γq (Fin.castAdd 16 i) = (∑ d, qr d * kr d) * 0.125 / Real.log 2 := by
    rw [Finset.sum_mul, Finset.sum_div]
    refine Finset.sum_congr rfl fun d _ => ?_
    unfold kR qR
    rw [dif_pos (show (Fin.castAdd 16 d).val < 64 from d.isLt), dif_pos (show (Fin.castAdd 16 d).val < 64 from d.isLt)]
    show kr d * (qr d * 0.125 / Real.log 2) = qr d * kr d * 0.125 / Real.log 2
    ring
  have h2 : ∑ i : Fin 16, kR kr γk (Fin.natAdd 64 i) * qR qr γq (Fin.natAdd 64 i) = (γq - γk) / Real.log 2 := by
    simp [Fin.sum_univ_succ, kR, qR]
    ring
  rw [h1, h2]
  ring

end Cert.FoxValue
-- ==== Proof.FoxRef.lean ====
/- The attention's reference, entry by entry, for arguments that are real. -/
module

public import proofs.«01_k».proof.Defs
public import proofs.«01_k».proof.Proof.Gen.ReferenceIdeal.Run
public import proofs.«01_k».proof.Proof.FoxOnline
public import Idealize.ShloMosaic.Lib.Pointwise
public import Idealize.ShloMosaic.PureOps.Reduce
public import Idealize.ShloMosaic.PureOps.Ideal.Laws

@[expose] public section

set_option maxRecDepth 16384

noncomputable section

namespace Cert.FoxRef

open Idealize.ShloMosaic Idealize.ShloMosaic.TcCoe Idealize.SL.Sem
open Cert.ReferenceIdeal Cert.ReferenceIdeal.Gen
open Cert.Fox (real_of fold_ne_top fold_ne_bot max_ne_bot_right msc msc_ne_top scr attn coe_sum wt_sum_ne softmax_eq)

theorem ofBits_ninf : Ideal.ofBits .f32 0xFF800000#32 = ⊥ := by
  simp [Ideal.ofBits, Ideal.ieee]

theorem ofBits_eighth : Ideal.ofBits .f32 0x3E000000#32 = ((0.125 : ℝ) : EReal) := by
  simp [Ideal.ofBits, Ideal.ieee]
  rw [← EReal.coe_mul]
  congr 1
  norm_num

/-- The masked scores. -/
def logits (q k : FVec Ideal S8x4096x16x64 .f32) (g : FVec Ideal S8x16x4096 .f32) : FVec Ideal S8x16x4096x4096 .f32 :=
  select (broadcastInDim S8x16x4096x4096 ![0, 1, 2, 3] bcast_S1x1x4096x4096_S8x16x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))) (addf (mulf (Host.dotGeneral dot_S8x4096x16x64_S8x4096x16x64_S8x16x4096x4096_3_3_1_1_02_02 none q k) (broadcastInDim S8x16x4096x4096 ![] bcast_S_S8x16x4096x4096 (constant S_ .f32 0x3E000000#32))) (subf (broadcastInDim S8x16x4096x4096 ![0, 1, 2, 3] bcast_S8x16x4096x1_S8x16x4096x4096_0_1_2_3 (broadcastInDim S8x16x4096x1 ![0, 1, 2] bcast_S8x16x4096_S8x16x4096x1_0_1_2 g)) (broadcastInDim S8x16x4096x4096 ![0, 1, 2, 3] bcast_S8x16x1x4096_S8x16x4096x4096_0_1_2_3 (broadcastInDim S8x16x1x4096 ![0, 1, 3] bcast_S8x16x4096_S8x16x1x4096_0_1_3 g)))) (broadcastInDim S8x16x4096x4096 ![] bcast_S_S8x16x4096x4096 (id (constant S_ .f32 0xFF800000#32)))

/-- Each row's maximum. -/
def rowMax (L : FVec Ideal S8x16x4096x4096 .f32) : FVec Ideal S8x16x4096 .f32 :=
  maximumf (broadcastInDim S8x16x4096 ![] bcast_S_S8x16x4096 (constant S_ .f32 0xFF800000#32)) (Host.reduce FloatOps.maximumf L (constant S_ .f32 0xFF800000#32) reducesTo_S8x16x4096x4096_S8x16x4096_d3 h_S_)

/-- The scores' exponentials, less each row's maximum. -/
def expd (L : FVec Ideal S8x16x4096x4096 .f32) : FVec Ideal S8x16x4096x4096 .f32 :=
  Host.exp (subf L (broadcastInDim S8x16x4096x4096 ![0, 1, 2, 3] bcast_S8x16x4096x1_S8x16x4096x4096_0_1_2_3 (broadcastInDim S8x16x4096x1 ![0, 1, 2] bcast_S8x16x4096_S8x16x4096x1_0_1_2 (rowMax L))))

/-- The weighted values in the layout returned. -/
def outR (v : FVec Ideal S8x4096x16x64 .f32) (E : FVec Ideal S8x16x4096x4096 .f32) : FVec Ideal S1024x32768 .bf16 :=
  truncf .bf16 (transpose S1024x32768 [1, 0] (shapeCast S32768x1024 (transpose S8x4096x16x64 [0, 3, 1, 2] (Host.dotGeneral dot_S8x4096x16x64_S8x16x4096x4096_S8x16x64x4096_1_3_3_2_02_01 none v (Host.divf E (broadcastInDim S8x16x4096x4096 ![0, 1, 2, 3] bcast_S8x16x4096x1_S8x16x4096x4096_0_1_2_3 (broadcastInDim S8x16x4096x1 ![0, 1, 2] bcast_S8x16x4096_S8x16x4096x1_0_1_2 (Host.reduceAdd E (constant S_ .f32 0x00000000#32) reducesTo_S8x16x4096x4096_S8x16x4096_d3 h_S_))))) transposes_S8x16x64x4096_S8x4096x16x64_0_3_1_2) shapeCasts_S8x4096x16x64_S32768x1024) transposes_S32768x1024_S1024x32768_1_0) bitsLt_bf16_f32

theorem sle_small {a b : ℕ} (ha : a < 4096) (hb : b < 4096) : (BitVec.ofNat 32 a).sle (BitVec.ofNat 32 b) = decide (a ≤ b) := by
  rw [BitVec.sle_eq_decide, BitVec.toInt_eq_toNat_of_lt (by simp; omega), BitVec.toInt_eq_toNat_of_lt (by simp; omega), BitVec.toNat_ofNat, BitVec.toNat_ofNat,
    Nat.mod_eq_of_lt (by omega), Nat.mod_eq_of_lt (by omega)]
  simp

theorem logits_apply (q k : FVec Ideal S8x4096x16x64 .f32) (g : FVec Ideal S8x16x4096 .f32) (b : Fin 8) (h : Fin 16) (x y : Fin 4096) :
    logits q k g (ix4 b h x y) = if y.val ≤ x.val then (∑ d, q (ix4 b x h d) * k (ix4 b y h d)) * Ideal.ofBits .f32 0x3E000000#32
      + (g (ix3 b h x) - g (ix3 b h y)) else ⊥ := by
  have e : logits q k g (ix4 b h x y) = Scalar.select (IntOp.cmpi .sle (BitVec.ofNat 32 y.val) (BitVec.ofNat 32 x.val))
      ((∑ d, q (ix4 b x h d) * k (ix4 b y h d)) * Ideal.ofBits .f32 0x3E000000#32 + (g (ix3 b h x) - g (ix3 b h y))) (Ideal.ofBits .f32 0xFF800000#32) := by
    pointwise [logits]
    rfl
  rw [e, ofBits_ninf]
  unfold Scalar.select IntOp.cmpi
  rw [sle_small y.isLt x.isLt]
  by_cases hc : y.val ≤ x.val <;> simp [hc]

theorem expd_apply (L : FVec Ideal S8x16x4096x4096 .f32) (b : Fin 8) (h : Fin 16) (x y : Fin 4096) :
    expd L (ix4 b h x y) = Ideal.exp (L (ix4 b h x y) - rowMax L (ix3 b h x)) := by
  pointwise [expd]

theorem outR_apply (v : FVec Ideal S8x4096x16x64 .f32) (E : FVec Ideal S8x16x4096x4096 .f32) (R : Fin 1024) (T : Fin 32768) :
    outR v E (ix2 R T) = ∑ y : Fin 4096, v (ix4 ⟨T.val / 4096, by omega⟩ y ⟨R.val / 64, by omega⟩ ⟨R.val % 64, by omega⟩)
      * Ideal.div (E (ix4 ⟨T.val / 4096, by omega⟩ ⟨R.val / 64, by omega⟩ ⟨T.val % 4096, by omega⟩ y))
        (∑ z : Fin 4096, E (ix4 ⟨T.val / 4096, by omega⟩ ⟨R.val / 64, by omega⟩ ⟨T.val % 4096, by omega⟩ z)) := by
  pointwise [outR]

theorem reduce_real {s u t : Shape} {axes : List (Fin s.rank)} (x : FVec Ideal s .f32) (a : FVec Ideal t .f32) (init : FVec Ideal u .f32)
    (h : s.ReducesTo axes t) (hu : 0 < u.numel) (j : t.Idx) (ha : a j = ⊥) (hi : ∀ z, init z = ⊥) (ht : ∀ i, x i ≠ ⊤) (i : s.Idx)
    (hd : h.drop i = j) (hb : x i ≠ ⊥) :
    ∃ μ : ℝ, maximumf a (Host.reduce FloatOps.maximumf x init h hu) j = (μ : EReal) := by
  have e : maximumf a (Host.reduce FloatOps.maximumf x init h hu) j = max (a j) (Host.reduce max x init h hu j) := rfl
  rw [e, Host.reduce_eq_fold, ha, hi]
  exact real_of (max_ne_bot_right (fold_ne_bot _ _ i (Finset.mem_filter.mpr ⟨Finset.mem_univ _, hd⟩) hb))
    (Cert.Fox.max_ne_top bot_ne_top (fold_ne_top _ _ fun i _ => ht i))

theorem drop_row (b : Fin 8) (h : Fin 16) (x y : Fin 4096) : reducesTo_S8x16x4096x4096_S8x16x4096_d3.drop (ix4 b h x y) = ix3 b h x := by
  funext a
  refine Fin.ext ?_
  fin_cases a
  · exact Shape.ReducesTo.drop_apply_val_of_eq reducesTo_S8x16x4096x4096_S8x16x4096_d3 (ix4 b h x y) 0 0
  · exact Shape.ReducesTo.drop_apply_val_of_eq reducesTo_S8x16x4096x4096_S8x16x4096_d3 (ix4 b h x y) 1 1
  · exact Shape.ReducesTo.drop_apply_val_of_eq reducesTo_S8x16x4096x4096_S8x16x4096_d3 (ix4 b h x y) 2 2

/-- A row's maximum is real once no score is plus infinity and the row's first is not minus infinity. -/
theorem rowMax_real (L : FVec Ideal S8x16x4096x4096 .f32) (b : Fin 8) (h : Fin 16) (x : Fin 4096) (ht : ∀ i, L i ≠ ⊤) (hb : L (ix4 b h x 0) ≠ ⊥) :
    ∃ μ : ℝ, rowMax L (ix3 b h x) = (μ : EReal) := by
  unfold rowMax
  exact reduce_real L _ _ _ _ _ ofBits_ninf (fun _ => ofBits_ninf) ht _ (drop_row b h x 0) hb

section Reals

variable (qf kf : Fin 8 → Fin 4096 → Fin 16 → Fin 64 → ℝ) (gf : Fin 8 → Fin 16 → Fin 4096 → ℝ)
  (q k v : FVec Ideal S8x4096x16x64 .f32) (g : FVec Ideal S8x16x4096 .f32)
  (hq : ∀ b x H d, q (ix4 b x H d) = ((qf b x H d : ℝ) : EReal)) (hk : ∀ b x H d, k (ix4 b x H d) = ((kf b x H d : ℝ) : EReal))
  (hg : ∀ b H x, g (ix3 b H x) = ((gf b H x : ℝ) : EReal))

include hq hk hg in
theorem logits_real (b : Fin 8) (H : Fin 16) (x y : Fin 4096) :
    logits q k g (ix4 b H x y) = msc (y.val ≤ x.val) (scr qf kf gf b H x y * Real.log 2) := by
  rw [logits_apply]
  unfold msc scr
  refine if_congr Iff.rfl ?_ rfl
  rw [div_mul_cancel₀ _ (Real.log_pos one_lt_two).ne', hg, hg, ofBits_eighth]
  simp only [hq, hk]
  rw [EReal.coe_add, EReal.coe_mul, EReal.coe_sub, coe_sum]
  simp only [EReal.coe_mul]

include hq hk hg in
/-- The reference's array, entry by entry. -/
theorem out_real (R : Fin 1024) (T : Fin 32768) :
    outR v (expd (logits q k g)) (ix2 R T)
      = attn qf kf (fun b x H d => v (ix4 b x H d)) gf ⟨T.val / 4096, by omega⟩ ⟨R.val / 64, by omega⟩ ⟨T.val % 4096, by omega⟩ ⟨R.val % 64, by omega⟩ := by
  rw [outR_apply]
  generalize (⟨T.val / 4096, by omega⟩ : Fin 8) = b
  generalize (⟨R.val / 64, by omega⟩ : Fin 16) = H
  generalize (⟨T.val % 4096, by omega⟩ : Fin 4096) = x
  generalize (⟨R.val % 64, by omega⟩ : Fin 64) = d
  have hL := logits_real qf kf gf q k g hq hk hg
  obtain ⟨μ, hμ⟩ := rowMax_real (logits q k g) b H x (fun i => by
    obtain ⟨b, H, x, y, rfl⟩ : ∃ (b : Fin 8) (H : Fin 16) (x y : Fin 4096), i = ix4 b H x y := ⟨i 0, i 1, i 2, i 3, eq_ix4 i⟩
    rw [hL]
    exact msc_ne_top _ _) (by
    rw [hL]
    unfold msc
    rw [if_pos (by simp)]
    exact EReal.coe_ne_bot _)
  simp only [expd_apply, hμ, hL]
  exact softmax_eq _ _ _ μ (wt_sum_ne _ _ 0 (by simp))

end Reals

theorem res_eq (m : (ℓ : Loc nD τ sig) → Buf (Elt Ideal) ℓ) (d : Dev nD) :
    (Cert.ReferenceIdeal.Value.res_main_v33 m d : FVec Ideal S1024x32768 .bf16)
      = outR (m ((d.tc : Thread nD τ).loc main_arg2)) (expd (logits (m ((d.tc : Thread nD τ).loc main_arg0)) (m ((d.tc : Thread nD τ).loc main_arg1)) (m ((d.tc : Thread nD τ).loc main_arg3)))) :=
  rfl

end Cert.FoxRef
-- ==== Proof.FoxValue.lean ====
/- The attention call at the extended reals: every output element is the reference's, once every argument is real. -/
module

public import proofs.«01_k».proof.Defs
public import proofs.«01_k».proof.Proof.FoxHost
public import proofs.«01_k».proof.Proof.FoxRef
public import proofs.«01_k».proof.Proof.Gen.Pre_finite
public import Idealize.ShloMosaic.Lib.ReduceAll
public import Idealize.ShloMosaic.Lib.Quiescent

@[expose] public section

set_option maxRecDepth 16384

noncomputable section

namespace Cert.FoxValue

open Idealize.ShloMosaic Idealize.ShloMosaic.TcCoe Idealize.SL.Sem
open Cert.KernelIdeal Cert.KernelIdeal.Gen
open Cert.Fox (wt scr attn score outB outOf stB seen kwin qwin kwin_apply qwin_apply head_eq)
open Cert.FoxIdeal (dats after0_3 msk)

variable (m : (ℓ : Loc nD τ sig) → Buf (Elt Ideal) ℓ) (c : Dev nD)

/-! ## The blocks a point reads -/

theorem idx : ∀ t : Fin grid0.N, win0_0.index t = ![(grid0.coords t 1).val, (grid0.coords t 0).val * 8 + (grid0.coords t 2).val]
    ∧ win0_1.index t = ![(grid0.coords t 0).val, (grid0.coords t 1).val, 0] ∧ win0_2.index t = ![(grid0.coords t 0).val, (grid0.coords t 1).val, 0]
    ∧ win0_3.index t = ![(grid0.coords t 1).val, (grid0.coords t 0).val * 8 + (grid0.coords t 2).val] := by
  decide +kernel

theorem co : ∀ t : Fin grid0.N, (grid0.coords t 0).val < 8 ∧ (grid0.coords t 1).val < 2 ∧ (grid0.coords t 2).val < 8 := by
  decide +kernel

/-- Elements of a block, in the coordinates of the array it is read off. -/
theorem rd0 (t : Fin cfg0.N) (a : Fin 640) (b : Fin 512) (A : FVec Ideal S1280x32768 .bf16) (a' : Fin 1280) (T : Fin 32768)
    (ha : a'.val = 640 * (grid0.coords t 1).val + a.val) (hT : T.val = 512 * ((grid0.coords t 0).val * 8 + (grid0.coords t 2).val) + b.val) :
    (((cfg0.win 0).blk t).view.read (Elt Ideal) A : FVec Ideal S640x512 .bf16) (ix2 a b) = A (ix2 a' T) := by
  refine congrArg A ?_
  blk_ext [idx t] <;> omega

theorem rd1 (t : Fin cfg0.N) (n : Fin 16) (a : Fin 640) (κ : Fin 256) (A : FVec Ideal S128x1280x256 .bf16) (n' : Fin 128) (a' : Fin 1280)
    (hn : n'.val = 16 * (grid0.coords t 0).val + n.val) (ha : a'.val = 640 * (grid0.coords t 1).val + a.val) :
    (((cfg0.win 1).blk t).view.read (Elt Ideal) A : FVec Ideal S16x640x256 .bf16) (ix3 n a κ) = A (ix3 n' a' κ) := by
  refine congrArg A ?_
  blk_ext [idx t] <;> omega

theorem rd2 (t : Fin cfg0.N) (n : Fin 16) (a : Fin 640) (κ : Fin 256) (A : FVec Ideal S128x1280x256 .bf16) (n' : Fin 128) (a' : Fin 1280)
    (hn : n'.val = 16 * (grid0.coords t 0).val + n.val) (ha : a'.val = 640 * (grid0.coords t 1).val + a.val) :
    (((cfg0.win 2).blk t).view.read (Elt Ideal) A : FVec Ideal S16x640x256 .bf16) (ix3 n a κ) = A (ix3 n' a' κ) := by
  refine congrArg A ?_
  blk_ext [idx t] <;> omega

theorem iblk0_apply (t : Fin cfg0.N) (a : Fin 640) (b : Fin 512) (bi : Fin 8) (H : Fin 16) (r : Fin 80) (x : Fin 4096)
    (hb : (grid0.coords t 0).val = bi.val) (hH : 8 * (grid0.coords t 1).val + a.val / 80 = H.val) (hr : a.val % 80 = r.val)
    (hx : 512 * (grid0.coords t 2).val + b.val = x.val) :
    (iblk m c 0 t : FVec Ideal S640x512 .bf16) (ix2 a b) = qAug (argQ m c) (argG m c) (ix4 bi H r x) := by
  obtain ⟨h0, h1, h2⟩ := co t
  have e0 : V m c (Pipeline.arrRef spec0 0) = _ := V36 m c
  unfold iblk
  rw [e0]
  refine (rd0 t a b _ ⟨640 * (grid0.coords t 1).val + a.val, by omega⟩ ⟨512 * ((grid0.coords t 0).val * 8 + (grid0.coords t 2).val) + b.val, by omega⟩ rfl rfl).trans ?_
  refine (lay1 _ _ _ _ _ _).trans ?_
  refine congrArg (qAug (argQ m c) (argG m c)) ?_
  congr 1 <;> refine Fin.ext ?_ <;> dsimp only <;> omega

theorem iblk1_apply (t : Fin cfg0.N) (n : Fin 16) (a : Fin 640) (κ : Fin 256) (bi : Fin 8) (H : Fin 16) (r : Fin 80) (x : Fin 4096)
    (hb : (grid0.coords t 0).val = bi.val) (hH : 8 * (grid0.coords t 1).val + a.val / 80 = H.val) (hr : a.val % 80 = r.val)
    (hx : 256 * n.val + κ.val = x.val) :
    (iblk m c 1 t : FVec Ideal S16x640x256 .bf16) (ix3 n a κ) = kAug (argK m c) (argG m c) (ix4 bi H r x) := by
  obtain ⟨h0, h1, h2⟩ := co t
  have e0 : V m c (Pipeline.arrRef spec0 1) = _ := V38 m c
  unfold iblk
  rw [e0]
  refine (rd1 t n a κ _ ⟨16 * (grid0.coords t 0).val + n.val, by omega⟩ ⟨640 * (grid0.coords t 1).val + a.val, by omega⟩ rfl rfl).trans ?_
  refine (lay2 _ _ _ _ _ _ _).trans ?_
  refine congrArg (kAug (argK m c) (argG m c)) ?_
  congr 1 <;> refine Fin.ext ?_ <;> dsimp only <;> omega

theorem iblk2_apply (t : Fin cfg0.N) (n : Fin 16) (a : Fin 640) (κ : Fin 256) (bi : Fin 8) (H : Fin 16) (r : Fin 80) (x : Fin 4096)
    (hb : (grid0.coords t 0).val = bi.val) (hH : 8 * (grid0.coords t 1).val + a.val / 80 = H.val) (hr : a.val % 80 = r.val)
    (hx : 256 * n.val + κ.val = x.val) :
    (iblk m c 2 t : FVec Ideal S16x640x256 .bf16) (ix3 n a κ) = vAug (argV m c) (ix4 bi H r x) := by
  obtain ⟨h0, h1, h2⟩ := co t
  have e0 : V m c (Pipeline.arrRef spec0 2) = _ := V40 m c
  unfold iblk
  rw [e0]
  refine (rd2 t n a κ _ ⟨16 * (grid0.coords t 0).val + n.val, by omega⟩ ⟨640 * (grid0.coords t 1).val + a.val, by omega⟩ rfl rfl).trans ?_
  refine (lay2 _ _ _ _ _ _ _).trans ?_
  refine congrArg (vAug (argV m c)) ?_
  congr 1 <;> refine Fin.ext ?_ <;> dsimp only <;> omega

theorem msk_eq : (msk : Ideal .f32) = ⊥ := IdealRules.named_const.ideal_named_scalar _ _ _ _ rfl

/-! ## One output element -/

section Reals

variable (qf kf : Fin 8 → Fin 4096 → Fin 16 → Fin 64 → ℝ) (gf : Fin 8 → Fin 16 → Fin 4096 → ℝ)
  (hq : ∀ b x H d, argQ m c (ix4 b x H d) = ((qf b x H d : ℝ) : EReal)) (hk : ∀ b x H d, argK m c (ix4 b x H d) = ((kf b x H d : ℝ) : EReal))
  (hg : ∀ b H x, argG m c (ix3 b H x) = ((gf b H x : ℝ) : EReal))

/-- The key at a natural number below 4096. -/
def key (n : ℕ) : Fin 4096 := ⟨n % 4096, Nat.mod_lt _ (by decide)⟩

include hq hk hg in
/-- The element a point leaves at row `y0`, column `y1` of its block. -/
theorem outB_real (t : Fin cfg0.N) (y0 y1 : Fin 512) (bi : Fin 8) (H : Fin 16) (Q : Fin 4096) (d : Fin 64)
    (hb : (grid0.coords t 0).val = bi.val) (hH : 8 * (grid0.coords t 1).val + y0.val / 64 = H.val) (hd : y0.val % 64 = d.val)
    (hQ : 512 * (grid0.coords t 2).val + y1.val = Q.val) :
    outB (F := Ideal) msk (iblk m c 0 t) (iblk m c 1 t) (iblk m c 2 t) (grid0.coords t 2).val (ix2 y0 y1)
      = attn qf kf (fun b x H d => argV m c (ix4 b x H d)) gf bi H Q d := by
  obtain ⟨h0, h1, h2⟩ := co t
  unfold outB
  rw [msk_eq]
  have hh := head_eq (iblk m c 0 t) (iblk m c 1 t) (iblk m c 2 t) (grid0.coords t 2).val ⟨y1.val / 256, by omega⟩ ⟨y0.val / 64, by omega⟩
    ⟨y1.val % 256, by omega⟩ (fun r n => kR (kf bi (key n) H) (gf bi H (key n)) r) (fun r n => vR (fun d => argV m c (ix4 bi (key n) H d)) r)
    (qR (qf bi Q H) (gf bi H Q)) h2
    (fun n hn r κ => by
      rw [kwin_apply]
      refine (iblk1_apply m c t _ _ _ bi H r (key (256 * n + κ.val)) hb ?_ ?_ ?_).trans (kAug_apply _ _ _ _ _ _ _ _ (hk _ _ _) (hg _ _ _))
      · dsimp only; omega
      · dsimp only; omega
      · unfold key; dsimp only; omega)
    (fun n hn r κ => by
      rw [kwin_apply]
      refine (iblk2_apply m c t _ _ _ bi H r (key (256 * n + κ.val)) hb ?_ ?_ ?_).trans (vAug_apply _ _ _ _ _)
      · dsimp only; omega
      · dsimp only; omega
      · unfold key; dsimp only; omega)
    (fun r => by
      rw [qwin_apply]
      refine (iblk0_apply m c t _ _ bi H r Q hb ?_ ?_ ?_).trans (qAug_apply _ _ _ _ _ _ _ _ (hq _ _ _) (hg _ _ _))
      · dsimp only; omega
      · dsimp only; omega
      · dsimp only; omega)
    (fun k => by simp [vR]) ⟨y0.val % 64, by omega⟩
  refine hh.trans ?_
  have ek : ∀ k : Fin 4096, key k.val = k := fun k => Fin.ext (Nat.mod_eq_of_lt k.isLt)
  have eQ : 512 * (grid0.coords t 2).val + 256 * (y1.val / 256) + y1.val % 256 = Q.val := by omega
  have es : ∀ k : Fin 4096, score (fun r n => kR (kf bi (key n) H) (gf bi H (key n)) r) (qR (qf bi Q H) (gf bi H Q)) k.val = scr qf kf gf bi H Q k := by
    intro k
    unfold score scr
    simp only [ek]
    exact aug_dot _ _ _ _
  unfold attn
  simp only [es, ek, eQ]
  refine congrArg₂ _ (Finset.sum_congr rfl fun k _ => ?_) rfl
  refine congrArg₂ _ ?_ rfl
  unfold vR
  exact (dif_pos (show y0.val % 64 < 64 by omega)).trans (congrArg (fun d => argV m c (ix4 bi k H d)) (Fin.ext hd))

include hq hk hg in
/-- The array the call leaves. -/
theorem arr_real (res : FVec Ideal S1024x32768 .bf16) (hres : ∀ (R : Fin 1024) (T : Fin 32768), res (ix2 R T)
      = attn qf kf (fun b x H d => argV m c (ix4 b x H d)) gf ⟨T.val / 4096, by omega⟩ ⟨R.val / 64, by omega⟩ ⟨T.val % 4096, by omega⟩ ⟨R.val % 64, by omega⟩) :
    (dats m 0 c).arrAt 3 cfg0.N = res := by
  refine (dats m 0 c).arrAt_eq_of_covers 3 _ (by decide +kernel) fun t hf y => ?_
  blk_simp
  rw [after0_3]
  obtain ⟨r, k, rfl⟩ : ∃ (r : Fin 512) (k : Fin 512), y = ix2 r k := ⟨y 0, y 1, eq_ix2 y⟩
  obtain ⟨h0, h1, h2⟩ := co t
  have e : (win0_3.blk t).view.emb (ix2 r k) = ix2 (⟨512 * (grid0.coords t 1).val + r.val, by omega⟩ : Fin 1024)
      (⟨512 * ((grid0.coords t 0).val * 8 + (grid0.coords t 2).val) + k.val, by omega⟩ : Fin 32768) := by
    blk_ext [idx t]
  erw [e]
  rw [hres]
  refine outB_real m c qf kf gf hq hk hg t r k _ _ _ _ ?_ ?_ ?_ ?_ <;> dsimp only <;> omega

end Reals

/-! ## Arguments that are finite -/

instance : Subsingleton Cert.Pre_finite.S_.Idx := ⟨fun a b => funext fun i => i.elim0⟩

theorem real_of_lt (x : EReal) (h : Ideal.cmp .olt (max x (-x)) (Ideal.ofBits .f32 0x7F800000#32) = 1#1) : ∃ r : ℝ, x = (r : EReal) := by
  have hi : Ideal.ofBits .f32 0x7F800000#32 = ⊤ := by simp [Ideal.ofBits, Ideal.ieee]
  rw [hi] at h
  have hl : max x (-x) < ⊤ := by
    by_contra hc
    simp [Ideal.cmp, hc] at h
  obtain ⟨h1, h2⟩ := max_lt_iff.1 hl
  refine Cert.Fox.real_of (fun hb => ?_) h1.ne
  subst hb
  simp at h2

theorem args_real (a0 a1 a2 : FVec Ideal S8x4096x16x64 .f32) (a3 : FVec Ideal S8x16x4096 .f32)
    (h : Cert.Pre_finite.fn (F := Ideal) a0 a1 a2 a3 = fun _ => 1#1) :
    (∀ i, ∃ r : ℝ, a0 i = (r : EReal)) ∧ (∀ i, ∃ r : ℝ, a1 i = (r : EReal)) ∧ ∀ i, ∃ r : ℝ, a3 i = (r : EReal) := by
  have h0 := congrFun h ix0
  unfold Cert.Pre_finite.fn at h0
  obtain ⟨h01, h3⟩ := IntOp.andi_eq_one.1 h0
  obtain ⟨h0, h1⟩ := IntOp.andi_eq_one.1 h01
  exact ⟨fun i => real_of_lt _ (Host.reduce_andi_all _ _ _ _ _ h0 i), fun i => real_of_lt _ (Host.reduce_andi_all _ _ _ _ _ h1 i),
    fun i => real_of_lt _ (Host.reduce_andi_all _ _ _ _ _ h3 i)⟩

/-! ## The claims -/

/-- What both programs compute, as the reference writes it. -/
def result (c : Dev nD) : FVec Ideal S1024x32768 .bf16 :=
  Cert.FoxRef.outR (argV m c) (Cert.FoxRef.expd (Cert.FoxRef.logits (argQ m c) (argK m c) (argG m c)))

theorem algebraic : Cert.algebraic_KernelIdeal_ReferenceIdeal_pre_finite := by
  intro m g m' g' hp hm
  refine ⟨fun c => result m c, ?_, ?_⟩
  · refine (θ_run _ _ _).mono (fun r h c => ?_) (θ_run_and (Cert.FoxIdeal.run_main m g) (Cert.FoxIdeal.frame m g))
    obtain ⟨⟨h0, _⟩, h1, _⟩ := h
    refine ⟨((h0 c).1 3).trans ?_, h1 c⟩
    obtain ⟨f0, f1, f3⟩ := args_real _ _ _ _ (hp c)
    choose q0 e0 using f0
    choose q1 e1 using f1
    choose q3 e3 using f3
    have hq : ∀ b x H d, argQ m c (ix4 b x H d) = ((q0 (ix4 b x H d) : ℝ) : EReal) := fun b x H d => e0 _
    have hk : ∀ b x H d, argK m c (ix4 b x H d) = ((q1 (ix4 b x H d) : ℝ) : EReal) := fun b x H d => e1 _
    have hg : ∀ b H x, argG m c (ix3 b H x) = ((q3 (ix3 b H x) : ℝ) : EReal) := fun b H x => e3 _
    exact arr_real m c (fun b x H d => q0 (ix4 b x H d)) (fun b x H d => q1 (ix4 b x H d)) (fun b H x => q3 (ix3 b H x))
      hq hk hg _ fun R T => Cert.FoxRef.out_real _ _ _ _ _ _ _ hq hk hg R T
  · refine (θ_run _ _ _).mono (fun r h c => ?_) (Cert.ReferenceIdeal.Value.run m' g')
    obtain ⟨h0, h1⟩ := h c
    obtain ⟨e0, e1, e2, e3⟩ := hm c
    refine ⟨h0.trans ?_, h1⟩
    rw [Cert.FoxRef.res_eq, e0, e1, e2, e3]
    rfl

/-- The reference runs, changes no argument and holds no semaphore. -/
theorem quiescent_ref : Cert.quiescent_ReferenceIdeal := by
  intro m g _
  refine (θ_run _ _ _).mono (fun r h => ⟨fun c => (h c).2, ?_⟩) (Cert.ReferenceIdeal.Value.run m g)
  exact sem_eq_zero_of_no_sems rfl _

/-- The mask's name stands for minus infinity. -/
theorem preserves : Cert.preserves_Kernel_KernelIdeal := IdealRules.named_const.statement _ _ _ _ _ rfl

end Cert.FoxValue

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal.Run
public import proofs.«01_k».proof.Proof.Gen.MlpReferenceIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.Kernel.Loops
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Loops
public import proofs.«01_k».proof.Proof.Gen.ReferenceIdeal
public import proofs.«01_k».proof.Proof.Gen.ReferenceIdeal.Run
public import proofs.«01_k».proof.Proof.Gen.Pre_finite
public import proofs.«01_k».proof.Proof.Gen.MlpInner
public import proofs.«01_k».proof.Proof.Gen.MlpInner.Skeleton
public import proofs.«01_k».proof.Proof.Gen.MlpInner.Launch
public import proofs.«01_k».proof.Proof.Gen.MlpInner.Points
public import proofs.«01_k».proof.Proof.Gen.MlpInner.Frame
public import proofs.«01_k».proof.Proof.Gen.MlpInnerIdeal
public import proofs.«01_k».proof.Proof.Gen.MlpInnerIdeal.Skeleton
public import proofs.«01_k».proof.Proof.Gen.MlpInnerIdeal.Launch
public import proofs.«01_k».proof.Proof.Gen.MlpInnerIdeal.Points
public import proofs.«01_k».proof.Proof.Gen.MlpInnerIdeal.Frame
public import proofs.«01_k».proof.Proof.Gen.MlpInnerIdeal.Value
public import proofs.«01_k».proof.Proof.Gen.MlpInnerReferenceIdeal
public import proofs.«01_k».proof.Proof.Gen.MlpInnerReferenceIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryReferenceIdeal
public import proofs.«01_k».proof.Proof.Gen.QueryReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.MlpValue
public import proofs.«01_k».proof.Proof.MlpInnerValue
public import proofs.«01_k».proof.Proof.QueryValue
public import proofs.«01_k».proof.Proof.ProjectValue
public import proofs.«01_k».proof.Proof.FoxBits
public import proofs.«01_k».proof.Proof.FoxValue
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts, Cert.MlpInner.Gen.facts,
    Cert.MlpInnerIdeal.Gen.facts, Cert.MlpInnerReferenceIdeal.Gen.facts, Cert.Query.Gen.facts,
    Cert.QueryIdeal.Gen.facts, Cert.QueryReferenceIdeal.Gen.facts, Cert.Project.Gen.facts,
    Cert.ProjectIdeal.Gen.facts, Cert.ProjectReferenceIdeal.Gen.facts, Cert.Pre_finite.Gen.facts,
  fun m g _ => Cert.FoxBits.frame m g, fun m g _ => Cert.FoxIdeal.frame m g, fun m g _ => Cert.FoxIdeal.frame m g,
  Cert.FoxValue.quiescent_ref, fun m g _ => Cert.FoxValue.quiescent_ref m g trivial,
  fun m g _ => Cert.Mlp.Gen.frame m g, fun m g _ => Cert.MlpIdeal.Gen.frame m g, Cert.MlpValue.quiescent_ref,
    fun m g _ => Cert.MlpInner.Gen.frame m g, fun m g _ => Cert.MlpInnerIdeal.Gen.frame m g, Cert.MlpInnerValue.quiescent_ref,
    fun m g _ => Cert.Query.Gen.frame m g, fun m g _ => Cert.QueryIdeal.Gen.frame m g, Cert.QueryValue.quiescent_ref,
    fun m g _ => Cert.Project.Gen.frame m g, fun m g _ => Cert.ProjectIdeal.Gen.frame m g, Cert.ProjectValue.quiescent_ref,
  Cert.FoxValue.preserves, Cert.FoxValue.algebraic, trivial, Cert.MlpValue.algebraic, trivial, Cert.MlpInnerValue.algebraic,
    trivial, Cert.QueryValue.algebraic, trivial, Cert.ProjectValue.algebraic⟩

end Cert.Proof

end
